-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal_on_weights [hKernelIdeal : Cert.KernelIdeal.Facts] [hReferenceIdeal : Cert.ReferenceIdeal.Facts] [hOn_weights : Cert.On_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8192, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v16_0) i = v0 c i)
          ∧ (∀ i : (⟨2, ![1024, 5632]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v16_1) i = v1 c i)
          ∧ (∀ i : (⟨2, ![2816, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v16_2) i = v2 c i)
          ∧ (∀ i : (⟨2, ![1024, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v16_3) i = v3 c i)
          ∧ (∀ i : (⟨2, ![256, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 i = 1#1 → r.2.mem ((c.tc : Thread Cert.KernelIdeal.nD Cert.KernelIdeal.τ).loc Cert.KernelIdeal.main_v16_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8192, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v107) i = v0 c i)
          ∧ (∀ i : (⟨2, ![1024, 5632]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v110) i = v1 c i)
          ∧ (∀ i : (⟨2, ![2816, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v113) i = v2 c i)
          ∧ (∀ i : (⟨2, ![1024, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v116) i = v3 c i)
          ∧ (∀ i : (⟨2, ![256, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 i = 1#1 → r.2.mem ((c.tc : Thread Cert.ReferenceIdeal.nD Cert.ReferenceIdeal.τ).loc Cert.ReferenceIdeal.main_v119) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v73) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_on_weights [hKernel5Ideal : Cert.Kernel5Ideal.Facts] [hReference5Ideal : Cert.Reference5Ideal.Facts] [hOn_weights : Cert.On_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)) (v3 : (c : Dev Cert.Kernel5Ideal.nD) → Buf (Elt Ideal) ((c.tc : Thread Cert.Kernel5Ideal.nD Cert.Kernel5Ideal.τ).loc Cert.Kernel5Ideal.main_v16_3)) (v4 : (c : Dev Cert.Kernel5Ideal.nD) → Buf (Elt Ideal) ((c.tc : Thread Cert.Kernel5Ideal.nD Cert.Kernel5Ideal.τ).loc Cert.Kernel5Ideal.main_v16_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨3, ![4, 8192, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).1 i = 1#1 → r.2.mem ((c.tc : Thread Cert.Kernel5Ideal.nD Cert.Kernel5Ideal.τ).loc Cert.Kernel5Ideal.main_v16_0) i = v0 c i)
          ∧ (∀ i : (⟨2, ![1024, 5632]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.1 i = 1#1 → r.2.mem ((c.tc : Thread Cert.Kernel5Ideal.nD Cert.Kernel5Ideal.τ).loc Cert.Kernel5Ideal.main_v16_1) i = v1 c i)
          ∧ (∀ i : (⟨2, ![2816, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.1 i = 1#1 → r.2.mem ((c.tc : Thread Cert.Kernel5Ideal.nD Cert.Kernel5Ideal.τ).loc Cert.Kernel5Ideal.main_v16_2) i = v2 c i)
          ∧ (∀ i : (⟨2, ![1024, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.1 i = 1#1 → r.2.mem ((c.tc : Thread Cert.Kernel5Ideal.nD Cert.Kernel5Ideal.τ).loc Cert.Kernel5Ideal.main_v16_3) i = v3 c i)
          ∧ (∀ i : (⟨2, ![256, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.2 i = 1#1 → r.2.mem ((c.tc : Thread Cert.Kernel5Ideal.nD Cert.Kernel5Ideal.τ).loc Cert.Kernel5Ideal.main_v16_4) i = v4 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨3, ![4, 8192, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).1 i = 1#1 → r.2.mem ((c.tc : Thread Cert.Reference5Ideal.nD Cert.Reference5Ideal.τ).loc Cert.Reference5Ideal.main_v107) i = v0 c i)
          ∧ (∀ i : (⟨2, ![1024, 5632]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.1 i = 1#1 → r.2.mem ((c.tc : Thread Cert.Reference5Ideal.nD Cert.Reference5Ideal.τ).loc Cert.Reference5Ideal.main_v110) i = v1 c i)
          ∧ (∀ i : (⟨2, ![2816, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.1 i = 1#1 → r.2.mem ((c.tc : Thread Cert.Reference5Ideal.nD Cert.Reference5Ideal.τ).loc Cert.Reference5Ideal.main_v113) i = v2 c i)
          ∧ (∀ i : (⟨2, ![1024, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.1 i = 1#1 → r.2.mem ((c.tc : Thread Cert.Reference5Ideal.nD Cert.Reference5Ideal.τ).loc Cert.Reference5Ideal.main_v116) i = v3 c i)
          ∧ (∀ i : (⟨2, ![256, 1024]⟩ : Shape).Idx, (Cert.On_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.2 i = 1#1 → r.2.mem ((c.tc : Thread Cert.Reference5Ideal.nD Cert.Reference5Ideal.τ).loc Cert.Reference5Ideal.main_v119) i = v4 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hOn_weights : Cert.On_weights.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_on_weights (hKernelIdeal := hKernelIdeal) (hReferenceIdeal := hReferenceIdeal) (hOn_weights := hOn_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_weights (hKernel5Ideal := hKernel5Ideal) (hReference5Ideal := hReference5Ideal) (hOn_weights := hOn_weights)
-- ==== On_weights.lean ====
abbrev S4x8192x1024 : Shape := ⟨3, ![4, 8192, 1024]⟩
abbrev S2x1024 : Shape := ⟨2, ![2, 1024]⟩
abbrev S2x1024x3088 : Shape := ⟨3, ![2, 1024, 3088]⟩
abbrev S2x16x256 : Shape := ⟨3, ![2, 16, 256]⟩
abbrev S2x256 : Shape := ⟨2, ![2, 256]⟩
abbrev S2x3x512 : Shape := ⟨3, ![2, 3, 512]⟩
abbrev S2x128 : Shape := ⟨2, ![2, 128]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S_ : Shape := ⟨0, ![]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩

class Facts : Prop where
  bcast_S_S4x8192x1024 : S_.BroadcastsInDim S4x8192x1024 (![] : Fin 0 → Fin S4x8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn {F : FTy → Type} [FloatOps F] (main_arg0 : FVec F S4x8192x1024 .f32) (main_arg1 : FVec F S2x1024 .f32) (main_arg2 : FVec F S2x1024x3088 .f32) (main_arg3 : FVec F S2x16x256 .f32) (main_arg4 : FVec F S2x256 .f32) (main_arg5 : FVec F S2x3x512 .f32) (main_arg6 : FVec F S2x128 .f32) (main_arg7 : FVec F S2x1024x1024 .f32) (main_arg8 : FVec F S2x1024x5632 .f32) (main_arg9 : FVec F S2x2816x1024 .f32) (main_arg10 : FVec F S2x1024x1024 .f32) (main_arg11 : FVec F S2x256x1024 .f32) : IVec S4x8192x1024 1 × IVec S1024x5632 1 × IVec S2816x1024 1 × IVec S1024x1024 1 × IVec S256x1024 1 :=
  let main_c : IVec S_ 1 := constantI S_ 1 0#1
  let main_v0 : IVec S4x8192x1024 1 := broadcastInDim S4x8192x1024 ![] bcast_S_S4x8192x1024 main_c
  let main_c_0 : IVec S_ 1 := constantI S_ 1 1#1
  let main_v1 : IVec S1024x5632 1 := broadcastInDim S1024x5632 ![] bcast_S_S1024x5632 main_c_0
  let main_c_1 : IVec S_ 1 := constantI S_ 1 1#1
  let main_v2 : IVec S2816x1024 1 := broadcastInDim S2816x1024 ![] bcast_S_S2816x1024 main_c_1
  let main_c_2 : IVec S_ 1 := constantI S_ 1 1#1
  let main_v3 : IVec S1024x1024 1 := broadcastInDim S1024x1024 ![] bcast_S_S1024x1024 main_c_2
  let main_c_3 : IVec S_ 1 := constantI S_ 1 1#1
  let main_v4 : IVec S256x1024 1 := broadcastInDim S256x1024 ![] bcast_S_S256x1024 main_c_3
  (main_v0, main_v1, main_v2, main_v3, main_v4)
-- ==== Kernel.lean ====
abbrev S4x8192x1024 : Shape := ⟨3, ![4, 8192, 1024]⟩
abbrev S2x1024 : Shape := ⟨2, ![2, 1024]⟩
abbrev S2x1024x3088 : Shape := ⟨3, ![2, 1024, 3088]⟩
abbrev S2x16x256 : Shape := ⟨3, ![2, 16, 256]⟩
abbrev S2x256 : Shape := ⟨2, ![2, 256]⟩
abbrev S2x3x512 : Shape := ⟨3, ![2, 3, 512]⟩
abbrev S2x128 : Shape := ⟨2, ![2, 128]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1x1024x3088 : Shape := ⟨3, ![1, 1024, 3088]⟩
abbrev S1024x3088 : Shape := ⟨2, ![1024, 3088]⟩
abbrev S1024x1536 : Shape := ⟨2, ![1024, 1536]⟩
abbrev S1024x16 : Shape := ⟨2, ![1024, 16]⟩
abbrev S_ : Shape := ⟨0, ![]⟩
abbrev S1024x3200 : Shape := ⟨2, ![1024, 3200]⟩
abbrev S1x1024x1024 : Shape := ⟨3, ![1, 1024, 1024]⟩
abbrev S1024x1024 : Shape := ⟨2, ![1024, 1024]⟩
abbrev S2x128x256 : Shape := ⟨3, ![2, 128, 256]⟩
abbrev S2x1x1024 : Shape := ⟨3, ![2, 1, 1024]⟩
abbrev S2x1x256 : Shape := ⟨3, ![2, 1, 256]⟩
abbrev S2x1x128 : Shape := ⟨3, ![2, 1, 128]⟩
abbrev S1024x5632 : Shape := ⟨2, ![1024, 5632]⟩
abbrev S2816x1024 : Shape := ⟨2, ![2816, 1024]⟩
abbrev S256x1024 : Shape := ⟨2, ![256, 1024]⟩
abbrev S1x1x1024 : Shape := ⟨3, ![1, 1, 1024]⟩
abbrev S1x128x256 : Shape := ⟨3, ![1, 128, 256]⟩
abbrev S1x1x256 : Shape := ⟨3, ![1, 1, 256]⟩
abbrev S1x3x512 : Shape := ⟨3, ![1, 3, 512]⟩
abbrev S1x1x128 : Shape := ⟨3, ![1, 1, 128]⟩
abbrev S1x32x5632 : Shape := ⟨3, ![1, 32, 5632]⟩
abbrev S1x176x1024 : Shape := ⟨3, ![1, 176, 1024]⟩
abbrev S1x32x1024 : Shape := ⟨3, ![1, 32, 1024]⟩
abbrev S1x16x1024 : Shape := ⟨3, ![1, 16, 1024]⟩
abbrev S32x5632 : Shape := ⟨2, ![32, 5632]⟩
abbrev S176x1024 : Shape := ⟨2, ![176, 1024]⟩
abbrev S32x1024 : Shape := ⟨2, ![32, 1024]⟩
abbrev S16x1024 : Shape := ⟨2, ![16, 1024]⟩
abbrev S4x64x128 : Shape := ⟨3, ![4, 64, 128]⟩
abbrev S1032x512 : Shape := ⟨2, ![1032, 512]⟩
abbrev S1024x256 : Shape := ⟨2, ![1024, 256]⟩
abbrev S1024x512 : Shape := ⟨2, ![1024, 512]⟩
abbrev S4x4x64x128 : Shape := ⟨4, ![4, 4, 64, 128]⟩
abbrev S256x512 : Shape := ⟨2, ![256, 512]⟩
abbrev S8x512 : Shape := ⟨2, ![8, 512]⟩
abbrev S256x256 : Shape := ⟨2, ![256, 256]⟩
abbrev S64x64 : Shape := ⟨2, ![64, 64]⟩
abbrev S1x512x1024 : Shape := ⟨3, ![1, 512, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x128 : Shape := ⟨2, ![1024, 128]⟩
abbrev S512x128 : Shape := ⟨2, ![512, 128]⟩
abbrev S512x256 : Shape := ⟨2, ![512, 256]⟩
abbrev S128x256 : Shape := ⟨2, ![128, 256]⟩
abbrev S1x256 : Shape := ⟨2, ![1, 256]⟩
abbrev S512x512 : Shape := ⟨2, ![512, 512]⟩
abbrev S520x512 : Shape := ⟨2, ![520, 512]⟩
abbrev S1x1x512 : Shape := ⟨3, ![1, 1, 512]⟩
abbrev S1x512 : Shape := ⟨2, ![1, 512]⟩
abbrev S256x64 : Shape := ⟨2, ![256, 64]⟩
abbrev S1x64x128 : Shape := ⟨3, ![1, 64, 128]⟩
abbrev S64x128 : Shape := ⟨2, ![64, 128]⟩
abbrev S1x1x64x128 : Shape := ⟨4, ![1, 1, 64, 128]⟩
abbrev S256x128 : Shape := ⟨2, ![256, 128]⟩
abbrev S1x64 : Shape := ⟨2, ![1, 64]⟩
abbrev S64 : Shape := ⟨1, ![64]⟩
abbrev S64x1 : Shape := ⟨2, ![64, 1]⟩
abbrev S1x128 : Shape := ⟨2, ![1, 128]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 37
  | .vmem => 37
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x3088, .f32⟩
  | .hbm, ⟨3, _⟩ => ⟨S2x16x256, .f32⟩
  | .hbm, ⟨4, _⟩ => ⟨S2x256, .f32⟩
  | .hbm, ⟨5, _⟩ => ⟨S2x3x512, .f32⟩
  | .hbm, ⟨6, _⟩ => ⟨S2x128, .f32⟩
  | .hbm, ⟨7, _⟩ => ⟨S2x1024x1024, .f32⟩
  | .hbm, ⟨8, _⟩ => ⟨S2x1024x5632, .f32⟩
  | .hbm, ⟨9, _⟩ => ⟨S2x2816x1024, .f32⟩
  | .hbm, ⟨10, _⟩ => ⟨S2x1024x1024, .f32⟩
  | .hbm, ⟨11, _⟩ => ⟨S2x256x1024, .f32⟩
  | .hbm, ⟨12, _⟩ => ⟨S1x1024x3088, .f32⟩
  | .hbm, ⟨13, _⟩ => ⟨S1024x3088, .f32⟩
  | .hbm, ⟨14, _⟩ => ⟨S1024x1536, .f32⟩
  | .hbm, ⟨15, _⟩ => ⟨S1024x1536, .f32⟩
  | .hbm, ⟨16, _⟩ => ⟨S1024x16, .f32⟩
  | .hbm, ⟨17, _⟩ => ⟨S1024x3088, .f32⟩
  | .hbm, ⟨18, _⟩ => ⟨S_, .i32⟩
  | .hbm, ⟨19, _⟩ => ⟨S_, .f32⟩
  | .hbm, ⟨20, _⟩ => ⟨S1024x3200, .f32⟩
  | .hbm, ⟨21, _⟩ => ⟨S1024x3200, .bf16⟩
  | .hbm, ⟨22, _⟩ => ⟨S1x1024x1024, .f32⟩
  | .hbm, ⟨23, _⟩ => ⟨S1024x1024, .f32⟩
  | .hbm, ⟨24, _⟩ => ⟨S1024x1024, .bf16⟩
  | .hbm, ⟨25, _⟩ => ⟨S2x16x256, .bf16⟩
  | .hbm, ⟨26, _⟩ => ⟨S_, .i32⟩
  | .hbm, ⟨27, _⟩ => ⟨S_, .bf16⟩
  | .hbm, ⟨28, _⟩ => ⟨S2x128x256, .bf16⟩
  | .hbm, ⟨29, _⟩ => ⟨S2x1x1024, .f32⟩
  | .hbm, ⟨30, _⟩ => ⟨S2x1x256, .f32⟩
  | .hbm, ⟨31, _⟩ => ⟨S2x1x128, .f32⟩
  | .hbm, ⟨32, _⟩ => ⟨S4x8192x1024, .f32⟩
  | .hbm, ⟨33, _⟩ => ⟨S1024x5632, .bf16⟩
  | .hbm, ⟨34, _⟩ => ⟨S2816x1024, .bf16⟩
  | .hbm, ⟨35, _⟩ => ⟨S1024x1024, .bf16⟩
  | .hbm, ⟨36, _⟩ => ⟨S256x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1024x3200, .bf16⟩
  | .local _ .vmem, ⟨4, _⟩ => ⟨S1x128x256, .bf16⟩
  | .local _ .vmem, ⟨5, _⟩ => ⟨S1x1x256, .f32⟩
  | .local _ .vmem, ⟨6, _⟩ => ⟨S1x3x512, .f32⟩
  | .local _ .vmem, ⟨7, _⟩ => ⟨S1x1x128, .f32⟩
  | .local _ .vmem, ⟨8, _⟩ => ⟨S1024x1024, .bf16⟩
  | .local _ .vmem, ⟨9, _⟩ => ⟨S1x32x5632, .f32⟩
  | .local _ .vmem, ⟨10, _⟩ => ⟨S1x32x5632, .f32⟩
  | .local _ .vmem, ⟨11, _⟩ => ⟨S1x176x1024, .f32⟩
  | .local _ .vmem, ⟨12, _⟩ => ⟨S1x176x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S32x5632, .bf16⟩
  | .local _ .vmem, ⟨20, _⟩ => ⟨S32x5632, .bf16⟩
  | .local _ .vmem, ⟨21, _⟩ => ⟨S176x1024, .bf16⟩
  | .local _ .vmem, ⟨22, _⟩ => ⟨S176x1024, .bf16⟩
  | .local _ .vmem, ⟨23, _⟩ => ⟨S32x1024, .bf16⟩
  | .local _ .vmem, ⟨24, _⟩ => ⟨S32x1024, .bf16⟩
  | .local _ .vmem, ⟨25, _⟩ => ⟨S16x1024, .bf16⟩
  | .local _ .vmem, ⟨26, _⟩ => ⟨S16x1024, .bf16⟩
  | .local _ .vmem, ⟨27, _⟩ => ⟨S4x64x128, .f32⟩
  | .local _ .vmem, ⟨28, _⟩ => ⟨S1032x512, .f32⟩
  | .local _ .vmem, ⟨29, _⟩ => ⟨S1024x1024, .bf16⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x512, .f32⟩
  | .local _ .vmem, ⟨34, _⟩ => ⟨S1024x512, .f32⟩
  | .local _ .vmem, ⟨35, _⟩ => ⟨S4x4x64x128, .f32⟩
  | .local _ .vmem, ⟨36, _⟩ => ⟨S256x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_686 : BitVec 32 := 0#32
  let c256_i32 : BitVec 32 := 256#32
  let v1412 : BitVec 32 := Scalar.addi c0_i32_686 c256_i32
  let c1_i32_687 : BitVec 32 := 1#32
  ⟨c0_i32_686, v1412, c1_i32_687⟩
def k0_off1 (k0_t1 : Fin k0_t1_loop.trips) : Fin 2 → Nat :=
  let c0_i32_1062 : BitVec 32 := 0#32
  let c0_i32_686 : BitVec 32 := 0#32
  let c1_i32_687 : BitVec 32 := 1#32
  let arg29 : BitVec 32 := Scf.iv c0_i32_686 c1_i32_687 k0_t1
  let v1952 : BitVec 32 := Scalar.addi c0_i32_1062 arg29
  let v1953 : Index := Scalar.indexCast v1952
  let c0_1063 : Index := 0#32
  ![v1953.toNat, 0]
def k0_off2 (k0_t1 : Fin k0_t1_loop.trips) : Fin 2 → Nat :=
  let c0_i32_1066 : BitVec 32 := 0#32
  let c0_i32_686 : BitVec 32 := 0#32
  let c1_i32_687 : BitVec 32 := 1#32
  let arg29 : BitVec 32 := Scf.iv c0_i32_686 c1_i32_687 k0_t1
  let v1958 : BitVec 32 := Scalar.addi c0_i32_1066 arg29
  let v1959 : Index := Scalar.indexCast v1958
  let c0_1067 : Index := 0#32
  ![v1959.toNat, 0]
@[reducible] def k0_t2_loop : Scf.Loop 32 :=
  let c0_i32_764 : BitVec 32 := 0#32
  let c256_i32_765 : BitVec 32 := 256#32
  let v1533 : BitVec 32 := Scalar.addi c0_i32_764 c256_i32_765
  let c1_i32_766 : BitVec 32 := 1#32
  ⟨c0_i32_764, v1533, c1_i32_766⟩
def k0_off3 (k0_t2 : Fin k0_t2_loop.trips) : Fin 2 → Nat :=
  let c256_i32_1062 : BitVec 32 := 256#32
  let c0_i32_764 : BitVec 32 := 0#32
  let c1_i32_766 : BitVec 32 := 1#32
  let arg29 : BitVec 32 := Scf.iv c0_i32_764 c1_i32_766 k0_t2
  let v1952 : BitVec 32 := Scalar.addi c256_i32_1062 arg29
  let v1953 : Index := Scalar.indexCast v1952
  let c0_1063 : Index := 0#32
  ![v1953.toNat, 0]
def k0_off4 (k0_t2 : Fin k0_t2_loop.trips) : Fin 2 → Nat :=
  let c256_i32_1066 : BitVec 32 := 256#32
  let c0_i32_764 : BitVec 32 := 0#32
  let c1_i32_766 : BitVec 32 := 1#32
  let arg29 : BitVec 32 := Scf.iv c0_i32_764 c1_i32_766 k0_t2
  let v1958 : BitVec 32 := Scalar.addi c256_i32_1066 arg29
  let v1959 : Index := Scalar.indexCast v1958
  let c0_1067 : Index := 0#32
  ![v1959.toNat, 0]
@[reducible] def k0_t3_loop : Scf.Loop 32 :=
  let c0_i32_843 : BitVec 32 := 0#32
  let c256_i32_844 : BitVec 32 := 256#32
  let v1654 : BitVec 32 := Scalar.addi c0_i32_843 c256_i32_844
  let c1_i32_845 : BitVec 32 := 1#32
  ⟨c0_i32_843, v1654, c1_i32_845⟩
def k0_off5 (k0_t3 : Fin k0_t3_loop.trips) : Fin 2 → Nat :=
  let c512_i32 : BitVec 32 := 512#32
  let c0_i32_843 : BitVec 32 := 0#32
  let c1_i32_845 : BitVec 32 := 1#32
  let arg29 : BitVec 32 := Scf.iv c0_i32_843 c1_i32_845 k0_t3
  let v1952 : BitVec 32 := Scalar.addi c512_i32 arg29
  let v1953 : Index := Scalar.indexCast v1952
  let c0_1062 : Index := 0#32
  ![v1953.toNat, 0]
def k0_off6 (k0_t3 : Fin k0_t3_loop.trips) : Fin 2 → Nat :=
  let c512_i32_1065 : BitVec 32 := 512#32
  let c0_i32_843 : BitVec 32 := 0#32
  let c1_i32_845 : BitVec 32 := 1#32
  let arg29 : BitVec 32 := Scf.iv c0_i32_843 c1_i32_845 k0_t3
  let v1958 : BitVec 32 := Scalar.addi c512_i32_1065 arg29
  let v1959 : Index := Scalar.indexCast v1958
  let c0_1066 : Index := 0#32
  ![v1959.toNat, 0]
@[reducible] def k0_t4_loop : Scf.Loop 32 :=
  let c0_i32_922 : BitVec 32 := 0#32
  let c256_i32_923 : BitVec 32 := 256#32
  let v1775 : BitVec 32 := Scalar.addi c0_i32_922 c256_i32_923
  let c1_i32_924 : BitVec 32 := 1#32
  ⟨c0_i32_922, v1775, c1_i32_924⟩
def k0_off7 (k0_t4 : Fin k0_t4_loop.trips) : Fin 2 → Nat :=
  let c768_i32 : BitVec 32 := 768#32
  let c0_i32_922 : BitVec 32 := 0#32
  let c1_i32_924 : BitVec 32 := 1#32
  let arg29 : BitVec 32 := Scf.iv c0_i32_922 c1_i32_924 k0_t4
  let v1952 : BitVec 32 := Scalar.addi c768_i32 arg29
  let v1953 : Index := Scalar.indexCast v1952
  let c0_1062 : Index := 0#32
  ![v1953.toNat, 0]
def k0_off8 (k0_t4 : Fin k0_t4_loop.trips) : Fin 2 → Nat :=
  let c768_i32_1065 : BitVec 32 := 768#32
  let c0_i32_922 : BitVec 32 := 0#32
  let c1_i32_924 : BitVec 32 := 1#32
  let arg29 : BitVec 32 := Scf.iv c0_i32_922 c1_i32_924 k0_t4
  let v1958 : BitVec 32 := Scalar.addi c768_i32_1065 arg29
  let v1959 : Index := Scalar.indexCast v1958
  let c0_1066 : Index := 0#32
  ![v1959.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let c0_i32_5 : BitVec 32 := 0#32
  let c0_i32_6 : BitVec 32 := 0#32
  ![c1_i32_4.toNat, v18.toNat, c0_i32_5.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let c0_i32_5 : BitVec 32 := 0#32
  let c0_i32_6 : BitVec 32 := 0#32
  ![c1_i32_4.toNat, v18.toNat, c0_i32_5.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S4x8192x1024 : Shape := ⟨3, ![4, 8192, 1024]⟩
abbrev S2x1024 : Shape := ⟨2, ![2, 1024]⟩
abbrev S2x1024x3088 : Shape := ⟨3, ![2, 1024, 3088]⟩
abbrev S2x16x256 : Shape := ⟨3, ![2, 16, 256]⟩
abbrev S2x256 : Shape := ⟨2, ![2, 256]⟩
abbrev S2x3x512 : Shape := ⟨3, ![2, 3, 512]⟩
abbrev S2x128 : Shape := ⟨2, ![2, 128]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x3088 : Shape := ⟨3, ![1, 1024, 3088]⟩
abbrev S1024x3088 : Shape := ⟨2, ![1024, 3088]⟩
abbrev S4x8192x3088 : Shape := ⟨3, ![4, 8192, 3088]⟩
abbrev S4x8192x256 : Shape := ⟨3, ![4, 8192, 256]⟩
abbrev S4x8192x512 : Shape := ⟨3, ![4, 8192, 512]⟩
abbrev S4x8192x16 : Shape := ⟨3, ![4, 8192, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩
abbrev S4x8192x4x64 : Shape := ⟨4, ![4, 8192, 4, 64]⟩
abbrev S4x8192x4x128 : Shape := ⟨4, ![4, 8192, 4, 128]⟩
abbrev S64x64 : Shape := ⟨2, ![64, 64]⟩
abbrev S64x64x1 : Shape := ⟨3, ![64, 64, 1]⟩
abbrev S4x4x64x128 : Shape := ⟨4, ![4, 4, 64, 128]⟩
abbrev S4x128x64x4x64 : Shape := ⟨5, ![4, 128, 64, 4, 64]⟩
abbrev S128x4x4x64x64 : Shape := ⟨5, ![128, 4, 4, 64, 64]⟩
abbrev S4x128x64x4x128 : Shape := ⟨5, ![4, 128, 64, 4, 128]⟩
abbrev S128x4x4x64x128 : Shape := ⟨5, ![128, 4, 4, 64, 128]⟩
abbrev S1x4x4x64x64 : Shape := ⟨5, ![1, 4, 4, 64, 64]⟩
abbrev S4x4x64x64 : Shape := ⟨4, ![4, 4, 64, 64]⟩
abbrev S1x4x4x64x128 : Shape := ⟨5, ![1, 4, 4, 64, 128]⟩
abbrev S4x4x64x1x64 : Shape := ⟨5, ![4, 4, 64, 1, 64]⟩
abbrev S4x4x1x64x64 : Shape := ⟨5, ![4, 4, 1, 64, 64]⟩
abbrev S4x4x64x64x64 : Shape := ⟨5, ![4, 4, 64, 64, 64]⟩
abbrev S4x4x1x64 : Shape := ⟨4, ![4, 4, 1, 64]⟩
abbrev S4x4x64 : Shape := ⟨3, ![4, 4, 64]⟩
abbrev S4x4x64x1 : Shape := ⟨4, ![4, 4, 64, 1]⟩
abbrev S1x128 : Shape := ⟨2, ![1, 128]⟩
abbrev S128 : Shape := ⟨1, ![128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x8194x512 : Shape := ⟨3, ![4, 8194, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S256x1024 : Shape := ⟨2, ![256, 1024]⟩

abbrev nBuf : Space → Nat
  | .hbm => 263
  | .vmem => 0
  | .smem => 0
  | _ => 0

abbrev hbmTy0_0 (i : Nat) : BufTy := match i % 128 with
  | 0 => ⟨S4x8192x1024, .f32⟩
  | 1 => ⟨S2x1024, .f32⟩
  | 2 => ⟨S2x1024x3088, .f32⟩
  | 3 => ⟨S2x16x256, .f32⟩
  | 4 => ⟨S2x256, .f32⟩
  | 5 => ⟨S2x3x512, .f32⟩
  | 6 => ⟨S2x128, .f32⟩
  | 7 => ⟨S2x1024x1024, .f32⟩
  | 8 => ⟨S2x1024x5632, .f32⟩
  | 9 => ⟨S2x2816x1024, .f32⟩
  | 10 => ⟨S2x1024x1024, .f32⟩
  | 11 => ⟨S2x256x1024, .f32⟩
  | 12 => ⟨S1x1024, .f32⟩
  | 13 => ⟨S1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S1x1024x3088, .f32⟩
  | 31 => ⟨S1024x3088, .f32⟩
  | 32 => ⟨S4x8192x3088, .f32⟩
  | 33 => ⟨S4x8192x256, .f32⟩
  | 34 => ⟨S4x8192x256, .f32⟩
  | 35 => ⟨S4x8192x512, .f32⟩
  | 36 => ⟨S4x8192x512, .f32⟩
  | 37 => ⟨S4x8192x16, .f32⟩
  | 38 => ⟨S4x8192x512, .f32⟩
  | 39 => ⟨S4x8192x512, .f32⟩
  | 40 => ⟨S4x8192x512, .f32⟩
  | 41 => ⟨S1x16x256, .f32⟩
  | 42 => ⟨S16x256, .f32⟩
  | 43 => ⟨S4x8192x256, .f32⟩
  | 44 => ⟨S1x256, .f32⟩
  | 45 => ⟨S256, .f32⟩
  | 46 => ⟨S1x1x256, .f32⟩
  | 47 => ⟨S4x8192x256, .f32⟩
  | 48 => ⟨S4x8192x256, .f32⟩
  | 49 => ⟨S4x8192x256, .f32⟩
  | 50 => ⟨S_, .f32⟩
  | 51 => ⟨S4x8192x256, .f32⟩
  | 52 => ⟨S4x8192x256, .f32⟩
  | 53 => ⟨S4x8192x256, .f32⟩
  | 54 => ⟨S4x8192x256, .f32⟩
  | 55 => ⟨S4x8192x256, .i1⟩
  | 56 => ⟨S4x8192x256, .f32⟩
  | 57 => ⟨S4x8192x256, .f32⟩
  | 58 => ⟨S4x8192x256, .f32⟩
  | 59 => ⟨S4x8192x256, .f32⟩
  | 60 => ⟨S4x8192x256, .f32⟩
  | 61 => ⟨S4x8192x256, .f32⟩
  | 62 => ⟨S4x8192x256, .f32⟩
  | 63 => ⟨S4x8192x256, .f32⟩
  | 64 => ⟨S4x8192x256, .f32⟩
  | 65 => ⟨S_, .f32⟩
  | 66 => ⟨S4x8192x256, .f32⟩
  | 67 => ⟨S4x8192x256, .f32⟩
  | 68 => ⟨S4x8192x4x64, .f32⟩
  | 69 => ⟨S_, .f32⟩
  | 70 => ⟨S4x8192x4x64, .f32⟩
  | 71 => ⟨S4x8192x4x64, .f32⟩
  | 72 => ⟨S4x8192x4x64, .f32⟩
  | 73 => ⟨S4x8192x4x128, .f32⟩
  | 74 => ⟨S4x8192x4x64, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S64x64x1, .i1⟩
  | 87 => ⟨S_, .f32⟩
  | 88 => ⟨S4x4x64x128, .f32⟩
  | 89 => ⟨S4x128x64x4x64, .f32⟩
  | 90 => ⟨S128x4x4x64x64, .f32⟩
  | 91 => ⟨S4x128x64x4x64, .f32⟩
  | 92 => ⟨S128x4x4x64x64, .f32⟩
  | 93 => ⟨S4x128x64x4x128, .f32⟩
  | 94 => ⟨S128x4x4x64x128, .f32⟩
  | 95 => ⟨S4x128x64x4x64, .f32⟩
  | 96 => ⟨S128x4x4x64x64, .f32⟩
  | 97 => ⟨S_, .f32⟩
  | 98 => ⟨S128x4x4x64x128, .f32⟩
  | 99 => ⟨S_, .i32⟩
  | 100 => ⟨S128x4x4x64x64, .f32⟩
  | 101 => ⟨S128x4x4x64x64, .f32⟩
  | 102 => ⟨S128x4x4x64x128, .f32⟩
  | 103 => ⟨S128x4x4x64x64, .f32⟩
  | 104 => ⟨S64x64x1, .i1⟩
  | 105 => ⟨S_, .i32⟩
  | 106 => ⟨S4x4x64x128, .f32⟩
  | 107 => ⟨S128x4x4x64x128, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S1x4x4x64x64, .f32⟩
  | 115 => ⟨S4x4x64x64, .f32⟩
  | 116 => ⟨S_, .i32⟩
  | 117 => ⟨S_, .i32⟩
  | 118 => ⟨S_, .i32⟩
  | 119 => ⟨S_, .i32⟩
  | 120 => ⟨S1x4x4x64x64, .f32⟩
  | 121 => ⟨S4x4x64x64, .f32⟩
  | 122 => ⟨S_, .i32⟩
  | 123 => ⟨S_, .i32⟩
  | 124 => ⟨S_, .i32⟩
  | 125 => ⟨S_, .i32⟩
  | 126 => ⟨S1x4x4x64x128, .f32⟩
  | 127 => ⟨S4x4x64x128, .f32⟩
  | _ => ⟨S4x8192x1024, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x4x4x64x64, .f32⟩
  | 5 => ⟨S4x4x64x64, .f32⟩
  | 6 => ⟨S_, .f32⟩
  | 7 => ⟨S_, .f32⟩
  | 8 => ⟨S4x4x64x64, .f32⟩
  | 9 => ⟨S4x4x64x1x64, .f32⟩
  | 10 => ⟨S4x4x1x64x64, .f32⟩
  | 11 => ⟨S4x4x64x64x64, .f32⟩
  | 12 => ⟨S4x4x64x64x64, .f32⟩
  | 13 => ⟨S4x4x64x64x64, .f32⟩
  | 14 => ⟨S_, .f32⟩
  | 15 => ⟨S_, .f32⟩
  | 16 => ⟨S4x4x64x64x64, .i1⟩
  | 17 => ⟨S4x4x64x64x64, .f32⟩
  | 18 => ⟨S4x4x64x64x64, .f32⟩
  | 19 => ⟨S4x4x64x64x64, .f32⟩
  | 20 => ⟨S_, .f32⟩
  | 21 => ⟨S_, .f32⟩
  | 22 => ⟨S4x4x64x64x64, .i1⟩
  | 23 => ⟨S4x4x64x64x64, .f32⟩
  | 24 => ⟨S4x4x64x64x64, .f32⟩
  | 25 => ⟨S4x4x64x1x64, .f32⟩
  | 26 => ⟨S4x4x1x64x64, .f32⟩
  | 27 => ⟨S4x4x64x64x64, .f32⟩
  | 28 => ⟨S4x4x64x64x64, .f32⟩
  | 29 => ⟨S4x4x64x64x64, .f32⟩
  | 30 => ⟨S4x4x64x64x64, .f32⟩
  | 31 => ⟨S_, .f32⟩
  | 32 => ⟨S4x4x64x64, .f32⟩
  | 33 => ⟨S4x4x64x128, .f32⟩
  | 34 => ⟨S4x4x64x64, .f32⟩
  | 35 => ⟨S4x4x64x64, .f32⟩
  | 36 => ⟨S4x4x64x128, .f32⟩
  | 37 => ⟨S4x4x1x64, .f32⟩
  | 38 => ⟨S4x4x64, .f32⟩
  | 39 => ⟨S4x4x1x64, .f32⟩
  | 40 => ⟨S4x4x64x64, .f32⟩
  | 41 => ⟨S4x4x64x64, .f32⟩
  | 42 => ⟨S4x4x64x64, .f32⟩
  | 43 => ⟨S4x4x64x64, .f32⟩
  | 44 => ⟨S4x4x64, .f32⟩
  | 45 => ⟨S4x4x64x1, .f32⟩
  | 46 => ⟨S4x4x64x128, .f32⟩
  | 47 => ⟨S4x4x64x128, .f32⟩
  | 48 => ⟨S4x4x64x128, .f32⟩
  | 49 => ⟨S4x4x64x128, .f32⟩
  | 50 => ⟨S4x4x64x128, .f32⟩
  | 51 => ⟨S1x4x4x64x128, .f32⟩
  | 52 => ⟨S_, .i32⟩
  | 53 => ⟨S_, .i32⟩
  | 54 => ⟨S_, .i32⟩
  | 55 => ⟨S_, .i32⟩
  | 56 => ⟨S128x4x4x64x128, .f32⟩
  | 57 => ⟨S_, .i32⟩
  | 58 => ⟨S_, .i32⟩
  | 59 => ⟨S4x128x64x4x128, .f32⟩
  | 60 => ⟨S4x8192x4x128, .f32⟩
  | 61 => ⟨S4x8192x4x128, .f32⟩
  | 62 => ⟨S1x128, .f32⟩
  | 63 => ⟨S128, .f32⟩
  | 64 => ⟨S4x8192x4x128, .f32⟩
  | 65 => ⟨S_, .f32⟩
  | 66 => ⟨S4x8192x4, .f32⟩
  | 67 => ⟨S4x8192x4x1, .f32⟩
  | 68 => ⟨S_, .f32⟩
  | 69 => ⟨S4x8192x4x1, .f32⟩
  | 70 => ⟨S4x8192x4x1, .f32⟩
  | 71 => ⟨S_, .f32⟩
  | 72 => ⟨S4x8192x4x1, .f32⟩
  | 73 => ⟨S4x8192x4x1, .f32⟩
  | 74 => ⟨S4x8192x4x1, .f32⟩
  | 75 => ⟨S4x8192x4x128, .f32⟩
  | 76 => ⟨S4x8192x4x128, .f32⟩
  | 77 => ⟨S1x1x1x128, .f32⟩
  | 78 => ⟨S4x8192x4x128, .f32⟩
  | 79 => ⟨S4x8192x4x128, .f32⟩
  | 80 => ⟨S4x8192x4x128, .f32⟩
  | 81 => ⟨S4x8192x4x128, .f32⟩
  | 82 => ⟨S_, .f32⟩
  | 83 => ⟨S4x8192x4x128, .f32⟩
  | 84 => ⟨S4x8192x4x128, .f32⟩
  | 85 => ⟨S_, .f32⟩
  | 86 => ⟨S4x8192x4x128, .f32⟩
  | 87 => ⟨S4x8192x4x128, .f32⟩
  | 88 => ⟨S4x8192x4x128, .f32⟩
  | 89 => ⟨S4x8192x4x128, .f32⟩
  | 90 => ⟨S4x8192x512, .f32⟩
  | 91 => ⟨S4x8192x512, .f32⟩
  | 92 => ⟨S_, .i32⟩
  | 93 => ⟨S_, .f32⟩
  | 94 => ⟨S4x8194x512, .f32⟩
  | 95 => ⟨S1x3x512, .f32⟩
  | 96 => ⟨S3x512, .f32⟩
  | 97 => ⟨S1x512, .f32⟩
  | 98 => ⟨S512, .f32⟩
  | 99 => ⟨S4x8192x512, .f32⟩
  | 100 => ⟨S1x1x512, .f32⟩
  | 101 => ⟨S4x8192x512, .f32⟩
  | 102 => ⟨S4x8192x512, .f32⟩
  | 103 => ⟨S1x512, .f32⟩
  | 104 => ⟨S512, .f32⟩
  | 105 => ⟨S4x8192x512, .f32⟩
  | 106 => ⟨S1x1x512, .f32⟩
  | 107 => ⟨S4x8192x512, .f32⟩
  | 108 => ⟨S4x8192x512, .f32⟩
  | 109 => ⟨S4x8192x512, .f32⟩
  | 110 => ⟨S1x512, .f32⟩
  | 111 => ⟨S512, .f32⟩
  | 112 => ⟨S4x8192x512, .f32⟩
  | 113 => ⟨S1x1x512, .f32⟩
  | 114 => ⟨S4x8192x512, .f32⟩
  | 115 => ⟨S4x8192x512, .f32⟩
  | 116 => ⟨S4x8192x512, .f32⟩
  | 117 => ⟨S4x8192x512, .f32⟩
  | 118 => ⟨S4x8192x1024, .f32⟩
  | 119 => ⟨S1x1024x1024, .f32⟩
  | 120 => ⟨S1024x1024, .f32⟩
  | 121 => ⟨S4x8192x1024, .f32⟩
  | 122 => ⟨S4x8192x1024, .f32⟩
  | 123 => ⟨S1x1024x5632, .f32⟩
  | 124 => ⟨S1024x5632, .f32⟩
  | 125 => ⟨S1024x5632, .bf16⟩
  | 126 => ⟨S1x2816x1024, .f32⟩
  | 127 => ⟨S2816x1024, .f32⟩
  | _ => ⟨S4x8192x1024, .f32⟩

abbrev hbmTy0_2 (i : Nat) : BufTy := match i % 128 with
  | 0 => ⟨S2816x1024, .bf16⟩
  | 1 => ⟨S1x1024x1024, .f32⟩
  | 2 => ⟨S1024x1024, .f32⟩
  | 3 => ⟨S1024x1024, .bf16⟩
  | 4 => ⟨S1x256x1024, .f32⟩
  | 5 => ⟨S256x1024, .f32⟩
  | 6 => ⟨S256x1024, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_3 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c : Ref sig .tc := ⟨.hbm, 75, rfl⟩
abbrev main_v43 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_0 : Ref sig .tc := ⟨.hbm, 83, rfl⟩
abbrev main_call1_v5 : Ref sig .tc := ⟨.hbm, 84, rfl⟩
abbrev main_v44 : Ref sig .tc := ⟨.hbm, 85, rfl⟩
abbrev main_v45 : Ref sig .tc := ⟨.hbm, 86, rfl⟩
abbrev main_cst_4 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_5 : Ref sig .tc := ⟨.hbm, 97, rfl⟩
abbrev main_v55 : Ref sig .tc := ⟨.hbm, 98, rfl⟩
abbrev main_c_6 : Ref sig .tc := ⟨.hbm, 99, rfl⟩
abbrev main_v56_0 : Ref sig .tc := ⟨.hbm, 100, rfl⟩
abbrev main_v56_1 : Ref sig .tc := ⟨.hbm, 101, rfl⟩
abbrev main_v56_2 : Ref sig .tc := ⟨.hbm, 102, rfl⟩
abbrev main_v56_3 : Ref sig .tc := ⟨.hbm, 103, rfl⟩
abbrev main_v56_4 : Ref sig .tc := ⟨.hbm, 104, rfl⟩
abbrev main_v56_5 : Ref sig .tc := ⟨.hbm, 105, rfl⟩
abbrev main_v56_6 : Ref sig .tc := ⟨.hbm, 106, rfl⟩
abbrev main_v56_7 : Ref sig .tc := ⟨.hbm, 107, rfl⟩
abbrev main_while0c_c_18 : Ref sig .tc := ⟨.hbm, 108, rfl⟩
abbrev main_while0c_v120 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_call2_c_2 : Ref sig .tc := ⟨.hbm, 113, rfl⟩
abbrev main_while0b_call2_v0 : Ref sig .tc := ⟨.hbm, 114, rfl⟩
abbrev main_while0b_v120 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_c_1 : Ref sig .tc := ⟨.hbm, 118, rfl⟩
abbrev main_while0b_call3_c_2 : Ref sig .tc := ⟨.hbm, 119, rfl⟩
abbrev main_while0b_call3_v0 : Ref sig .tc := ⟨.hbm, 120, rfl⟩
abbrev main_while0b_v121 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_c_2 : Ref sig .tc := ⟨.hbm, 125, rfl⟩
abbrev main_while0b_call4_v0 : Ref sig .tc := ⟨.hbm, 126, rfl⟩
abbrev main_while0b_v122 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_call5_c_1 : Ref sig .tc := ⟨.hbm, 130, rfl⟩
abbrev main_while0b_call5_c_2 : Ref sig .tc := ⟨.hbm, 131, rfl⟩
abbrev main_while0b_call5_v0 : Ref sig .tc := ⟨.hbm, 132, rfl⟩
abbrev main_while0b_v123 : Ref sig .tc := ⟨.hbm, 133, rfl⟩
abbrev main_while0b_call6_call0_cst : Ref sig .tc := ⟨.hbm, 134, rfl⟩
abbrev main_while0b_call6_call0_v0 : Ref sig .tc := ⟨.hbm, 135, rfl⟩
abbrev main_while0b_v124 : Ref sig .tc := ⟨.hbm, 136, rfl⟩
abbrev main_while0b_v125 : Ref sig .tc := ⟨.hbm, 137, rfl⟩
abbrev main_while0b_v126 : Ref sig .tc := ⟨.hbm, 138, rfl⟩
abbrev main_while0b_v127 : Ref sig .tc := ⟨.hbm, 139, rfl⟩
abbrev main_while0b_v128 : Ref sig .tc := ⟨.hbm, 140, rfl⟩
abbrev main_while0b_v129 : Ref sig .tc := ⟨.hbm, 141, rfl⟩
abbrev main_while0b_cst_18 : Ref sig .tc := ⟨.hbm, 142, rfl⟩
abbrev main_while0b_call7_v0 : Ref sig .tc := ⟨.hbm, 143, rfl⟩
abbrev main_while0b_call7_v1 : Ref sig .tc := ⟨.hbm, 144, rfl⟩
abbrev main_while0b_call7_v2 : Ref sig .tc := ⟨.hbm, 145, rfl⟩
abbrev main_while0b_v130 : Ref sig .tc := ⟨.hbm, 146, rfl⟩
abbrev main_while0b_v131 : Ref sig .tc := ⟨.hbm, 147, rfl⟩
abbrev main_while0b_cst_19 : Ref sig .tc := ⟨.hbm, 148, rfl⟩
abbrev main_while0b_call8_v0 : Ref sig .tc := ⟨.hbm, 149, rfl⟩
abbrev main_while0b_call8_v1 : Ref sig .tc := ⟨.hbm, 150, rfl⟩
abbrev main_while0b_call8_v2 : Ref sig .tc := ⟨.hbm, 151, rfl⟩
abbrev main_while0b_v132 : Ref sig .tc := ⟨.hbm, 152, rfl⟩
abbrev main_while0b_v133 : Ref sig .tc := ⟨.hbm, 153, rfl⟩
abbrev main_while0b_v134 : Ref sig .tc := ⟨.hbm, 154, rfl⟩
abbrev main_while0b_v135 : Ref sig .tc := ⟨.hbm, 155, rfl⟩
abbrev main_while0b_v136 : Ref sig .tc := ⟨.hbm, 156, rfl⟩
abbrev main_while0b_v137 : Ref sig .tc := ⟨.hbm, 157, rfl⟩
abbrev main_while0b_v138 : Ref sig .tc := ⟨.hbm, 158, rfl⟩
abbrev main_while0b_cst_20 : Ref sig .tc := ⟨.hbm, 159, rfl⟩
abbrev main_while0b_v139 : Ref sig .tc := ⟨.hbm, 160, rfl⟩
abbrev main_while0b_v140 : Ref sig .tc := ⟨.hbm, 161, rfl⟩
abbrev main_while0b_v141 : Ref sig .tc := ⟨.hbm, 162, rfl⟩
abbrev main_while0b_v142 : Ref sig .tc := ⟨.hbm, 163, rfl⟩
abbrev main_while0b_v143 : Ref sig .tc := ⟨.hbm, 164, rfl⟩
abbrev main_while0b_v144 : Ref sig .tc := ⟨.hbm, 165, rfl⟩
abbrev main_while0b_v145 : Ref sig .tc := ⟨.hbm, 166, rfl⟩
abbrev main_while0b_v146 : Ref sig .tc := ⟨.hbm, 167, rfl⟩
abbrev main_while0b_v147 : Ref sig .tc := ⟨.hbm, 168, rfl⟩
abbrev main_while0b_v148 : Ref sig .tc := ⟨.hbm, 169, rfl⟩
abbrev main_while0b_v149 : Ref sig .tc := ⟨.hbm, 170, rfl⟩
abbrev main_while0b_v150 : Ref sig .tc := ⟨.hbm, 171, rfl⟩
abbrev main_while0b_v151 : Ref sig .tc := ⟨.hbm, 172, rfl⟩
abbrev main_while0b_v152 : Ref sig .tc := ⟨.hbm, 173, rfl⟩
abbrev main_while0b_v153 : Ref sig .tc := ⟨.hbm, 174, rfl⟩
abbrev main_while0b_v154 : Ref sig .tc := ⟨.hbm, 175, rfl⟩
abbrev main_while0b_v155 : Ref sig .tc := ⟨.hbm, 176, rfl⟩
abbrev main_while0b_v156 : Ref sig .tc := ⟨.hbm, 177, rfl⟩
abbrev main_while0b_v157 : Ref sig .tc := ⟨.hbm, 178, rfl⟩
abbrev main_while0b_call9_v0 : Ref sig .tc := ⟨.hbm, 179, rfl⟩
abbrev main_while0b_call9_c : Ref sig .tc := ⟨.hbm, 180, rfl⟩
abbrev main_while0b_call9_c_0 : Ref sig .tc := ⟨.hbm, 181, rfl⟩
abbrev main_while0b_call9_c_1 : Ref sig .tc := ⟨.hbm, 182, rfl⟩
abbrev main_while0b_call9_c_2 : Ref sig .tc := ⟨.hbm, 183, rfl⟩
abbrev main_while0b_v158 : Ref sig .tc := ⟨.hbm, 184, rfl⟩
abbrev main_while0b_c_21 : Ref sig .tc := ⟨.hbm, 185, rfl⟩
abbrev main_while0b_v159 : Ref sig .tc := ⟨.hbm, 186, rfl⟩
abbrev main_v57 : Ref sig .tc := ⟨.hbm, 187, rfl⟩
abbrev main_v58 : Ref sig .tc := ⟨.hbm, 188, rfl⟩
abbrev main_v59 : Ref sig .tc := ⟨.hbm, 189, rfl⟩
abbrev main_v60 : Ref sig .tc := ⟨.hbm, 190, rfl⟩
abbrev main_v61 : Ref sig .tc := ⟨.hbm, 191, rfl⟩
abbrev main_v62 : Ref sig .tc := ⟨.hbm, 192, rfl⟩
abbrev main_cst_7 : Ref sig .tc := ⟨.hbm, 193, rfl⟩
abbrev main_v63 : Ref sig .tc := ⟨.hbm, 194, rfl⟩
abbrev main_v64 : Ref sig .tc := ⟨.hbm, 195, rfl⟩
abbrev main_cst_8 : Ref sig .tc := ⟨.hbm, 196, rfl⟩
abbrev main_v65 : Ref sig .tc := ⟨.hbm, 197, rfl⟩
abbrev main_v66 : Ref sig .tc := ⟨.hbm, 198, rfl⟩
abbrev main_cst_9 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_call10_v0 : Ref sig .tc := ⟨.hbm, 208, rfl⟩
abbrev main_call10_v1 : Ref sig .tc := ⟨.hbm, 209, rfl⟩
abbrev main_call10_cst : Ref sig .tc := ⟨.hbm, 210, rfl⟩
abbrev main_call10_v2 : Ref sig .tc := ⟨.hbm, 211, rfl⟩
abbrev main_call10_v3 : Ref sig .tc := ⟨.hbm, 212, rfl⟩
abbrev main_call10_cst_0 : Ref sig .tc := ⟨.hbm, 213, rfl⟩
abbrev main_call10_v4 : Ref sig .tc := ⟨.hbm, 214, rfl⟩
abbrev main_call10_v5 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_c_10 : Ref sig .tc := ⟨.hbm, 220, rfl⟩
abbrev main_call11_v0 : Ref sig .tc := ⟨.hbm, 221, rfl⟩
abbrev main_v79 : Ref sig .tc := ⟨.hbm, 222, rfl⟩
abbrev main_v80 : Ref sig .tc := ⟨.hbm, 223, rfl⟩
abbrev main_v81 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_v97 : Ref sig .tc := ⟨.hbm, 240, rfl⟩
abbrev main_v98 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_v102 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_v110 : Ref sig .tc := ⟨.hbm, 253, rfl⟩
abbrev main_v111 : Ref sig .tc := ⟨.hbm, 254, rfl⟩
abbrev main_v112 : Ref sig .tc := ⟨.hbm, 255, rfl⟩
abbrev main_v113 : Ref sig .tc := ⟨.hbm, 256, rfl⟩
abbrev main_v114 : Ref sig .tc := ⟨.hbm, 257, rfl⟩
abbrev main_v115 : Ref sig .tc := ⟨.hbm, 258, rfl⟩
abbrev main_v116 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S4x8192x1024 : Shape := ⟨3, ![4, 8192, 1024]⟩
abbrev S2x4x8192x256 : Shape := ⟨4, ![2, 4, 8192, 256]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S2x32768x256 : Shape := ⟨3, ![2, 32768, 256]⟩
abbrev S32768x1024 : Shape := ⟨2, ![32768, 1024]⟩
abbrev S2x1x1024 : Shape := ⟨3, ![2, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024 : Shape := ⟨2, ![1, 1024]⟩
abbrev S1x1024x256 : Shape := ⟨3, ![1, 1024, 256]⟩
abbrev S1x1x1024 : Shape := ⟨3, ![1, 1, 1024]⟩
abbrev S1024x2816 : Shape := ⟨2, ![1024, 2816]⟩
abbrev S1024x256 : Shape := ⟨2, ![1024, 256]⟩
abbrev S1024x1 : Shape := ⟨2, ![1024, 1]⟩
abbrev S256x2816 : Shape := ⟨2, ![256, 2816]⟩
abbrev S256 : Shape := ⟨1, ![256]⟩
abbrev S256x1 : Shape := ⟨2, ![256, 1]⟩

abbrev nBuf : Space → Nat
  | .hbm => 27
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S2x4x8192x256, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S1024, .f32⟩
  | .hbm, ⟨9, _⟩ => ⟨S2x32768x256, .f32⟩
  | .hbm, ⟨10, _⟩ => ⟨S32768x1024, .f32⟩
  | .hbm, ⟨11, _⟩ => ⟨S2x1x1024, .f32⟩
  | .hbm, ⟨12, _⟩ => ⟨S1x1024x5632, .f32⟩
  | .hbm, ⟨13, _⟩ => ⟨S1024x5632, .f32⟩
  | .hbm, ⟨14, _⟩ => ⟨S1024x5632, .bf16⟩
  | .hbm, ⟨15, _⟩ => ⟨S1x2816x1024, .f32⟩
  | .hbm, ⟨16, _⟩ => ⟨S2816x1024, .f32⟩
  | .hbm, ⟨17, _⟩ => ⟨S2816x1024, .bf16⟩
  | .hbm, ⟨18, _⟩ => ⟨S2x1x1024, .f32⟩
  | .hbm, ⟨19, _⟩ => ⟨S1x1024x1024, .f32⟩
  | .hbm, ⟨20, _⟩ => ⟨S1024x1024, .f32⟩
  | .hbm, ⟨21, _⟩ => ⟨S1024x1024, .bf16⟩
  | .hbm, ⟨22, _⟩ => ⟨S1x256x1024, .f32⟩
  | .hbm, ⟨23, _⟩ => ⟨S256x1024, .f32⟩
  | .hbm, ⟨24, _⟩ => ⟨S256x1024, .bf16⟩
  | .hbm, ⟨25, _⟩ => ⟨S1x1024, .f32⟩
  | .hbm, ⟨26, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S2x4x8192x256 : Shape := ⟨4, ![2, 4, 8192, 256]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x4x8192x256 : Shape := ⟨4, ![1, 4, 8192, 256]⟩
abbrev S4x8192x256 : Shape := ⟨3, ![4, 8192, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x4x8192x256, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S1x1024x5632, .f32⟩
  | .hbm, ⟨28, _⟩ => ⟨S1024x5632, .f32⟩
  | .hbm, ⟨29, _⟩ => ⟨S4x8192x5632, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x2816, .f32⟩
  | .hbm, ⟨34, _⟩ => ⟨S_, .f32⟩
  | .hbm, ⟨35, _⟩ => ⟨S4x8192x2816, .f32⟩
  | .hbm, ⟨36, _⟩ => ⟨S4x8192x2816, .f32⟩
  | .hbm, ⟨37, _⟩ => ⟨S_, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S1x2816x1024, .f32⟩
  | .hbm, ⟨43, _⟩ => ⟨S2816x1024, .f32⟩
  | .hbm, ⟨44, _⟩ => ⟨S4x8192x1024, .f32⟩
  | .hbm, ⟨45, _⟩ => ⟨S4x8192x1024, .f32⟩
  | .hbm, ⟨46, _⟩ => ⟨S1x1024, .f32⟩
  | .hbm, ⟨47, _⟩ => ⟨S1024, .f32⟩
  | .hbm, ⟨48, _⟩ => ⟨S4x8192x1024, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S4x8192x1024, .f32⟩
  | .hbm, ⟨60, _⟩ => ⟨S4x8192x1024, .f32⟩
  | .hbm, ⟨61, _⟩ => ⟨S1x1x1024, .f32⟩
  | .hbm, ⟨62, _⟩ => ⟨S4x8192x1024, .f32⟩
  | .hbm, ⟨63, _⟩ => ⟨S4x8192x1024, .f32⟩
  | .hbm, ⟨64, _⟩ => ⟨S1x1024x1024, .f32⟩
  | .hbm, ⟨65, _⟩ => ⟨S1024x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192x1024, .f32⟩
  | .hbm, ⟨74, _⟩ => ⟨S4x8192x1024, .f32⟩
  | .hbm, ⟨75, _⟩ => ⟨S1x4x8192x256, .f32⟩
  | .hbm, ⟨76, _⟩ => ⟨S4x8192x256, .f32⟩
  | .hbm, ⟨77, _⟩ => ⟨S1x256x1024, .f32⟩
  | .hbm, ⟨78, _⟩ => ⟨S256x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | .hbm, ⟨83, _⟩ => ⟨S_, .f32⟩
  | .hbm, ⟨84, _⟩ => ⟨S4x8192, .f32⟩
  | .hbm, ⟨85, _⟩ => ⟨S4x8192x1, .f32⟩
  | .hbm, ⟨86, _⟩ => ⟨S_, .f32⟩
  | .hbm, ⟨87, _⟩ => ⟨S4x8192x1, .f32⟩
  | .hbm, ⟨88, _⟩ => ⟨S4x8192x1, .f32⟩
  | .hbm, ⟨89, _⟩ => ⟨S_, .f32⟩
  | .hbm, ⟨90, _⟩ => ⟨S4x8192x1, .f32⟩
  | .hbm, ⟨91, _⟩ => ⟨S4x8192x1, .f32⟩
  | .hbm, ⟨92, _⟩ => ⟨S4x8192x1, .f32⟩
  | .hbm, ⟨93, _⟩ => ⟨S4x8192x1024, .f32⟩
  | .hbm, ⟨94, _⟩ => ⟨S4x8192x1024, .f32⟩
  | .hbm, ⟨95, _⟩ => ⟨S1x1x1024, .f32⟩
  | .hbm, ⟨96, _⟩ => ⟨S4x8192x1024, .f32⟩
  | .hbm, ⟨97, _⟩ => ⟨S4x8192x1024, .f32⟩
  | .hbm, ⟨98, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Kernel3.lean ====
abbrev S4x8192x1024 : Shape := ⟨3, ![4, 8192, 1024]⟩
abbrev S2x4x8192x256 : Shape := ⟨4, ![2, 4, 8192, 256]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S2x1024x3088 : Shape := ⟨3, ![2, 1024, 3088]⟩
abbrev S2x32768x256 : Shape := ⟨3, ![2, 32768, 256]⟩
abbrev S2x3088x1024 : Shape := ⟨3, ![2, 3088, 1024]⟩
abbrev S32768x1024 : Shape := ⟨2, ![32768, 1024]⟩
abbrev S2x1x1024 : Shape := ⟨3, ![2, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024 : Shape := ⟨2, ![1, 1024]⟩
abbrev S1024x3200 : Shape := ⟨2, ![1024, 3200]⟩
abbrev S1x1024x256 : Shape := ⟨3, ![1, 1024, 256]⟩
abbrev S1x1x1024 : Shape := ⟨3, ![1, 1, 1024]⟩
abbrev S1x3088x128 : Shape := ⟨3, ![1, 3088, 128]⟩
abbrev S1x32x1024 : Shape := ⟨3, ![1, 32, 1024]⟩
abbrev S128x3200 : Shape := ⟨2, ![128, 3200]⟩
abbrev S32x1024 : Shape := ⟨2, ![32, 1024]⟩
abbrev S1024x2816 : Shape := ⟨2, ![1024, 2816]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S112x128 : Shape := ⟨2, ![112, 128]⟩
abbrev S1024x256 : Shape := ⟨2, ![1024, 256]⟩
abbrev S1024x1 : Shape := ⟨2, ![1024, 1]⟩
abbrev S256x2816 : Shape := ⟨2, ![256, 2816]⟩
abbrev S256 : Shape := ⟨1, ![256]⟩
abbrev S256x1 : Shape := ⟨2, ![256, 1]⟩

abbrev nBuf : Space → Nat
  | .hbm => 32
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S2x4x8192x256, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S1024, .f32⟩
  | .hbm, ⟨9, _⟩ => ⟨S2x1024x3088, .f32⟩
  | .hbm, ⟨10, _⟩ => ⟨S2x1024x1024, .f32⟩
  | .hbm, ⟨11, _⟩ => ⟨S2x32768x256, .f32⟩
  | .hbm, ⟨12, _⟩ => ⟨S2x3088x1024, .f32⟩
  | .hbm, ⟨13, _⟩ => ⟨S32768x1024, .f32⟩
  | .hbm, ⟨14, _⟩ => ⟨S2x1x1024, .f32⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x2816x1024, .f32⟩
  | .hbm, ⟨19, _⟩ => ⟨S2816x1024, .f32⟩
  | .hbm, ⟨20, _⟩ => ⟨S2816x1024, .bf16⟩
  | .hbm, ⟨21, _⟩ => ⟨S2x1x1024, .f32⟩
  | .hbm, ⟨22, _⟩ => ⟨S1x1024x1024, .f32⟩
  | .hbm, ⟨23, _⟩ => ⟨S1024x1024, .f32⟩
  | .hbm, ⟨24, _⟩ => ⟨S1024x1024, .bf16⟩
  | .hbm, ⟨25, _⟩ => ⟨S1x256x1024, .f32⟩
  | .hbm, ⟨26, _⟩ => ⟨S256x1024, .f32⟩
  | .hbm, ⟨27, _⟩ => ⟨S256x1024, .bf16⟩
  | .hbm, ⟨28, _⟩ => ⟨S1x1024, .f32⟩
  | .hbm, ⟨29, _⟩ => ⟨S32768x1024, .f32⟩
  | .hbm, ⟨30, _⟩ => ⟨S1024x3200, .bf16⟩
  | .hbm, ⟨31, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1x3088x128, .f32⟩
  | .local _ .vmem, ⟨12, _⟩ => ⟨S1x3088x128, .f32⟩
  | .local _ .vmem, ⟨13, _⟩ => ⟨S1x32x1024, .f32⟩
  | .local _ .vmem, ⟨14, _⟩ => ⟨S1x32x1024, .f32⟩
  | .local _ .vmem, ⟨15, _⟩ => ⟨S1024x1024, .f32⟩
  | .local _ .vmem, ⟨16, _⟩ => ⟨S1024x1024, .f32⟩
  | .local _ .vmem, ⟨17, _⟩ => ⟨S128x3200, .bf16⟩
  | .local _ .vmem, ⟨18, _⟩ => ⟨S128x3200, .bf16⟩
  | .local _ .vmem, ⟨19, _⟩ => ⟨S32x1024, .bf16⟩
  | .local _ .vmem, ⟨20, _⟩ => ⟨S32x1024, .bf16⟩
  | .local _ .vmem, ⟨21, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  ![c1_i32_4.toNat, c0_i32_5.toNat, v16.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_13 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x3088x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x3200 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x8192x1024 : Shape := ⟨3, ![4, 8192, 1024]⟩
abbrev S2x4x8192x256 : Shape := ⟨4, ![2, 4, 8192, 256]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S2x1024x3088 : Shape := ⟨3, ![2, 1024, 3088]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x4x8192x256 : Shape := ⟨4, ![1, 4, 8192, 256]⟩
abbrev S4x8192x256 : Shape := ⟨3, ![4, 8192, 256]⟩
abbrev S1x256x1024 : Shape := ⟨3, ![1, 256, 1024]⟩
abbrev S256x1024 : Shape := ⟨2, ![256, 1024]⟩
abbrev S1x1024x3088 : Shape := ⟨3, ![1, 1024, 3088]⟩
abbrev S1024x3088 : Shape := ⟨2, ![1024, 3088]⟩
abbrev S1024x256 : Shape := ⟨2, ![1024, 256]⟩
abbrev S1024x512 : Shape := ⟨2, ![1024, 512]⟩
abbrev S1024x16 : Shape := ⟨2, ![1024, 16]⟩
abbrev S1024x112 : Shape := ⟨2, ![1024, 112]⟩
abbrev S1024x3200 : Shape := ⟨2, ![1024, 3200]⟩
abbrev S32768x1024 : Shape := ⟨2, ![32768, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x4x8192x256, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S1024, .f32⟩
  | .hbm, ⟨9, _⟩ => ⟨S2x1024x3088, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S1x1024x5632, .f32⟩
  | .hbm, ⟨30, _⟩ => ⟨S1024x5632, .f32⟩
  | .hbm, ⟨31, _⟩ => ⟨S4x8192x5632, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S_, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S1x2816x1024, .f32⟩
  | .hbm, ⟨45, _⟩ => ⟨S2816x1024, .f32⟩
  | .hbm, ⟨46, _⟩ => ⟨S4x8192x1024, .f32⟩
  | .hbm, ⟨47, _⟩ => ⟨S4x8192x1024, .f32⟩
  | .hbm, ⟨48, _⟩ => ⟨S1x1024, .f32⟩
  | .hbm, ⟨49, _⟩ => ⟨S1024, .f32⟩
  | .hbm, ⟨50, _⟩ => ⟨S4x8192x1024, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x8192x1, .f32⟩
  | .hbm, ⟨61, _⟩ => ⟨S4x8192x1024, .f32⟩
  | .hbm, ⟨62, _⟩ => ⟨S4x8192x1024, .f32⟩
  | .hbm, ⟨63, _⟩ => ⟨S1x1x1024, .f32⟩
  | .hbm, ⟨64, _⟩ => ⟨S4x8192x1024, .f32⟩
  | .hbm, ⟨65, _⟩ => ⟨S4x8192x1024, .f32⟩
  | .hbm, ⟨66, _⟩ => ⟨S1x1024x1024, .f32⟩
  | .hbm, ⟨67, _⟩ => ⟨S1024x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192x1024, .f32⟩
  | .hbm, ⟨76, _⟩ => ⟨S4x8192x1024, .f32⟩
  | .hbm, ⟨77, _⟩ => ⟨S1x4x8192x256, .f32⟩
  | .hbm, ⟨78, _⟩ => ⟨S4x8192x256, .f32⟩
  | .hbm, ⟨79, _⟩ => ⟨S1x256x1024, .f32⟩
  | .hbm, ⟨80, _⟩ => ⟨S256x1024, .f32⟩
  | .hbm, ⟨81, _⟩ => ⟨S4x8192x1024, .f32⟩
  | .hbm, ⟨82, _⟩ => ⟨S4x8192x1024, .f32⟩
  | .hbm, ⟨83, _⟩ => ⟨S4x8192x1024, .f32⟩
  | .hbm, ⟨84, _⟩ => ⟨S1x1024x3088, .f32⟩
  | .hbm, ⟨85, _⟩ => ⟨S1024x3088, .f32⟩
  | .hbm, ⟨86, _⟩ => ⟨S1024x256, .f32⟩
  | .hbm, ⟨87, _⟩ => ⟨S1024x256, .f32⟩
  | .hbm, ⟨88, _⟩ => ⟨S1024x512, .f32⟩
  | .hbm, ⟨89, _⟩ => ⟨S1024x512, .f32⟩
  | .hbm, ⟨90, _⟩ => ⟨S1024x16, .f32⟩
  | .hbm, ⟨91, _⟩ => ⟨S1024x512, .f32⟩
  | .hbm, ⟨92, _⟩ => ⟨S1024x512, .f32⟩
  | .hbm, ⟨93, _⟩ => ⟨S1024x512, .f32⟩
  | .hbm, ⟨94, _⟩ => ⟨S_, .f32⟩
  | .hbm, ⟨95, _⟩ => ⟨S1024x112, .f32⟩
  | .hbm, ⟨96, _⟩ => ⟨S1024x3200, .f32⟩
  | .hbm, ⟨97, _⟩ => ⟨S32768x1024, .f32⟩
  | .hbm, ⟨98, _⟩ => ⟨S1024x3200, .bf16⟩
  | .hbm, ⟨99, _⟩ => ⟨S1x1024x1024, .f32⟩
  | .hbm, ⟨100, _⟩ => ⟨S1024x1024, .f32⟩
  | .hbm, ⟨101, _⟩ => ⟨S1024x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_7 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Kernel4.lean ====
abbrev S2x1024x3088 : Shape := ⟨3, ![2, 1024, 3088]⟩
abbrev S2x1024x1024 : Shape := ⟨3, ![2, 1024, 1024]⟩
abbrev S2x3088x1024 : Shape := ⟨3, ![2, 3088, 1024]⟩
abbrev S1024x3200 : Shape := ⟨2, ![1024, 3200]⟩
abbrev S1024x1024 : Shape := ⟨2, ![1024, 1024]⟩
abbrev S1x3088x128 : Shape := ⟨3, ![1, 3088, 128]⟩
abbrev S1x128x1024 : Shape := ⟨3, ![1, 128, 1024]⟩
abbrev S128x3200 : Shape := ⟨2, ![128, 3200]⟩
abbrev S128x1024 : Shape := ⟨2, ![128, 1024]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S112x128 : Shape := ⟨2, ![112, 128]⟩

abbrev nBuf : Space → Nat
  | .hbm => 5
  | .vmem => 8
  | .smem => 0
  | _ => 0

abbrev bufTy : (tb : Table) → Fin (tcTables nBuf tb) → BufTy
  | .hbm, ⟨0, _⟩ => ⟨S2x1024x3088, .f32⟩
  | .hbm, ⟨1, _⟩ => ⟨S2x1024x1024, .f32⟩
  | .hbm, ⟨2, _⟩ => ⟨S2x3088x1024, .f32⟩
  | .hbm, ⟨3, _⟩ => ⟨S1024x3200, .bf16⟩
  | .hbm, ⟨4, _⟩ => ⟨S1024x1024, .bf16⟩
  | .local _ .vmem, ⟨0, _⟩ => ⟨S1x3088x128, .f32⟩
  | .local _ .vmem, ⟨1, _⟩ => ⟨S1x3088x128, .f32⟩
  | .local _ .vmem, ⟨2, _⟩ => ⟨S1x128x1024, .f32⟩
  | .local _ .vmem, ⟨3, _⟩ => ⟨S1x128x1024, .f32⟩
  | .local _ .vmem, ⟨4, _⟩ => ⟨S128x3200, .bf16⟩
  | .local _ .vmem, ⟨5, _⟩ => ⟨S128x3200, .bf16⟩
  | .local _ .vmem, ⟨6, _⟩ => ⟨S128x1024, .bf16⟩
  | .local _ .vmem, ⟨7, _⟩ => ⟨S128x1024, .bf16⟩
  | _, _ => ⟨S2x1024x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, c0_i32_6.toNat, v16.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S1x3088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x1024x3088 : Shape := ⟨3, ![2, 1024, 3088]⟩
abbrev S2x1024x1024 : Shape := ⟨3, ![2, 1024, 1024]⟩
abbrev S1x1024x3088 : Shape := ⟨3, ![1, 1024, 3088]⟩
abbrev S1024x3088 : Shape := ⟨2, ![1024, 3088]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x3200 : Shape := ⟨2, ![1024, 3200]⟩
abbrev S1x1024x1024 : Shape := ⟨3, ![1, 1024, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x1024x3088, .f32⟩
  | .hbm, ⟨1, _⟩ => ⟨S2x1024x1024, .f32⟩
  | .hbm, ⟨2, _⟩ => ⟨S1x1024x3088, .f32⟩
  | .hbm, ⟨3, _⟩ => ⟨S1024x3088, .f32⟩
  | .hbm, ⟨4, _⟩ => ⟨S1024x256, .f32⟩
  | .hbm, ⟨5, _⟩ => ⟨S1024x256, .f32⟩
  | .hbm, ⟨6, _⟩ => ⟨S1024x512, .f32⟩
  | .hbm, ⟨7, _⟩ => ⟨S1024x512, .f32⟩
  | .hbm, ⟨8, _⟩ => ⟨S1024x16, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x112, .f32⟩
  | .hbm, ⟨14, _⟩ => ⟨S1024x3200, .f32⟩
  | .hbm, ⟨15, _⟩ => ⟨S1024x3200, .bf16⟩
  | .hbm, ⟨16, _⟩ => ⟨S1x1024x1024, .f32⟩
  | .hbm, ⟨17, _⟩ => ⟨S1024x1024, .f32⟩
  | .hbm, ⟨18, _⟩ => ⟨S1024x1024, .bf16⟩
  | _, _ => ⟨S2x1024x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel5.lean ====
abbrev S4x8192x1024 : Shape := ⟨3, ![4, 8192, 1024]⟩
abbrev S2x1024 : Shape := ⟨2, ![2, 1024]⟩
abbrev S2x1024x3088 : Shape := ⟨3, ![2, 1024, 3088]⟩
abbrev S2x16x256 : Shape := ⟨3, ![2, 16, 256]⟩
abbrev S2x256 : Shape := ⟨2, ![2, 256]⟩
abbrev S2x3x512 : Shape := ⟨3, ![2, 3, 512]⟩
abbrev S2x128 : Shape := ⟨2, ![2, 128]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1x1024x3088 : Shape := ⟨3, ![1, 1024, 3088]⟩
abbrev S1024x3088 : Shape := ⟨2, ![1024, 3088]⟩
abbrev S1024x1536 : Shape := ⟨2, ![1024, 1536]⟩
abbrev S1024x16 : Shape := ⟨2, ![1024, 16]⟩
abbrev S_ : Shape := ⟨0, ![]⟩
abbrev S1024x3200 : Shape := ⟨2, ![1024, 3200]⟩
abbrev S1x1024x1024 : Shape := ⟨3, ![1, 1024, 1024]⟩
abbrev S1024x1024 : Shape := ⟨2, ![1024, 1024]⟩
abbrev S2x128x256 : Shape := ⟨3, ![2, 128, 256]⟩
abbrev S2x1x1024 : Shape := ⟨3, ![2, 1, 1024]⟩
abbrev S2x1x256 : Shape := ⟨3, ![2, 1, 256]⟩
abbrev S2x1x128 : Shape := ⟨3, ![2, 1, 128]⟩
abbrev S1024x5632 : Shape := ⟨2, ![1024, 5632]⟩
abbrev S2816x1024 : Shape := ⟨2, ![2816, 1024]⟩
abbrev S256x1024 : Shape := ⟨2, ![256, 1024]⟩
abbrev S1x1x1024 : Shape := ⟨3, ![1, 1, 1024]⟩
abbrev S1x128x256 : Shape := ⟨3, ![1, 128, 256]⟩
abbrev S1x1x256 : Shape := ⟨3, ![1, 1, 256]⟩
abbrev S1x3x512 : Shape := ⟨3, ![1, 3, 512]⟩
abbrev S1x1x128 : Shape := ⟨3, ![1, 1, 128]⟩
abbrev S1x32x5632 : Shape := ⟨3, ![1, 32, 5632]⟩
abbrev S1x176x1024 : Shape := ⟨3, ![1, 176, 1024]⟩
abbrev S1x32x1024 : Shape := ⟨3, ![1, 32, 1024]⟩
abbrev S1x16x1024 : Shape := ⟨3, ![1, 16, 1024]⟩
abbrev S32x5632 : Shape := ⟨2, ![32, 5632]⟩
abbrev S176x1024 : Shape := ⟨2, ![176, 1024]⟩
abbrev S32x1024 : Shape := ⟨2, ![32, 1024]⟩
abbrev S16x1024 : Shape := ⟨2, ![16, 1024]⟩
abbrev S4x64x128 : Shape := ⟨3, ![4, 64, 128]⟩
abbrev S1032x512 : Shape := ⟨2, ![1032, 512]⟩
abbrev S1024x256 : Shape := ⟨2, ![1024, 256]⟩
abbrev S1024x512 : Shape := ⟨2, ![1024, 512]⟩
abbrev S4x4x64x128 : Shape := ⟨4, ![4, 4, 64, 128]⟩
abbrev S256x512 : Shape := ⟨2, ![256, 512]⟩
abbrev S8x512 : Shape := ⟨2, ![8, 512]⟩
abbrev S256x256 : Shape := ⟨2, ![256, 256]⟩
abbrev S64x64 : Shape := ⟨2, ![64, 64]⟩
abbrev S1x512x1024 : Shape := ⟨3, ![1, 512, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x128 : Shape := ⟨2, ![1024, 128]⟩
abbrev S512x128 : Shape := ⟨2, ![512, 128]⟩
abbrev S512x256 : Shape := ⟨2, ![512, 256]⟩
abbrev S128x256 : Shape := ⟨2, ![128, 256]⟩
abbrev S1x256 : Shape := ⟨2, ![1, 256]⟩
abbrev S512x512 : Shape := ⟨2, ![512, 512]⟩
abbrev S520x512 : Shape := ⟨2, ![520, 512]⟩
abbrev S1x1x512 : Shape := ⟨3, ![1, 1, 512]⟩
abbrev S1x512 : Shape := ⟨2, ![1, 512]⟩
abbrev S256x64 : Shape := ⟨2, ![256, 64]⟩
abbrev S1x64x128 : Shape := ⟨3, ![1, 64, 128]⟩
abbrev S64x128 : Shape := ⟨2, ![64, 128]⟩
abbrev S1x1x64x128 : Shape := ⟨4, ![1, 1, 64, 128]⟩
abbrev S256x128 : Shape := ⟨2, ![256, 128]⟩
abbrev S1x64 : Shape := ⟨2, ![1, 64]⟩
abbrev S64 : Shape := ⟨1, ![64]⟩
abbrev S64x1 : Shape := ⟨2, ![64, 1]⟩
abbrev S1x128 : Shape := ⟨2, ![1, 128]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 37
  | .vmem => 37
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x3088, .f32⟩
  | .hbm, ⟨3, _⟩ => ⟨S2x16x256, .f32⟩
  | .hbm, ⟨4, _⟩ => ⟨S2x256, .f32⟩
  | .hbm, ⟨5, _⟩ => ⟨S2x3x512, .f32⟩
  | .hbm, ⟨6, _⟩ => ⟨S2x128, .f32⟩
  | .hbm, ⟨7, _⟩ => ⟨S2x1024x1024, .f32⟩
  | .hbm, ⟨8, _⟩ => ⟨S2x1024x5632, .f32⟩
  | .hbm, ⟨9, _⟩ => ⟨S2x2816x1024, .f32⟩
  | .hbm, ⟨10, _⟩ => ⟨S2x1024x1024, .f32⟩
  | .hbm, ⟨11, _⟩ => ⟨S2x256x1024, .f32⟩
  | .hbm, ⟨12, _⟩ => ⟨S1x1024x3088, .f32⟩
  | .hbm, ⟨13, _⟩ => ⟨S1024x3088, .f32⟩
  | .hbm, ⟨14, _⟩ => ⟨S1024x1536, .f32⟩
  | .hbm, ⟨15, _⟩ => ⟨S1024x1536, .f32⟩
  | .hbm, ⟨16, _⟩ => ⟨S1024x16, .f32⟩
  | .hbm, ⟨17, _⟩ => ⟨S1024x3088, .f32⟩
  | .hbm, ⟨18, _⟩ => ⟨S_, .i32⟩
  | .hbm, ⟨19, _⟩ => ⟨S_, .f32⟩
  | .hbm, ⟨20, _⟩ => ⟨S1024x3200, .f32⟩
  | .hbm, ⟨21, _⟩ => ⟨S1024x3200, .bf16⟩
  | .hbm, ⟨22, _⟩ => ⟨S1x1024x1024, .f32⟩
  | .hbm, ⟨23, _⟩ => ⟨S1024x1024, .f32⟩
  | .hbm, ⟨24, _⟩ => ⟨S1024x1024, .bf16⟩
  | .hbm, ⟨25, _⟩ => ⟨S2x16x256, .bf16⟩
  | .hbm, ⟨26, _⟩ => ⟨S_, .i32⟩
  | .hbm, ⟨27, _⟩ => ⟨S_, .bf16⟩
  | .hbm, ⟨28, _⟩ => ⟨S2x128x256, .bf16⟩
  | .hbm, ⟨29, _⟩ => ⟨S2x1x1024, .f32⟩
  | .hbm, ⟨30, _⟩ => ⟨S2x1x256, .f32⟩
  | .hbm, ⟨31, _⟩ => ⟨S2x1x128, .f32⟩
  | .hbm, ⟨32, _⟩ => ⟨S4x8192x1024, .f32⟩
  | .hbm, ⟨33, _⟩ => ⟨S1024x5632, .bf16⟩
  | .hbm, ⟨34, _⟩ => ⟨S2816x1024, .bf16⟩
  | .hbm, ⟨35, _⟩ => ⟨S1024x1024, .bf16⟩
  | .hbm, ⟨36, _⟩ => ⟨S256x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1024x3200, .bf16⟩
  | .local _ .vmem, ⟨4, _⟩ => ⟨S1x128x256, .bf16⟩
  | .local _ .vmem, ⟨5, _⟩ => ⟨S1x1x256, .f32⟩
  | .local _ .vmem, ⟨6, _⟩ => ⟨S1x3x512, .f32⟩
  | .local _ .vmem, ⟨7, _⟩ => ⟨S1x1x128, .f32⟩
  | .local _ .vmem, ⟨8, _⟩ => ⟨S1024x1024, .bf16⟩
  | .local _ .vmem, ⟨9, _⟩ => ⟨S1x32x5632, .f32⟩
  | .local _ .vmem, ⟨10, _⟩ => ⟨S1x32x5632, .f32⟩
  | .local _ .vmem, ⟨11, _⟩ => ⟨S1x176x1024, .f32⟩
  | .local _ .vmem, ⟨12, _⟩ => ⟨S1x176x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S32x5632, .bf16⟩
  | .local _ .vmem, ⟨20, _⟩ => ⟨S32x5632, .bf16⟩
  | .local _ .vmem, ⟨21, _⟩ => ⟨S176x1024, .bf16⟩
  | .local _ .vmem, ⟨22, _⟩ => ⟨S176x1024, .bf16⟩
  | .local _ .vmem, ⟨23, _⟩ => ⟨S32x1024, .bf16⟩
  | .local _ .vmem, ⟨24, _⟩ => ⟨S32x1024, .bf16⟩
  | .local _ .vmem, ⟨25, _⟩ => ⟨S16x1024, .bf16⟩
  | .local _ .vmem, ⟨26, _⟩ => ⟨S16x1024, .bf16⟩
  | .local _ .vmem, ⟨27, _⟩ => ⟨S4x64x128, .f32⟩
  | .local _ .vmem, ⟨28, _⟩ => ⟨S1032x512, .f32⟩
  | .local _ .vmem, ⟨29, _⟩ => ⟨S1024x1024, .bf16⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x512, .f32⟩
  | .local _ .vmem, ⟨34, _⟩ => ⟨S1024x512, .f32⟩
  | .local _ .vmem, ⟨35, _⟩ => ⟨S4x4x64x128, .f32⟩
  | .local _ .vmem, ⟨36, _⟩ => ⟨S256x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_686 : BitVec 32 := 0#32
  let c256_i32 : BitVec 32 := 256#32
  let v1412 : BitVec 32 := Scalar.addi c0_i32_686 c256_i32
  let c1_i32_687 : BitVec 32 := 1#32
  ⟨c0_i32_686, v1412, c1_i32_687⟩
def k0_off1 (k0_t1 : Fin k0_t1_loop.trips) : Fin 2 → Nat :=
  let c0_i32_1062 : BitVec 32 := 0#32
  let c0_i32_686 : BitVec 32 := 0#32
  let c1_i32_687 : BitVec 32 := 1#32
  let arg29 : BitVec 32 := Scf.iv c0_i32_686 c1_i32_687 k0_t1
  let v1952 : BitVec 32 := Scalar.addi c0_i32_1062 arg29
  let v1953 : Index := Scalar.indexCast v1952
  let c0_1063 : Index := 0#32
  ![v1953.toNat, 0]
def k0_off2 (k0_t1 : Fin k0_t1_loop.trips) : Fin 2 → Nat :=
  let c0_i32_1066 : BitVec 32 := 0#32
  let c0_i32_686 : BitVec 32 := 0#32
  let c1_i32_687 : BitVec 32 := 1#32
  let arg29 : BitVec 32 := Scf.iv c0_i32_686 c1_i32_687 k0_t1
  let v1958 : BitVec 32 := Scalar.addi c0_i32_1066 arg29
  let v1959 : Index := Scalar.indexCast v1958
  let c0_1067 : Index := 0#32
  ![v1959.toNat, 0]
@[reducible] def k0_t2_loop : Scf.Loop 32 :=
  let c0_i32_764 : BitVec 32 := 0#32
  let c256_i32_765 : BitVec 32 := 256#32
  let v1533 : BitVec 32 := Scalar.addi c0_i32_764 c256_i32_765
  let c1_i32_766 : BitVec 32 := 1#32
  ⟨c0_i32_764, v1533, c1_i32_766⟩
def k0_off3 (k0_t2 : Fin k0_t2_loop.trips) : Fin 2 → Nat :=
  let c256_i32_1062 : BitVec 32 := 256#32
  let c0_i32_764 : BitVec 32 := 0#32
  let c1_i32_766 : BitVec 32 := 1#32
  let arg29 : BitVec 32 := Scf.iv c0_i32_764 c1_i32_766 k0_t2
  let v1952 : BitVec 32 := Scalar.addi c256_i32_1062 arg29
  let v1953 : Index := Scalar.indexCast v1952
  let c0_1063 : Index := 0#32
  ![v1953.toNat, 0]
def k0_off4 (k0_t2 : Fin k0_t2_loop.trips) : Fin 2 → Nat :=
  let c256_i32_1066 : BitVec 32 := 256#32
  let c0_i32_764 : BitVec 32 := 0#32
  let c1_i32_766 : BitVec 32 := 1#32
  let arg29 : BitVec 32 := Scf.iv c0_i32_764 c1_i32_766 k0_t2
  let v1958 : BitVec 32 := Scalar.addi c256_i32_1066 arg29
  let v1959 : Index := Scalar.indexCast v1958
  let c0_1067 : Index := 0#32
  ![v1959.toNat, 0]
@[reducible] def k0_t3_loop : Scf.Loop 32 :=
  let c0_i32_843 : BitVec 32 := 0#32
  let c256_i32_844 : BitVec 32 := 256#32
  let v1654 : BitVec 32 := Scalar.addi c0_i32_843 c256_i32_844
  let c1_i32_845 : BitVec 32 := 1#32
  ⟨c0_i32_843, v1654, c1_i32_845⟩
def k0_off5 (k0_t3 : Fin k0_t3_loop.trips) : Fin 2 → Nat :=
  let c512_i32 : BitVec 32 := 512#32
  let c0_i32_843 : BitVec 32 := 0#32
  let c1_i32_845 : BitVec 32 := 1#32
  let arg29 : BitVec 32 := Scf.iv c0_i32_843 c1_i32_845 k0_t3
  let v1952 : BitVec 32 := Scalar.addi c512_i32 arg29
  let v1953 : Index := Scalar.indexCast v1952
  let c0_1062 : Index := 0#32
  ![v1953.toNat, 0]
def k0_off6 (k0_t3 : Fin k0_t3_loop.trips) : Fin 2 → Nat :=
  let c512_i32_1065 : BitVec 32 := 512#32
  let c0_i32_843 : BitVec 32 := 0#32
  let c1_i32_845 : BitVec 32 := 1#32
  let arg29 : BitVec 32 := Scf.iv c0_i32_843 c1_i32_845 k0_t3
  let v1958 : BitVec 32 := Scalar.addi c512_i32_1065 arg29
  let v1959 : Index := Scalar.indexCast v1958
  let c0_1066 : Index := 0#32
  ![v1959.toNat, 0]
@[reducible] def k0_t4_loop : Scf.Loop 32 :=
  let c0_i32_922 : BitVec 32 := 0#32
  let c256_i32_923 : BitVec 32 := 256#32
  let v1775 : BitVec 32 := Scalar.addi c0_i32_922 c256_i32_923
  let c1_i32_924 : BitVec 32 := 1#32
  ⟨c0_i32_922, v1775, c1_i32_924⟩
def k0_off7 (k0_t4 : Fin k0_t4_loop.trips) : Fin 2 → Nat :=
  let c768_i32 : BitVec 32 := 768#32
  let c0_i32_922 : BitVec 32 := 0#32
  let c1_i32_924 : BitVec 32 := 1#32
  let arg29 : BitVec 32 := Scf.iv c0_i32_922 c1_i32_924 k0_t4
  let v1952 : BitVec 32 := Scalar.addi c768_i32 arg29
  let v1953 : Index := Scalar.indexCast v1952
  let c0_1062 : Index := 0#32
  ![v1953.toNat, 0]
def k0_off8 (k0_t4 : Fin k0_t4_loop.trips) : Fin 2 → Nat :=
  let c768_i32_1065 : BitVec 32 := 768#32
  let c0_i32_922 : BitVec 32 := 0#32
  let c1_i32_924 : BitVec 32 := 1#32
  let arg29 : BitVec 32 := Scf.iv c0_i32_922 c1_i32_924 k0_t4
  let v1958 : BitVec 32 := Scalar.addi c768_i32_1065 arg29
  let v1959 : Index := Scalar.indexCast v1958
  let c0_1066 : Index := 0#32
  ![v1959.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![c0_i32_4.toNat, v18.toNat, c0_i32_5.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![c0_i32_4.toNat, v18.toNat, c0_i32_5.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference5Ideal.lean ====
abbrev S4x8192x1024 : Shape := ⟨3, ![4, 8192, 1024]⟩
abbrev S2x1024 : Shape := ⟨2, ![2, 1024]⟩
abbrev S2x1024x3088 : Shape := ⟨3, ![2, 1024, 3088]⟩
abbrev S2x16x256 : Shape := ⟨3, ![2, 16, 256]⟩
abbrev S2x256 : Shape := ⟨2, ![2, 256]⟩
abbrev S2x3x512 : Shape := ⟨3, ![2, 3, 512]⟩
abbrev S2x128 : Shape := ⟨2, ![2, 128]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x3088 : Shape := ⟨3, ![1, 1024, 3088]⟩
abbrev S1024x3088 : Shape := ⟨2, ![1024, 3088]⟩
abbrev S4x8192x3088 : Shape := ⟨3, ![4, 8192, 3088]⟩
abbrev S4x8192x256 : Shape := ⟨3, ![4, 8192, 256]⟩
abbrev S4x8192x512 : Shape := ⟨3, ![4, 8192, 512]⟩
abbrev S4x8192x16 : Shape := ⟨3, ![4, 8192, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩
abbrev S4x8192x4x64 : Shape := ⟨4, ![4, 8192, 4, 64]⟩
abbrev S4x8192x4x128 : Shape := ⟨4, ![4, 8192, 4, 128]⟩
abbrev S64x64 : Shape := ⟨2, ![64, 64]⟩
abbrev S64x64x1 : Shape := ⟨3, ![64, 64, 1]⟩
abbrev S4x4x64x128 : Shape := ⟨4, ![4, 4, 64, 128]⟩
abbrev S4x128x64x4x64 : Shape := ⟨5, ![4, 128, 64, 4, 64]⟩
abbrev S128x4x4x64x64 : Shape := ⟨5, ![128, 4, 4, 64, 64]⟩
abbrev S4x128x64x4x128 : Shape := ⟨5, ![4, 128, 64, 4, 128]⟩
abbrev S128x4x4x64x128 : Shape := ⟨5, ![128, 4, 4, 64, 128]⟩
abbrev S1x4x4x64x64 : Shape := ⟨5, ![1, 4, 4, 64, 64]⟩
abbrev S4x4x64x64 : Shape := ⟨4, ![4, 4, 64, 64]⟩
abbrev S1x4x4x64x128 : Shape := ⟨5, ![1, 4, 4, 64, 128]⟩
abbrev S4x4x64x1x64 : Shape := ⟨5, ![4, 4, 64, 1, 64]⟩
abbrev S4x4x1x64x64 : Shape := ⟨5, ![4, 4, 1, 64, 64]⟩
abbrev S4x4x64x64x64 : Shape := ⟨5, ![4, 4, 64, 64, 64]⟩
abbrev S4x4x1x64 : Shape := ⟨4, ![4, 4, 1, 64]⟩
abbrev S4x4x64 : Shape := ⟨3, ![4, 4, 64]⟩
abbrev S4x4x64x1 : Shape := ⟨4, ![4, 4, 64, 1]⟩
abbrev S1x128 : Shape := ⟨2, ![1, 128]⟩
abbrev S128 : Shape := ⟨1, ![128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x8194x512 : Shape := ⟨3, ![4, 8194, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S256x1024 : Shape := ⟨2, ![256, 1024]⟩

abbrev nBuf : Space → Nat
  | .hbm => 263
  | .vmem => 0
  | .smem => 0
  | _ => 0

abbrev hbmTy0_0 (i : Nat) : BufTy := match i % 128 with
  | 0 => ⟨S4x8192x1024, .f32⟩
  | 1 => ⟨S2x1024, .f32⟩
  | 2 => ⟨S2x1024x3088, .f32⟩
  | 3 => ⟨S2x16x256, .f32⟩
  | 4 => ⟨S2x256, .f32⟩
  | 5 => ⟨S2x3x512, .f32⟩
  | 6 => ⟨S2x128, .f32⟩
  | 7 => ⟨S2x1024x1024, .f32⟩
  | 8 => ⟨S2x1024x5632, .f32⟩
  | 9 => ⟨S2x2816x1024, .f32⟩
  | 10 => ⟨S2x1024x1024, .f32⟩
  | 11 => ⟨S2x256x1024, .f32⟩
  | 12 => ⟨S1x1024, .f32⟩
  | 13 => ⟨S1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S1x1024x3088, .f32⟩
  | 31 => ⟨S1024x3088, .f32⟩
  | 32 => ⟨S4x8192x3088, .f32⟩
  | 33 => ⟨S4x8192x256, .f32⟩
  | 34 => ⟨S4x8192x256, .f32⟩
  | 35 => ⟨S4x8192x512, .f32⟩
  | 36 => ⟨S4x8192x512, .f32⟩
  | 37 => ⟨S4x8192x16, .f32⟩
  | 38 => ⟨S4x8192x512, .f32⟩
  | 39 => ⟨S4x8192x512, .f32⟩
  | 40 => ⟨S4x8192x512, .f32⟩
  | 41 => ⟨S1x16x256, .f32⟩
  | 42 => ⟨S16x256, .f32⟩
  | 43 => ⟨S4x8192x256, .f32⟩
  | 44 => ⟨S1x256, .f32⟩
  | 45 => ⟨S256, .f32⟩
  | 46 => ⟨S1x1x256, .f32⟩
  | 47 => ⟨S4x8192x256, .f32⟩
  | 48 => ⟨S4x8192x256, .f32⟩
  | 49 => ⟨S4x8192x256, .f32⟩
  | 50 => ⟨S_, .f32⟩
  | 51 => ⟨S4x8192x256, .f32⟩
  | 52 => ⟨S4x8192x256, .f32⟩
  | 53 => ⟨S4x8192x256, .f32⟩
  | 54 => ⟨S4x8192x256, .f32⟩
  | 55 => ⟨S4x8192x256, .i1⟩
  | 56 => ⟨S4x8192x256, .f32⟩
  | 57 => ⟨S4x8192x256, .f32⟩
  | 58 => ⟨S4x8192x256, .f32⟩
  | 59 => ⟨S4x8192x256, .f32⟩
  | 60 => ⟨S4x8192x256, .f32⟩
  | 61 => ⟨S4x8192x256, .f32⟩
  | 62 => ⟨S4x8192x256, .f32⟩
  | 63 => ⟨S4x8192x256, .f32⟩
  | 64 => ⟨S4x8192x256, .f32⟩
  | 65 => ⟨S_, .f32⟩
  | 66 => ⟨S4x8192x256, .f32⟩
  | 67 => ⟨S4x8192x256, .f32⟩
  | 68 => ⟨S4x8192x4x64, .f32⟩
  | 69 => ⟨S_, .f32⟩
  | 70 => ⟨S4x8192x4x64, .f32⟩
  | 71 => ⟨S4x8192x4x64, .f32⟩
  | 72 => ⟨S4x8192x4x64, .f32⟩
  | 73 => ⟨S4x8192x4x128, .f32⟩
  | 74 => ⟨S4x8192x4x64, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S64x64x1, .i1⟩
  | 87 => ⟨S_, .f32⟩
  | 88 => ⟨S4x4x64x128, .f32⟩
  | 89 => ⟨S4x128x64x4x64, .f32⟩
  | 90 => ⟨S128x4x4x64x64, .f32⟩
  | 91 => ⟨S4x128x64x4x64, .f32⟩
  | 92 => ⟨S128x4x4x64x64, .f32⟩
  | 93 => ⟨S4x128x64x4x128, .f32⟩
  | 94 => ⟨S128x4x4x64x128, .f32⟩
  | 95 => ⟨S4x128x64x4x64, .f32⟩
  | 96 => ⟨S128x4x4x64x64, .f32⟩
  | 97 => ⟨S_, .f32⟩
  | 98 => ⟨S128x4x4x64x128, .f32⟩
  | 99 => ⟨S_, .i32⟩
  | 100 => ⟨S128x4x4x64x64, .f32⟩
  | 101 => ⟨S128x4x4x64x64, .f32⟩
  | 102 => ⟨S128x4x4x64x128, .f32⟩
  | 103 => ⟨S128x4x4x64x64, .f32⟩
  | 104 => ⟨S64x64x1, .i1⟩
  | 105 => ⟨S_, .i32⟩
  | 106 => ⟨S4x4x64x128, .f32⟩
  | 107 => ⟨S128x4x4x64x128, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S1x4x4x64x64, .f32⟩
  | 115 => ⟨S4x4x64x64, .f32⟩
  | 116 => ⟨S_, .i32⟩
  | 117 => ⟨S_, .i32⟩
  | 118 => ⟨S_, .i32⟩
  | 119 => ⟨S_, .i32⟩
  | 120 => ⟨S1x4x4x64x64, .f32⟩
  | 121 => ⟨S4x4x64x64, .f32⟩
  | 122 => ⟨S_, .i32⟩
  | 123 => ⟨S_, .i32⟩
  | 124 => ⟨S_, .i32⟩
  | 125 => ⟨S_, .i32⟩
  | 126 => ⟨S1x4x4x64x128, .f32⟩
  | 127 => ⟨S4x4x64x128, .f32⟩
  | _ => ⟨S4x8192x1024, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x4x4x64x64, .f32⟩
  | 5 => ⟨S4x4x64x64, .f32⟩
  | 6 => ⟨S_, .f32⟩
  | 7 => ⟨S_, .f32⟩
  | 8 => ⟨S4x4x64x64, .f32⟩
  | 9 => ⟨S4x4x64x1x64, .f32⟩
  | 10 => ⟨S4x4x1x64x64, .f32⟩
  | 11 => ⟨S4x4x64x64x64, .f32⟩
  | 12 => ⟨S4x4x64x64x64, .f32⟩
  | 13 => ⟨S4x4x64x64x64, .f32⟩
  | 14 => ⟨S_, .f32⟩
  | 15 => ⟨S_, .f32⟩
  | 16 => ⟨S4x4x64x64x64, .i1⟩
  | 17 => ⟨S4x4x64x64x64, .f32⟩
  | 18 => ⟨S4x4x64x64x64, .f32⟩
  | 19 => ⟨S4x4x64x64x64, .f32⟩
  | 20 => ⟨S_, .f32⟩
  | 21 => ⟨S_, .f32⟩
  | 22 => ⟨S4x4x64x64x64, .i1⟩
  | 23 => ⟨S4x4x64x64x64, .f32⟩
  | 24 => ⟨S4x4x64x64x64, .f32⟩
  | 25 => ⟨S4x4x64x1x64, .f32⟩
  | 26 => ⟨S4x4x1x64x64, .f32⟩
  | 27 => ⟨S4x4x64x64x64, .f32⟩
  | 28 => ⟨S4x4x64x64x64, .f32⟩
  | 29 => ⟨S4x4x64x64x64, .f32⟩
  | 30 => ⟨S4x4x64x64x64, .f32⟩
  | 31 => ⟨S_, .f32⟩
  | 32 => ⟨S4x4x64x64, .f32⟩
  | 33 => ⟨S4x4x64x128, .f32⟩
  | 34 => ⟨S4x4x64x64, .f32⟩
  | 35 => ⟨S4x4x64x64, .f32⟩
  | 36 => ⟨S4x4x64x128, .f32⟩
  | 37 => ⟨S4x4x1x64, .f32⟩
  | 38 => ⟨S4x4x64, .f32⟩
  | 39 => ⟨S4x4x1x64, .f32⟩
  | 40 => ⟨S4x4x64x64, .f32⟩
  | 41 => ⟨S4x4x64x64, .f32⟩
  | 42 => ⟨S4x4x64x64, .f32⟩
  | 43 => ⟨S4x4x64x64, .f32⟩
  | 44 => ⟨S4x4x64, .f32⟩
  | 45 => ⟨S4x4x64x1, .f32⟩
  | 46 => ⟨S4x4x64x128, .f32⟩
  | 47 => ⟨S4x4x64x128, .f32⟩
  | 48 => ⟨S4x4x64x128, .f32⟩
  | 49 => ⟨S4x4x64x128, .f32⟩
  | 50 => ⟨S4x4x64x128, .f32⟩
  | 51 => ⟨S1x4x4x64x128, .f32⟩
  | 52 => ⟨S_, .i32⟩
  | 53 => ⟨S_, .i32⟩
  | 54 => ⟨S_, .i32⟩
  | 55 => ⟨S_, .i32⟩
  | 56 => ⟨S128x4x4x64x128, .f32⟩
  | 57 => ⟨S_, .i32⟩
  | 58 => ⟨S_, .i32⟩
  | 59 => ⟨S4x128x64x4x128, .f32⟩
  | 60 => ⟨S4x8192x4x128, .f32⟩
  | 61 => ⟨S4x8192x4x128, .f32⟩
  | 62 => ⟨S1x128, .f32⟩
  | 63 => ⟨S128, .f32⟩
  | 64 => ⟨S4x8192x4x128, .f32⟩
  | 65 => ⟨S_, .f32⟩
  | 66 => ⟨S4x8192x4, .f32⟩
  | 67 => ⟨S4x8192x4x1, .f32⟩
  | 68 => ⟨S_, .f32⟩
  | 69 => ⟨S4x8192x4x1, .f32⟩
  | 70 => ⟨S4x8192x4x1, .f32⟩
  | 71 => ⟨S_, .f32⟩
  | 72 => ⟨S4x8192x4x1, .f32⟩
  | 73 => ⟨S4x8192x4x1, .f32⟩
  | 74 => ⟨S4x8192x4x1, .f32⟩
  | 75 => ⟨S4x8192x4x128, .f32⟩
  | 76 => ⟨S4x8192x4x128, .f32⟩
  | 77 => ⟨S1x1x1x128, .f32⟩
  | 78 => ⟨S4x8192x4x128, .f32⟩
  | 79 => ⟨S4x8192x4x128, .f32⟩
  | 80 => ⟨S4x8192x4x128, .f32⟩
  | 81 => ⟨S4x8192x4x128, .f32⟩
  | 82 => ⟨S_, .f32⟩
  | 83 => ⟨S4x8192x4x128, .f32⟩
  | 84 => ⟨S4x8192x4x128, .f32⟩
  | 85 => ⟨S_, .f32⟩
  | 86 => ⟨S4x8192x4x128, .f32⟩
  | 87 => ⟨S4x8192x4x128, .f32⟩
  | 88 => ⟨S4x8192x4x128, .f32⟩
  | 89 => ⟨S4x8192x4x128, .f32⟩
  | 90 => ⟨S4x8192x512, .f32⟩
  | 91 => ⟨S4x8192x512, .f32⟩
  | 92 => ⟨S_, .i32⟩
  | 93 => ⟨S_, .f32⟩
  | 94 => ⟨S4x8194x512, .f32⟩
  | 95 => ⟨S1x3x512, .f32⟩
  | 96 => ⟨S3x512, .f32⟩
  | 97 => ⟨S1x512, .f32⟩
  | 98 => ⟨S512, .f32⟩
  | 99 => ⟨S4x8192x512, .f32⟩
  | 100 => ⟨S1x1x512, .f32⟩
  | 101 => ⟨S4x8192x512, .f32⟩
  | 102 => ⟨S4x8192x512, .f32⟩
  | 103 => ⟨S1x512, .f32⟩
  | 104 => ⟨S512, .f32⟩
  | 105 => ⟨S4x8192x512, .f32⟩
  | 106 => ⟨S1x1x512, .f32⟩
  | 107 => ⟨S4x8192x512, .f32⟩
  | 108 => ⟨S4x8192x512, .f32⟩
  | 109 => ⟨S4x8192x512, .f32⟩
  | 110 => ⟨S1x512, .f32⟩
  | 111 => ⟨S512, .f32⟩
  | 112 => ⟨S4x8192x512, .f32⟩
  | 113 => ⟨S1x1x512, .f32⟩
  | 114 => ⟨S4x8192x512, .f32⟩
  | 115 => ⟨S4x8192x512, .f32⟩
  | 116 => ⟨S4x8192x512, .f32⟩
  | 117 => ⟨S4x8192x512, .f32⟩
  | 118 => ⟨S4x8192x1024, .f32⟩
  | 119 => ⟨S1x1024x1024, .f32⟩
  | 120 => ⟨S1024x1024, .f32⟩
  | 121 => ⟨S4x8192x1024, .f32⟩
  | 122 => ⟨S4x8192x1024, .f32⟩
  | 123 => ⟨S1x1024x5632, .f32⟩
  | 124 => ⟨S1024x5632, .f32⟩
  | 125 => ⟨S1024x5632, .bf16⟩
  | 126 => ⟨S1x2816x1024, .f32⟩
  | 127 => ⟨S2816x1024, .f32⟩
  | _ => ⟨S4x8192x1024, .f32⟩

abbrev hbmTy0_2 (i : Nat) : BufTy := match i % 128 with
  | 0 => ⟨S2816x1024, .bf16⟩
  | 1 => ⟨S1x1024x1024, .f32⟩
  | 2 => ⟨S1024x1024, .f32⟩
  | 3 => ⟨S1024x1024, .bf16⟩
  | 4 => ⟨S1x256x1024, .f32⟩
  | 5 => ⟨S256x1024, .f32⟩
  | 6 => ⟨S256x1024, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_3 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c : Ref sig .tc := ⟨.hbm, 75, rfl⟩
abbrev main_v43 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_0 : Ref sig .tc := ⟨.hbm, 83, rfl⟩
abbrev main_call1_v5 : Ref sig .tc := ⟨.hbm, 84, rfl⟩
abbrev main_v44 : Ref sig .tc := ⟨.hbm, 85, rfl⟩
abbrev main_v45 : Ref sig .tc := ⟨.hbm, 86, rfl⟩
abbrev main_cst_4 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_5 : Ref sig .tc := ⟨.hbm, 97, rfl⟩
abbrev main_v55 : Ref sig .tc := ⟨.hbm, 98, rfl⟩
abbrev main_c_6 : Ref sig .tc := ⟨.hbm, 99, rfl⟩
abbrev main_v56_0 : Ref sig .tc := ⟨.hbm, 100, rfl⟩
abbrev main_v56_1 : Ref sig .tc := ⟨.hbm, 101, rfl⟩
abbrev main_v56_2 : Ref sig .tc := ⟨.hbm, 102, rfl⟩
abbrev main_v56_3 : Ref sig .tc := ⟨.hbm, 103, rfl⟩
abbrev main_v56_4 : Ref sig .tc := ⟨.hbm, 104, rfl⟩
abbrev main_v56_5 : Ref sig .tc := ⟨.hbm, 105, rfl⟩
abbrev main_v56_6 : Ref sig .tc := ⟨.hbm, 106, rfl⟩
abbrev main_v56_7 : Ref sig .tc := ⟨.hbm, 107, rfl⟩
abbrev main_while0c_c_18 : Ref sig .tc := ⟨.hbm, 108, rfl⟩
abbrev main_while0c_v120 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_call2_c_2 : Ref sig .tc := ⟨.hbm, 113, rfl⟩
abbrev main_while0b_call2_v0 : Ref sig .tc := ⟨.hbm, 114, rfl⟩
abbrev main_while0b_v120 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_c_1 : Ref sig .tc := ⟨.hbm, 118, rfl⟩
abbrev main_while0b_call3_c_2 : Ref sig .tc := ⟨.hbm, 119, rfl⟩
abbrev main_while0b_call3_v0 : Ref sig .tc := ⟨.hbm, 120, rfl⟩
abbrev main_while0b_v121 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_c_2 : Ref sig .tc := ⟨.hbm, 125, rfl⟩
abbrev main_while0b_call4_v0 : Ref sig .tc := ⟨.hbm, 126, rfl⟩
abbrev main_while0b_v122 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_call5_c_1 : Ref sig .tc := ⟨.hbm, 130, rfl⟩
abbrev main_while0b_call5_c_2 : Ref sig .tc := ⟨.hbm, 131, rfl⟩
abbrev main_while0b_call5_v0 : Ref sig .tc := ⟨.hbm, 132, rfl⟩
abbrev main_while0b_v123 : Ref sig .tc := ⟨.hbm, 133, rfl⟩
abbrev main_while0b_call6_call0_cst : Ref sig .tc := ⟨.hbm, 134, rfl⟩
abbrev main_while0b_call6_call0_v0 : Ref sig .tc := ⟨.hbm, 135, rfl⟩
abbrev main_while0b_v124 : Ref sig .tc := ⟨.hbm, 136, rfl⟩
abbrev main_while0b_v125 : Ref sig .tc := ⟨.hbm, 137, rfl⟩
abbrev main_while0b_v126 : Ref sig .tc := ⟨.hbm, 138, rfl⟩
abbrev main_while0b_v127 : Ref sig .tc := ⟨.hbm, 139, rfl⟩
abbrev main_while0b_v128 : Ref sig .tc := ⟨.hbm, 140, rfl⟩
abbrev main_while0b_v129 : Ref sig .tc := ⟨.hbm, 141, rfl⟩
abbrev main_while0b_cst_18 : Ref sig .tc := ⟨.hbm, 142, rfl⟩
abbrev main_while0b_call7_v0 : Ref sig .tc := ⟨.hbm, 143, rfl⟩
abbrev main_while0b_call7_v1 : Ref sig .tc := ⟨.hbm, 144, rfl⟩
abbrev main_while0b_call7_v2 : Ref sig .tc := ⟨.hbm, 145, rfl⟩
abbrev main_while0b_v130 : Ref sig .tc := ⟨.hbm, 146, rfl⟩
abbrev main_while0b_v131 : Ref sig .tc := ⟨.hbm, 147, rfl⟩
abbrev main_while0b_cst_19 : Ref sig .tc := ⟨.hbm, 148, rfl⟩
abbrev main_while0b_call8_v0 : Ref sig .tc := ⟨.hbm, 149, rfl⟩
abbrev main_while0b_call8_v1 : Ref sig .tc := ⟨.hbm, 150, rfl⟩
abbrev main_while0b_call8_v2 : Ref sig .tc := ⟨.hbm, 151, rfl⟩
abbrev main_while0b_v132 : Ref sig .tc := ⟨.hbm, 152, rfl⟩
abbrev main_while0b_v133 : Ref sig .tc := ⟨.hbm, 153, rfl⟩
abbrev main_while0b_v134 : Ref sig .tc := ⟨.hbm, 154, rfl⟩
abbrev main_while0b_v135 : Ref sig .tc := ⟨.hbm, 155, rfl⟩
abbrev main_while0b_v136 : Ref sig .tc := ⟨.hbm, 156, rfl⟩
abbrev main_while0b_v137 : Ref sig .tc := ⟨.hbm, 157, rfl⟩
abbrev main_while0b_v138 : Ref sig .tc := ⟨.hbm, 158, rfl⟩
abbrev main_while0b_cst_20 : Ref sig .tc := ⟨.hbm, 159, rfl⟩
abbrev main_while0b_v139 : Ref sig .tc := ⟨.hbm, 160, rfl⟩
abbrev main_while0b_v140 : Ref sig .tc := ⟨.hbm, 161, rfl⟩
abbrev main_while0b_v141 : Ref sig .tc := ⟨.hbm, 162, rfl⟩
abbrev main_while0b_v142 : Ref sig .tc := ⟨.hbm, 163, rfl⟩
abbrev main_while0b_v143 : Ref sig .tc := ⟨.hbm, 164, rfl⟩
abbrev main_while0b_v144 : Ref sig .tc := ⟨.hbm, 165, rfl⟩
abbrev main_while0b_v145 : Ref sig .tc := ⟨.hbm, 166, rfl⟩
abbrev main_while0b_v146 : Ref sig .tc := ⟨.hbm, 167, rfl⟩
abbrev main_while0b_v147 : Ref sig .tc := ⟨.hbm, 168, rfl⟩
abbrev main_while0b_v148 : Ref sig .tc := ⟨.hbm, 169, rfl⟩
abbrev main_while0b_v149 : Ref sig .tc := ⟨.hbm, 170, rfl⟩
abbrev main_while0b_v150 : Ref sig .tc := ⟨.hbm, 171, rfl⟩
abbrev main_while0b_v151 : Ref sig .tc := ⟨.hbm, 172, rfl⟩
abbrev main_while0b_v152 : Ref sig .tc := ⟨.hbm, 173, rfl⟩
abbrev main_while0b_v153 : Ref sig .tc := ⟨.hbm, 174, rfl⟩
abbrev main_while0b_v154 : Ref sig .tc := ⟨.hbm, 175, rfl⟩
abbrev main_while0b_v155 : Ref sig .tc := ⟨.hbm, 176, rfl⟩
abbrev main_while0b_v156 : Ref sig .tc := ⟨.hbm, 177, rfl⟩
abbrev main_while0b_v157 : Ref sig .tc := ⟨.hbm, 178, rfl⟩
abbrev main_while0b_call9_v0 : Ref sig .tc := ⟨.hbm, 179, rfl⟩
abbrev main_while0b_call9_c : Ref sig .tc := ⟨.hbm, 180, rfl⟩
abbrev main_while0b_call9_c_0 : Ref sig .tc := ⟨.hbm, 181, rfl⟩
abbrev main_while0b_call9_c_1 : Ref sig .tc := ⟨.hbm, 182, rfl⟩
abbrev main_while0b_call9_c_2 : Ref sig .tc := ⟨.hbm, 183, rfl⟩
abbrev main_while0b_v158 : Ref sig .tc := ⟨.hbm, 184, rfl⟩
abbrev main_while0b_c_21 : Ref sig .tc := ⟨.hbm, 185, rfl⟩
abbrev main_while0b_v159 : Ref sig .tc := ⟨.hbm, 186, rfl⟩
abbrev main_v57 : Ref sig .tc := ⟨.hbm, 187, rfl⟩
abbrev main_v58 : Ref sig .tc := ⟨.hbm, 188, rfl⟩
abbrev main_v59 : Ref sig .tc := ⟨.hbm, 189, rfl⟩
abbrev main_v60 : Ref sig .tc := ⟨.hbm, 190, rfl⟩
abbrev main_v61 : Ref sig .tc := ⟨.hbm, 191, rfl⟩
abbrev main_v62 : Ref sig .tc := ⟨.hbm, 192, rfl⟩
abbrev main_cst_7 : Ref sig .tc := ⟨.hbm, 193, rfl⟩
abbrev main_v63 : Ref sig .tc := ⟨.hbm, 194, rfl⟩
abbrev main_v64 : Ref sig .tc := ⟨.hbm, 195, rfl⟩
abbrev main_cst_8 : Ref sig .tc := ⟨.hbm, 196, rfl⟩
abbrev main_v65 : Ref sig .tc := ⟨.hbm, 197, rfl⟩
abbrev main_v66 : Ref sig .tc := ⟨.hbm, 198, rfl⟩
abbrev main_cst_9 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_call10_v0 : Ref sig .tc := ⟨.hbm, 208, rfl⟩
abbrev main_call10_v1 : Ref sig .tc := ⟨.hbm, 209, rfl⟩
abbrev main_call10_cst : Ref sig .tc := ⟨.hbm, 210, rfl⟩
abbrev main_call10_v2 : Ref sig .tc := ⟨.hbm, 211, rfl⟩
abbrev main_call10_v3 : Ref sig .tc := ⟨.hbm, 212, rfl⟩
abbrev main_call10_cst_0 : Ref sig .tc := ⟨.hbm, 213, rfl⟩
abbrev main_call10_v4 : Ref sig .tc := ⟨.hbm, 214, rfl⟩
abbrev main_call10_v5 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_c_10 : Ref sig .tc := ⟨.hbm, 220, rfl⟩
abbrev main_call11_v0 : Ref sig .tc := ⟨.hbm, 221, rfl⟩
abbrev main_v79 : Ref sig .tc := ⟨.hbm, 222, rfl⟩
abbrev main_v80 : Ref sig .tc := ⟨.hbm, 223, rfl⟩
abbrev main_v81 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_v97 : Ref sig .tc := ⟨.hbm, 240, rfl⟩
abbrev main_v98 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_v102 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_v110 : Ref sig .tc := ⟨.hbm, 253, rfl⟩
abbrev main_v111 : Ref sig .tc := ⟨.hbm, 254, rfl⟩
abbrev main_v112 : Ref sig .tc := ⟨.hbm, 255, rfl⟩
abbrev main_v113 : Ref sig .tc := ⟨.hbm, 256, rfl⟩
abbrev main_v114 : Ref sig .tc := ⟨.hbm, 257, rfl⟩
abbrev main_v115 : Ref sig .tc := ⟨.hbm, 258, rfl⟩
abbrev main_v116 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩

abbrev nD : Nat := 1
abbrev τ : Topo := Topo.v7x

variable {F : FTy → Type} [FloatOps F]

abbrev main_while0_count : Scf.Loop 32 := ⟨0#32, 128#32, 1#32⟩
-- ==== Proof.MixRun.lean ====
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conditional that nothing decides, in last position: each region runs under its own case of the condition. -/
theorem wp_ite {α : Type} {c : Thread nD τ} {E : Set ℕ} {Q : α → sProp 𝕄}
    {C : Prop} (dec : Decidable C) (p q : Prog (TpuEff nD τ sig (Elt F) Λ₀ c.2) α) :
    iprop((⌜C⌝ -∗ wp frame (wpE (defs₀ (F := F)) Variants.none c none) E p Q)
      ∧ (⌜¬C⌝ -∗ wp frame (wpE (defs₀ (F := F)) Variants.none c none) E q Q))
    ⊢ wp frame (wpE (defs₀ (F := F)) Variants.none c none) E (@ite _ C dec p q) Q := by
  by_cases hc : C
  · rw [if_pos hc]
    iintro ⟨H, -⟩
    iapply H
    ipureintro; exact hc
  · rw [if_neg hc]
    iintro ⟨-, H⟩
    iapply H
    ipureintro; exact hc

set_option maxHeartbeats 4000000 in
/-- The mixer's body at any grid point, from whatever its outputs and scratch hold: it ends, with its inputs kept, the last
    four outputs holding the casts of the last four inputs, and the first output and the scratch holding something. -/
theorem bodyRun (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1024x3200 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S1x3x512 .f32) (harg7 : arg7.IsWhole) (arg8 : Memref sig .tc .vmem S1x1x128 .f32) (harg8 : arg8.IsWhole) (arg9 : Memref sig .tc .vmem S1024x1024 .bf16) (harg9 : arg9.IsWhole) (arg10 : Memref sig .tc .vmem S1x32x5632 .f32) (harg10 : arg10.IsWhole) (arg11 : Memref sig .tc .vmem S1x176x1024 .f32) (harg11 : arg11.IsWhole) (arg12 : Memref sig .tc .vmem S1x32x1024 .f32) (harg12 : arg12.IsWhole) (arg13 : Memref sig .tc .vmem S1x16x1024 .f32) (harg13 : arg13.IsWhole) (arg14 : Memref sig .tc .vmem S1x1024x1024 .f32) (harg14 : arg14.IsWhole) (arg15 : Memref sig .tc .vmem S32x5632 .bf16) (harg15 : arg15.IsWhole) (arg16 : Memref sig .tc .vmem S176x1024 .bf16) (harg16 : arg16.IsWhole) (arg17 : Memref sig .tc .vmem S32x1024 .bf16) (harg17 : arg17.IsWhole) (arg18 : Memref sig .tc .vmem S16x1024 .bf16) (harg18 : arg18.IsWhole) (arg19 : Memref sig .tc .vmem S4x64x128 .f32) (harg19 : arg19.IsWhole) (arg20 : Memref sig .tc .vmem S1032x512 .f32) (harg20 : arg20.IsWhole) (arg21 : Memref sig .tc .vmem S1024x1024 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x512 .f32) (harg25 : arg25.IsWhole) (arg26 : Memref sig .tc .vmem S1024x512 .f32) (harg26 : arg26.IsWhole) (arg27 : Memref sig .tc .vmem S4x4x64x128 .f32) (harg27 : arg27.IsWhole) (arg28 : Memref sig .tc .vmem S256x512 .f32) (harg28 : arg28.IsWhole)
    (x0 : Vec F S1x1024x1024 .f32) (x1 : Vec F S1x1x1024 .f32) (x2 : Vec F S1024x3200 .bf16) (x3 : Vec F S1x128x256 .bf16) (x4 : Vec F S1x1x256 .f32) (x5 : Vec F S1x3x512 .f32) (x6 : Vec F S1x1x128 .f32) (x7 : Vec F S1024x1024 .bf16) (x8 : Vec F S1x32x5632 .f32) (x9 : Vec F S1x176x1024 .f32) (x10 : Vec F S1x32x1024 .f32) (x11 : Vec F S1x16x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare (k0_pay72 x8) ∗ owns (c : Thread nD τ) arg16 fullShare (k0_pay73 x9) ∗ owns (c : Thread nD τ) arg17 fullShare (k0_pay74 x10) ∗ owns (c : Thread nD τ) arg18 fullShare (k0_pay75 x11) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_mixer_eq_skeleton]; unfold cc0_mixer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec
  iapply (wp_ite (F := F) _ _ _)
  isplit
  · iintro %hc
    sl_exec
    sl_step
    iapply Hk
    isplitl [H2]
    · iexists _; isplitr; swap; · iexact H2
      ipureintro; first | exact hf2 | rfl
    isplitl [H3]
    · iexists _; isplitr; swap; · iexact H3
      ipureintro; first | exact hf3 | rfl
    isplitl [H4]
    · iexists _; isplitr; swap; · iexact H4
      ipureintro; first | exact hf4 | rfl
    isplitl [H5]
    · iexists _; isplitr; swap; · iexact H5
      ipureintro; first | exact hf5 | rfl
    isplitl [H6]
    · iexists _; isplitr; swap; · iexact H6
      ipureintro; first | exact hf6 | rfl
    isplitl [H7]
    · iexists _; isplitr; swap; · iexact H7
      ipureintro; first | exact hf7 | rfl
    isplitl [H8]
    · iexists _; isplitr; swap; · iexact H8
      ipureintro; first | exact hf8 | rfl
    isplitl [H9]
    · iexists _; isplitr; swap; · iexact H9
      ipureintro; first | exact hf9 | rfl
    isplitl [H10]
    · iexists _; isplitr; swap; · iexact H10
      ipureintro; first | exact hf10 | rfl
    isplitl [H11]
    · iexists _; isplitr; swap; · iexact H11
      ipureintro; first | exact hf11 | rfl
    isplitl [H12]
    · iexists _; isplitr; swap; · iexact H12
      ipureintro; first | exact hf12 | rfl
    isplitl [H13]
    · iexists _; isplitr; swap; · iexact H13
      ipureintro; first | exact hf13 | rfl
    isplitl [H14]
    · iexists _; iexists _; isplitr; swap; · iexact H14
      ipureintro; rfl
    isplitl [H15]
    · iexists _; isplitr; swap; · iexact H15
      ipureintro; exact (View.read_writes_full _ _ _ _ _).trans (congrArg k0_pay72 ((View.readAt_full _ _ _).trans (harg10.read_unread x8)))
    isplitl [H16]
    · iexists _; isplitr; swap; · iexact H16
      ipureintro; exact (View.read_writes_full _ _ _ _ _).trans (congrArg k0_pay73 ((View.readAt_full _ _ _).trans (harg11.read_unread x9)))
    isplitl [H17]
    · iexists _; isplitr; swap; · iexact H17
      ipureintro; exact (View.read_writes_full _ _ _ _ _).trans (congrArg k0_pay74 ((View.readAt_full _ _ _).trans (harg12.read_unread x10)))
    isplitl [H18]
    · iexists _; isplitr; swap; · iexact H18
      ipureintro; exact (View.read_writes_full _ _ _ _ _).trans (congrArg k0_pay75 ((View.readAt_full _ _ _).trans (harg13.read_unread x11)))
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    isplitl [H25]
    · iexists _; iexists _; isplitr; swap; · iexact H25
      ipureintro; rfl
    isplitl [H26]
    · iexists _; iexists _; isplitr; swap; · iexact H26
      ipureintro; rfl
    isplitl [H27]
    · iexists _; iexists _; isplitr; swap; · iexact H27
      ipureintro; rfl
    iexists _; iexists _; isplitr; swap; · iexact H28
    ipureintro; rfl
  · iintro %hc
    sl_exec
    sl_step
    iapply Hk
    isplitl [H2]
    · iexists _; isplitr; swap; · iexact H2
      ipureintro; first | exact hf2 | rfl
    isplitl [H3]
    · iexists _; isplitr; swap; · iexact H3
      ipureintro; first | exact hf3 | rfl
    isplitl [H4]
    · iexists _; isplitr; swap; · iexact H4
      ipureintro; first | exact hf4 | rfl
    isplitl [H5]
    · iexists _; isplitr; swap; · iexact H5
      ipureintro; first | exact hf5 | rfl
    isplitl [H6]
    · iexists _; isplitr; swap; · iexact H6
      ipureintro; first | exact hf6 | rfl
    isplitl [H7]
    · iexists _; isplitr; swap; · iexact H7
      ipureintro; first | exact hf7 | rfl
    isplitl [H8]
    · iexists _; isplitr; swap; · iexact H8
      ipureintro; first | exact hf8 | rfl
    isplitl [H9]
    · iexists _; isplitr; swap; · iexact H9
      ipureintro; first | exact hf9 | rfl
    isplitl [H10]
    · iexists _; isplitr; swap; · iexact H10
      ipureintro; first | exact hf10 | rfl
    isplitl [H11]
    · iexists _; isplitr; swap; · iexact H11
      ipureintro; first | exact hf11 | rfl
    isplitl [H12]
    · iexists _; isplitr; swap; · iexact H12
      ipureintro; first | exact hf12 | rfl
    isplitl [H13]
    · iexists _; isplitr; swap; · iexact H13
      ipureintro; first | exact hf13 | rfl
    isplitl [H14]
    · iexists _; iexists _; isplitr; swap; · iexact H14
      ipureintro; rfl
    isplitl [H15]
    · iexists _; isplitr; swap; · iexact H15
      ipureintro; exact (View.read_writes_full _ _ _ _ _).trans (congrArg k0_pay72 ((View.readAt_full _ _ _).trans (harg10.read_unread x8)))
    isplitl [H16]
    · iexists _; isplitr; swap; · iexact H16
      ipureintro; exact (View.read_writes_full _ _ _ _ _).trans (congrArg k0_pay73 ((View.readAt_full _ _ _).trans (harg11.read_unread x9)))
    isplitl [H17]
    · iexists _; isplitr; swap; · iexact H17
      ipureintro; exact (View.read_writes_full _ _ _ _ _).trans (congrArg k0_pay74 ((View.readAt_full _ _ _).trans (harg12.read_unread x10)))
    isplitl [H18]
    · iexists _; isplitr; swap; · iexact H18
      ipureintro; exact (View.read_writes_full _ _ _ _ _).trans (congrArg k0_pay75 ((View.readAt_full _ _ _).trans (harg13.read_unread x11)))
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    isplitl [H25]
    · iexists _; iexists _; isplitr; swap; · iexact H25
      ipureintro; rfl
    isplitl [H26]
    · iexists _; iexists _; isplitr; swap; · iexact H26
      ipureintro; rfl
    isplitl [H27]
    · iexists _; iexists _; isplitr; swap; · iexact H27
      ipureintro; rfl
    iexists _; iexists _; isplitr; swap; · iexact H28
    ipureintro; rfl

end Cert.KernelIdeal.Mix

end
-- ==== Proof.MixFrame.lean ====
module

public import proofs.«01_k».proof.Proof.MixRun
public import Idealize.ShloMosaic.Lib.Claim

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer 0 as the body names it. -/
abbrev scM0 := (Memref.whole cc0_scratch0 : Memref sig .tc _ _ _)
/-- The scratch buffer 1 as the body names it. -/
abbrev scM1 := (Memref.whole cc0_scratch1 : Memref sig .tc _ _ _)
/-- The scratch buffer 2 as the body names it. -/
abbrev scM2 := (Memref.whole cc0_scratch2 : Memref sig .tc _ _ _)
/-- The scratch buffer 3 as the body names it. -/
abbrev scM3 := (Memref.whole cc0_scratch3 : Memref sig .tc _ _ _)
/-- The scratch buffer 4 as the body names it. -/
abbrev scM4 := (Memref.whole cc0_scratch4 : Memref sig .tc _ _ _)
/-- The scratch buffer 5 as the body names it. -/
abbrev scM5 := (Memref.whole cc0_scratch5 : Memref sig .tc _ _ _)
/-- The scratch buffer 6 as the body names it. -/
abbrev scM6 := (Memref.whole cc0_scratch6 : Memref sig .tc _ _ _)
/-- The scratch buffer 7 as the body names it. -/
abbrev scM7 := (Memref.whole cc0_scratch7 : Memref sig .tc _ _ _)
/-- The scratch buffer 8 as the body names it. -/
abbrev scM8 := (Memref.whole cc0_scratch8 : Memref sig .tc _ _ _)
/-- The scratch buffer 9 as the body names it. -/
abbrev scM9 := (Memref.whole cc0_scratch9 : Memref sig .tc _ _ _)

/-- The region's own invariant: each scratch buffer at some contents, and the generator register. -/
theorem PhiA_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d)) ∗ (∃ r, prngReg c r)) := by
  unfold Pipeline.ΦA; rw [scopedRest0_eq]; simp only [scM0, scM1, scM2, scM3, scM4, scM5, scM6, scM7, scM8, scM9, owns_whole]; try rfl

/-- The first output, the stream, is not named. -/
def forgets0 : Fin 17 → Bool := fun w => decide (w.val = 12)

/-- The proof data: the inputs' buffers keep their blocks, the stream's holds something, the last four outputs' hold the casts of
    the last four inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => k0_pay72 (iblk m c 8 t)
    | ⟨14, _⟩ => k0_pay73 (iblk m c 9 t)
    | ⟨15, _⟩ => k0_pay74 (iblk m c 10 t)
    | ⟨16, _⟩ => k0_pay75 (iblk m c 11 t)
    | ⟨k + 17, h⟩ => absurd h (Nat.not_lt.mpr (Nat.le_add_left 17 k))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_13 (c : Dev nD) (t : Fin cfg0.N) : (dats m 0 c).after 13 t = k0_pay72 (iblk m c 8 t) := by dsimp only [dats]
theorem after0_14 (c : Dev nD) (t : Fin cfg0.N) : (dats m 0 c).after 14 t = k0_pay73 (iblk m c 9 t) := by dsimp only [dats]
theorem after0_15 (c : Dev nD) (t : Fin cfg0.N) : (dats m 0 c).after 15 t = k0_pay74 (iblk m c 10 t) := by dsimp only [dats]
theorem after0_16 (c : Dev nD) (t : Fin cfg0.N) : (dats m 0 c).after 16 t = k0_pay75 (iblk m c 11 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare d) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ d, owns (c : Thread nD τ) (st0_12 t) fullShare d) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_13, after0_14, after0_15, after0_16]
  rw [show (dats m 0 c).Φ t.castSucc = Pipeline.ΦA spec0 c from rfl, PhiA_eq]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, ⟨%d14, H14⟩, ⟨%d15, H15⟩, ⟨%d16, H16⟩⟩
  iapply (bodyRun c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, H10, H11, H12, H13, H14, H15, H16, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every execution ends, with every counter at zero and every array but the outputs as the region found it and the last
    four outputs' arrays at what the body left. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as the region found it. -/
theorem kept {c : Dev nD} {r : PUnit × MemSt nD τ sig (Elt F)}
    (h : (∀ w, ((dats m 0 c).toRForget forgets0).ArrAt w cfg0.N (r.2.mem ((cfg0.spec w).arr.view.loc (c.tc : Thread nD τ))))
      ∧ ∀ b ∈ Pipeline.restRefs sig cfg0.spec, r.2.mem ((c.tc : Thread nD τ).loc b) = V m c b)
    (w : Fin 17) (hw : (cfg0.win w).isOut = false) (hf : forgets0 w = false := by rfl) :
    r.2.mem ((cfg0.spec w).arr.view.loc (c.tc : Thread nD τ)) = V m c (Pipeline.arrRef spec0 w) :=
  (((dats m 0 c).toRForget_arrAt_iff hf _ _).mp (h.1 w)).trans (((dats m 0 c).arrAt_in w hw _).trans (A_eq m c w))

/-- A named output's array ends at what the body left, block after block. -/
theorem left {c : Dev nD} {r : PUnit × MemSt nD τ sig (Elt F)}
    (h : (∀ w, ((dats m 0 c).toRForget forgets0).ArrAt w cfg0.N (r.2.mem ((cfg0.spec w).arr.view.loc (c.tc : Thread nD τ))))
      ∧ ∀ b ∈ Pipeline.restRefs sig cfg0.spec, r.2.mem ((c.tc : Thread nD τ).loc b) = V m c b)
    (w : Fin 17) (hf : forgets0 w = false := by rfl) :
    r.2.mem ((cfg0.spec w).arr.view.loc (c.tc : Thread nD τ)) = (dats m 0 c).arrAt w cfg0.N :=
  ((dats m 0 c).toRForget_arrAt_iff hf _ _).mp (h.1 w)

/-- The arguments end as they were. -/
theorem argsKept {c : Dev nD} {r : PUnit × MemSt nD τ sig (Elt F)}
    (h : (∀ w, ((dats m 0 c).toRForget forgets0).ArrAt w cfg0.N (r.2.mem ((cfg0.spec w).arr.view.loc (c.tc : Thread nD τ))))
      ∧ ∀ b ∈ Pipeline.restRefs sig cfg0.spec, r.2.mem ((c.tc : Thread nD τ).loc b) = V m c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(kept m h 0 rfl).trans (V_main_arg0 m c),
    (h.2 main_arg1 (Pipeline.mem_restRefs_of main_arg1 (by decide) (by decide))).trans (V_main_arg1 m c),
    (h.2 main_arg2 (Pipeline.mem_restRefs_of main_arg2 (by decide) (by decide))).trans (V_main_arg2 m c),
    (h.2 main_arg3 (Pipeline.mem_restRefs_of main_arg3 (by decide) (by decide))).trans (V_main_arg3 m c),
    (h.2 main_arg4 (Pipeline.mem_restRefs_of main_arg4 (by decide) (by decide))).trans (V_main_arg4 m c),
    (kept m h 5 rfl).trans (V_main_arg5 m c),
    (h.2 main_arg6 (Pipeline.mem_restRefs_of main_arg6 (by decide) (by decide))).trans (V_main_arg6 m c),
    (h.2 main_arg7 (Pipeline.mem_restRefs_of main_arg7 (by decide) (by decide))).trans (V_main_arg7 m c),
    (kept m h 8 rfl).trans (V_main_arg8 m c),
    (kept m h 9 rfl).trans (V_main_arg9 m c),
    (kept m h 10 rfl).trans (V_main_arg10 m c),
    (kept m h 11 rfl).trans (V_main_arg11 m c)⟩

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => argsKept m (h.1 c), h.2⟩) (run_main m ρ)

end Cert.KernelIdeal.Mix

end
-- ==== Proof.KFrame.lean ====
/- The token mixer's frame as compiled. -/
module

public import proofs.«01_k».proof.Defs
public import proofs.«01_k».proof.Proof.Gen.Kernel
public import proofs.«01_k».proof.Proof.MixFrame

@[expose] public section

set_option maxRecDepth 16384

noncomputable section

namespace Cert.KFrame

open Idealize.ShloMosaic Idealize.ShloMosaic.Tactic Idealize.SL.Sem

/-- Every execution of the compiled mixer ends with its arguments as they were: the run of the other program,
whose text is the same. -/
theorem frame : Cert.quiescent_Kernel := fun m ρ _ =>
  cast (by sl_kernel_rfl) (Cert.KernelIdeal.Mix.frame (F := Bits) m ρ)

end Cert.KFrame

end
-- ==== Proof.MixRefFrame.lean ====
/- The token mixer's reference: its run, which keeps its arguments. -/
module

public import proofs.«01_k».proof.Proof.Gen.ReferenceIdeal.Run
public import Idealize.ShloMosaic.Adequacy

@[expose] public section

set_option maxRecDepth 16384

noncomputable section

namespace Cert.ReferenceIdeal.Mix

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The reference's arguments. -/
abbrev argRefs : List (Ref sig .tc) := [main_arg0, main_arg1, main_arg2, main_arg3, main_arg4, main_arg5, main_arg6, main_arg7, main_arg8, main_arg9, main_arg10, main_arg11]

theorem hostOps0_keeps (V : Valuation τ sig (Elt F)) {r : Ref sig .tc} (hr : r ∈ argRefs) :
    after hostOps0 V (Proc.devRef .tc r) = V (Proc.devRef .tc r) :=
  after_of_writes_sub (W := [main_v0, main_v1, main_v2, main_cst, main_v3, main_v4, main_cst_0, main_v5, main_v6, main_cst_1, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33]) _ V (forall_writes_sub_of_map rfl)
    (by revert r; decide)

theorem hostOps0_1_keeps (V : Valuation τ sig (Elt F)) {r : Ref sig .tc} (hr : r ∈ argRefs) :
    after hostOps0_1 V (Proc.devRef .tc r) = V (Proc.devRef .tc r) :=
  after_of_writes_sub (W := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v34]) _ V (forall_writes_sub_of_map rfl)
    (by revert r; decide)

theorem hostOps0_2_keeps (V : Valuation τ sig (Elt F)) {r : Ref sig .tc} (hr : r ∈ argRefs) :
    after hostOps0_2 V (Proc.devRef .tc r) = V (Proc.devRef .tc r) :=
  after_of_writes_sub (W := [main_cst_2, main_v35, main_v36, main_v37, main_cst_3, main_v38, main_v39, main_v40, main_v41, main_v42, main_c, main_v43]) _ V (forall_writes_sub_of_map rfl)
    (by revert r; decide)

theorem hostOps0_3_keeps (V : Valuation τ sig (Elt F)) {r : Ref sig .tc} (hr : r ∈ argRefs) :
    after hostOps0_3 V (Proc.devRef .tc r) = V (Proc.devRef .tc r) :=
  after_of_writes_sub (W := [main_call1_v0, main_call1_c, main_call1_v1, main_call1_v2, main_call1_v3, main_call1_v4, main_call1_c_0, main_call1_v5, main_v44]) _ V (forall_writes_sub_of_map rfl)
    (by revert r; decide)

theorem hostOps0_4_keeps (V : Valuation τ sig (Elt F)) {r : Ref sig .tc} (hr : r ∈ argRefs) :
    after hostOps0_4 V (Proc.devRef .tc r) = V (Proc.devRef .tc r) :=
  after_of_writes_sub (W := [main_v45, main_cst_4, main_v46, main_v47, main_v48, main_v49, main_v50, main_v51, main_v52, main_v53, main_v54, main_cst_5, main_v55, main_c_6, main_v56_0, main_v56_1, main_v56_2, main_v56_3, main_v56_4, main_v56_5, main_v56_6, main_v56_7]) _ V (forall_writes_sub_of_map rfl)
    (by revert r; decide)

theorem hostOps0_5_keeps (V : Valuation τ sig (Elt F)) {r : Ref sig .tc} (hr : r ∈ argRefs) :
    after hostOps0_5 V (Proc.devRef .tc r) = V (Proc.devRef .tc r) :=
  after_of_writes_sub (W := [main_v57, main_v58, main_v59, main_v60, main_v61, main_v62, main_cst_7, main_v63, main_v64, main_cst_8, main_v65, main_v66, main_cst_9, main_v67, main_v68, main_v69, main_v70, main_v71, main_v72, main_v73, main_v74]) _ V (forall_writes_sub_of_map rfl)
    (by revert r; decide)

theorem hostOps0_6_keeps (V : Valuation τ sig (Elt F)) {r : Ref sig .tc} (hr : r ∈ argRefs) :
    after hostOps0_6 V (Proc.devRef .tc r) = V (Proc.devRef .tc r) :=
  after_of_writes_sub (W := [main_call10_v0, main_call10_v1, main_call10_cst, main_call10_v2, main_call10_v3, main_call10_cst_0, main_call10_v4, main_call10_v5, main_v75]) _ V (forall_writes_sub_of_map rfl)
    (by revert r; decide)

theorem hostOps0_7_keeps (V : Valuation τ sig (Elt F)) {r : Ref sig .tc} (hr : r ∈ argRefs) :
    after hostOps0_7 V (Proc.devRef .tc r) = V (Proc.devRef .tc r) :=
  after_of_writes_sub (W := [main_v76, main_v77, main_v78, main_c_10]) _ V (forall_writes_sub_of_map rfl)
    (by revert r; decide)

theorem hostOps0_8_keeps (V : Valuation τ sig (Elt F)) {r : Ref sig .tc} (hr : r ∈ argRefs) :
    after hostOps0_8 V (Proc.devRef .tc r) = V (Proc.devRef .tc r) :=
  after_of_writes_sub (W := [main_call11_v0, main_v79]) _ V (forall_writes_sub_of_map rfl)
    (by revert r; decide)

theorem hostOps0_9_keeps (V : Valuation τ sig (Elt F)) {r : Ref sig .tc} (hr : r ∈ argRefs) :
    after hostOps0_9 V (Proc.devRef .tc r) = V (Proc.devRef .tc r) :=
  after_of_writes_sub (W := [main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119]) _ V (forall_writes_sub_of_map rfl)
    (by revert r; decide)

theorem while0Ops0_keeps (V : Valuation τ sig (Elt F)) {r : Ref sig .tc} (hr : r ∈ argRefs) :
    after while0Ops0 V (Proc.devRef .tc r) = V (Proc.devRef .tc r) :=
  after_of_writes_sub (W := [main_while0b_call2_c, main_while0b_call2_c_0, main_while0b_call2_c_1, main_while0b_call2_c_2, main_while0b_call2_v0, main_while0b_v120]) _ V (forall_writes_sub_of_map rfl)
    (by revert r; decide)

theorem while0Ops0_1_keeps (V : Valuation τ sig (Elt F)) {r : Ref sig .tc} (hr : r ∈ argRefs) :
    after while0Ops0_1 V (Proc.devRef .tc r) = V (Proc.devRef .tc r) :=
  after_of_writes_sub (W := [main_while0b_call3_c, main_while0b_call3_c_0, main_while0b_call3_c_1, main_while0b_call3_c_2, main_while0b_call3_v0, main_while0b_v121]) _ V (forall_writes_sub_of_map rfl)
    (by revert r; decide)

theorem while0Ops0_2_keeps (V : Valuation τ sig (Elt F)) {r : Ref sig .tc} (hr : r ∈ argRefs) :
    after while0Ops0_2 V (Proc.devRef .tc r) = V (Proc.devRef .tc r) :=
  after_of_writes_sub (W := [main_while0b_call4_c, main_while0b_call4_c_0, main_while0b_call4_c_1, main_while0b_call4_c_2, main_while0b_call4_v0, main_while0b_v122]) _ V (forall_writes_sub_of_map rfl)
    (by revert r; decide)

theorem while0Ops0_3_keeps (V : Valuation τ sig (Elt F)) {r : Ref sig .tc} (hr : r ∈ argRefs) :
    after while0Ops0_3 V (Proc.devRef .tc r) = V (Proc.devRef .tc r) :=
  after_of_writes_sub (W := [main_while0b_call5_c, main_while0b_call5_c_0, main_while0b_call5_c_1, main_while0b_call5_c_2, main_while0b_call5_v0, main_while0b_v123]) _ V (forall_writes_sub_of_map rfl)
    (by revert r; decide)

theorem while0Ops0_4_keeps (V : Valuation τ sig (Elt F)) {r : Ref sig .tc} (hr : r ∈ argRefs) :
    after while0Ops0_4 V (Proc.devRef .tc r) = V (Proc.devRef .tc r) :=
  after_of_writes_sub (W := [main_while0b_call6_call0_cst, main_while0b_call6_call0_v0, main_while0b_v124]) _ V (forall_writes_sub_of_map rfl)
    (by revert r; decide)

theorem while0Ops0_5_keeps (V : Valuation τ sig (Elt F)) {r : Ref sig .tc} (hr : r ∈ argRefs) :
    after while0Ops0_5 V (Proc.devRef .tc r) = V (Proc.devRef .tc r) :=
  after_of_writes_sub (W := [main_while0b_v125, main_while0b_v126, main_while0b_v127, main_while0b_v128, main_while0b_v129, main_while0b_cst_18]) _ V (forall_writes_sub_of_map rfl)
    (by revert r; decide)

theorem while0Ops0_6_keeps (V : Valuation τ sig (Elt F)) {r : Ref sig .tc} (hr : r ∈ argRefs) :
    after while0Ops0_6 V (Proc.devRef .tc r) = V (Proc.devRef .tc r) :=
  after_of_writes_sub (W := [main_while0b_call7_v0, main_while0b_call7_v1, main_while0b_call7_v2, main_while0b_v130]) _ V (forall_writes_sub_of_map rfl)
    (by revert r; decide)

theorem while0Ops0_7_keeps (V : Valuation τ sig (Elt F)) {r : Ref sig .tc} (hr : r ∈ argRefs) :
    after while0Ops0_7 V (Proc.devRef .tc r) = V (Proc.devRef .tc r) :=
  after_of_writes_sub (W := [main_while0b_v131, main_while0b_cst_19]) _ V (forall_writes_sub_of_map rfl)
    (by revert r; decide)

theorem while0Ops0_8_keeps (V : Valuation τ sig (Elt F)) {r : Ref sig .tc} (hr : r ∈ argRefs) :
    after while0Ops0_8 V (Proc.devRef .tc r) = V (Proc.devRef .tc r) :=
  after_of_writes_sub (W := [main_while0b_call8_v0, main_while0b_call8_v1, main_while0b_call8_v2, main_while0b_v132]) _ V (forall_writes_sub_of_map rfl)
    (by revert r; decide)

theorem while0Ops0_9_keeps (V : Valuation τ sig (Elt F)) {r : Ref sig .tc} (hr : r ∈ argRefs) :
    after while0Ops0_9 V (Proc.devRef .tc r) = V (Proc.devRef .tc r) :=
  after_of_writes_sub (W := [main_while0b_v133, main_while0b_v134, main_while0b_v135, main_while0b_v136, main_while0b_v137, main_while0b_v138, main_while0b_cst_20, main_while0b_v139, main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157]) _ V (forall_writes_sub_of_map rfl)
    (by revert r; decide)

theorem while0Ops0_10_keeps (V : Valuation τ sig (Elt F)) {r : Ref sig .tc} (hr : r ∈ argRefs) :
    after while0Ops0_10 V (Proc.devRef .tc r) = V (Proc.devRef .tc r) :=
  after_of_writes_sub (W := [main_while0b_call9_v0, main_while0b_call9_c, main_while0b_call9_c_0, main_while0b_call9_c_1, main_while0b_call9_c_2, main_while0b_v158]) _ V (forall_writes_sub_of_map rfl)
    (by revert r; decide)

theorem while0Ops0_11_keeps (V : Valuation τ sig (Elt F)) {r : Ref sig .tc} (hr : r ∈ argRefs) :
    after while0Ops0_11 V (Proc.devRef .tc r) = V (Proc.devRef .tc r) :=
  after_of_writes_sub (W := [main_while0b_c_21, main_while0b_v159, main_v56_5, main_v56_6, main_v56_7]) _ V (forall_writes_sub_of_map rfl)
    (by revert r; decide)

theorem condOps_keeps (V : Valuation τ sig (Elt F)) {r : Ref sig .tc} (hr : r ∈ argRefs) :
    after condOps V (Proc.devRef .tc r) = V (Proc.devRef .tc r) :=
  after_of_writes_sub (W := condOps_W) _ V condOps_writes (by revert r; decide)

theorem preI_keeps (V : Valuation τ sig (Elt F)) {r : Ref sig .tc} (hr : r ∈ argRefs) :
    afterL preI V (Proc.devRef .tc r) = V (Proc.devRef .tc r) := by
  simp only [preI, afterL_cons, afterL_nil]
  rw [hostOps0_4_keeps _ hr, hostOps0_3_keeps _ hr, hostOps0_2_keeps _ hr, hostOps0_1_keeps _ hr, hostOps0_keeps _ hr]

theorem postI_keeps (V : Valuation τ sig (Elt F)) {r : Ref sig .tc} (hr : r ∈ argRefs) :
    afterL postI V (Proc.devRef .tc r) = V (Proc.devRef .tc r) := by
  simp only [postI, afterL_cons, afterL_nil]
  rw [hostOps0_9_keeps _ hr, hostOps0_8_keeps _ hr, hostOps0_7_keeps _ hr, hostOps0_6_keeps _ hr, hostOps0_5_keeps _ hr]

theorem bodyI_keeps (V : Valuation τ sig (Elt F)) {r : Ref sig .tc} (hr : r ∈ argRefs) :
    afterL bodyI V (Proc.devRef .tc r) = V (Proc.devRef .tc r) := by
  simp only [bodyI, afterL_cons, afterL_nil]
  rw [while0Ops0_11_keeps _ hr, while0Ops0_10_keeps _ hr, while0Ops0_9_keeps _ hr, while0Ops0_8_keeps _ hr, while0Ops0_7_keeps _ hr, while0Ops0_6_keeps _ hr, while0Ops0_5_keeps _ hr, while0Ops0_4_keeps _ hr, while0Ops0_3_keeps _ hr, while0Ops0_2_keeps _ hr, while0Ops0_1_keeps _ hr, while0Ops0_keeps _ hr]

variable (m : (ℓ : Loc nD τ sig) → Buf (Elt F) ℓ) (ρ : Dev nD → PrngReg)

theorem atK_keeps (c : Dev nD) {r : Ref sig .tc} (hr : r ∈ argRefs) :
    ∀ k, atK m k c (Proc.devRef .tc r) = m ((c.tc : Thread nD τ).loc r)
  | 0 => preI_keeps _ hr
  | k + 1 => by
    show afterL bodyI (after condOps (atK m k c)) _ = _
    rw [bodyI_keeps _ hr, condOps_keeps _ hr, atK_keeps c hr k]

theorem final_keeps (c : Dev nD) {r : Ref sig .tc} (hr : r ∈ argRefs) :
    finalContents condOps preI bodyI postI 128 m c (Proc.devRef .tc r) = m ((c.tc : Thread nD τ).loc r) := by
  unfold finalContents
  rw [postI_keeps _ hr, condOps_keeps _ hr]
  exact atK_keeps m c hr 128

/-- Every execution of the reference ends with its arguments as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h c main_arg0 (by decide)).trans (final_keeps m c (by decide)),
    (h c main_arg1 (by decide)).trans (final_keeps m c (by decide)),
    (h c main_arg2 (by decide)).trans (final_keeps m c (by decide)),
    (h c main_arg3 (by decide)).trans (final_keeps m c (by decide)),
    (h c main_arg4 (by decide)).trans (final_keeps m c (by decide)),
    (h c main_arg5 (by decide)).trans (final_keeps m c (by decide)),
    (h c main_arg6 (by decide)).trans (final_keeps m c (by decide)),
    (h c main_arg7 (by decide)).trans (final_keeps m c (by decide)),
    (h c main_arg8 (by decide)).trans (final_keeps m c (by decide)),
    (h c main_arg9 (by decide)).trans (final_keeps m c (by decide)),
    (h c main_arg10 (by decide)).trans (final_keeps m c (by decide)),
    (h c main_arg11 (by decide)).trans (final_keeps m c (by decide))⟩, Idealize.ShloMosaic.sem_eq_zero_of_no_sems (by decide) r.2⟩) (run_fold m ρ)

end Cert.ReferenceIdeal.Mix

end
-- ==== Proof.FfnSpec.lean ====
/- The feed-forward call, one row at a time, over the extended reals: the functions of a row that both the kernel's blocks
   and the reference's arrays compute. -/
module

public import Idealize.ShloMosaic.Lib.Pointwise

@[expose] public section

noncomputable section

namespace Cert.FfnSpec

open Idealize.ShloMosaic

/-- The row length 1024 as the float constant both programs divide by. -/
def len : EReal := Ideal.ofBits .f32 0x44800000#32
/-- The constant both programs add under the root. -/
def eps : EReal := Ideal.ofBits .f32 0x358637BD#32

/-- RMS normalisation of a row `x` with gains `g`, at place `k`. -/
def nrm (x g : Fin 1024 → EReal) (k : Fin 1024) : EReal :=
  x k * Ideal.rsqrt (Ideal.div (∑ j, x j * x j) len + eps) * g k

/-- The gated unit: `a · σ(a) · b`. -/
def glu (a b : EReal) : EReal := a * Ideal.logistic a * b

/-- Hidden place `j` of a normalised row `u`: gate column `j`, value column `2816 + j`. -/
def hid (u : Fin 1024 → EReal) (w : Fin 1024 → Fin 5632 → EReal) (j : Fin 2816) : EReal :=
  glu (∑ i, u i * w i ⟨j.val, by omega⟩) (∑ i, u i * w i ⟨2816 + j.val, by omega⟩)

/-- The row after the gated unit's block. -/
def mid (x g : Fin 1024 → EReal) (w : Fin 1024 → Fin 5632 → EReal) (wd : Fin 2816 → Fin 1024 → EReal) (k : Fin 1024) : EReal :=
  x k + ∑ j, hid (nrm x g) w j * wd j k

/-- The row after the gated embedding: gate `σ(norm · wg)`, times the projected embedding. -/
def ple (h g : Fin 1024 → EReal) (wg : Fin 1024 → Fin 1024 → EReal) (p : Fin 256 → EReal) (wp : Fin 256 → Fin 1024 → EReal)
    (k : Fin 1024) : EReal :=
  h k + Ideal.logistic (∑ j, nrm h g j * wg j k) * ∑ j, p j * wp j k

/-- The whole call on one row. -/
def row (x : Fin 1024 → EReal) (p : Fin 256 → EReal) (g2 : Fin 1024 → EReal) (w : Fin 1024 → Fin 5632 → EReal)
    (wd : Fin 2816 → Fin 1024 → EReal) (g3 : Fin 1024 → EReal) (wg : Fin 1024 → Fin 1024 → EReal)
    (wp : Fin 256 → Fin 1024 → EReal) (gf : Fin 1024 → EReal) : Fin 1024 → EReal :=
  nrm (ple (mid x g2 w wd) g3 wg p wp) gf

/-- The column of the mixer's input weight that column `j` of the prepared weight holds: the low-rank gate's sixteen columns
stand last, and zeros after them. -/
def src (j : Fin 3200) : Option (Fin 3088) :=
  if h : j.val < 1536 then some ⟨j.val, by omega⟩
  else if h' : j.val < 3072 then some ⟨j.val + 16, by omega⟩
  else if h'' : j.val < 3088 then some ⟨j.val - 1536, by omega⟩
  else none

end Cert.FfnSpec

end
-- ==== Proof.FfnPay.lean ====
/- The feed-forward kernel's payloads at the extended reals, each at an index: the row functions of `FfnSpec`. -/
module

public import proofs.«01_k».proof.Proof.Gen.Kernel2Ideal.Skeleton
public import proofs.«01_k».proof.Proof.FfnSpec

@[expose] public section

set_option maxRecDepth 16384

noncomputable section

namespace Cert.Kernel2Ideal.Ffn

open Cert.Kernel2Ideal Cert.Kernel2Ideal.Gen Idealize.ShloMosaic Idealize.ShloMosaic.TcCoe Cert.FfnSpec

theorem pay2_apply (v0 : Vec Ideal S1x1024x256 .f32) (v3 : Vec Ideal S256x1024 .bf16) (r k : Fin 1024) :
    k0_pay2 v0 v3 (ix2 r k) = ∑ j : Fin 256, v0 (ix3 0 r j) * v3 (ix2 j k) := by
  unfold k0_pay2; pointwise

theorem pay3_apply (v7 : Vec Ideal S1024x1024 .f32) (v9 : Vec Ideal S1x1x1024 .f32) (r k : Fin 1024) :
    k0_pay3 v7 v9 (ix2 r k) = nrm (fun j => v7 (ix2 r j)) (fun j => v9 (ix3 0 0 j)) k := by
  unfold k0_pay3 nrm len eps; pointwise

theorem pay6_apply (u : FVec Ideal S1024x1024 .bf16) (a b : Vec Ideal S1024x256 .bf16) (r : Fin 1024) (k : Fin 256) :
    k0_pay6 u a b (ix2 r k) = glu (∑ i : Fin 1024, u (ix2 r i) * a (ix2 i k)) (∑ i : Fin 1024, u (ix2 r i) * b (ix2 i k)) := by
  unfold k0_pay6 glu; pointwise

theorem pay7_apply (u : FVec Ideal S1024x1024 .bf16) (a b : Vec Ideal S1024x256 .bf16) (r : Fin 1024) (k : Fin 256) :
    k0_pay7 u a b (ix2 r k) = glu (∑ i : Fin 1024, u (ix2 r i) * a (ix2 i k)) (∑ i : Fin 1024, u (ix2 r i) * b (ix2 i k)) := by
  unfold k0_pay7 glu; pointwise

theorem pay11_apply (u : FVec Ideal S1024x1024 .bf16) (a b : Vec Ideal S1024x256 .bf16) (r : Fin 1024) (k : Fin 256) :
    k0_pay11 u a b (ix2 r k) = glu (∑ i : Fin 1024, u (ix2 r i) * a (ix2 i k)) (∑ i : Fin 1024, u (ix2 r i) * b (ix2 i k)) := by
  unfold k0_pay11 glu; pointwise

theorem pay12_apply (u : FVec Ideal S1024x1024 .bf16) (a b : Vec Ideal S1024x256 .bf16) (r : Fin 1024) (k : Fin 256) :
    k0_pay12 u a b (ix2 r k) = glu (∑ i : Fin 1024, u (ix2 r i) * a (ix2 i k)) (∑ i : Fin 1024, u (ix2 r i) * b (ix2 i k)) := by
  unfold k0_pay12 glu; pointwise

theorem pay15_apply (u : FVec Ideal S1024x1024 .bf16) (a b : Vec Ideal S1024x256 .bf16) (r : Fin 1024) (k : Fin 256) :
    k0_pay15 u a b (ix2 r k) = glu (∑ i : Fin 1024, u (ix2 r i) * a (ix2 i k)) (∑ i : Fin 1024, u (ix2 r i) * b (ix2 i k)) := by
  unfold k0_pay15 glu; pointwise

theorem pay16_apply (u : FVec Ideal S1024x1024 .bf16) (a b : Vec Ideal S1024x256 .bf16) (r : Fin 1024) (k : Fin 256) :
    k0_pay16 u a b (ix2 r k) = glu (∑ i : Fin 1024, u (ix2 r i) * a (ix2 i k)) (∑ i : Fin 1024, u (ix2 r i) * b (ix2 i k)) := by
  unfold k0_pay16 glu; pointwise

theorem pay17_apply (u : FVec Ideal S1024x1024 .bf16) (a b : Vec Ideal S1024x256 .bf16) (r : Fin 1024) (k : Fin 256) :
    k0_pay17 u a b (ix2 r k) = glu (∑ i : Fin 1024, u (ix2 r i) * a (ix2 i k)) (∑ i : Fin 1024, u (ix2 r i) * b (ix2 i k)) := by
  unfold k0_pay17 glu; pointwise

theorem pay18_apply (u : FVec Ideal S1024x1024 .bf16) (a b : Vec Ideal S1024x256 .bf16) (r : Fin 1024) (k : Fin 256) :
    k0_pay18 u a b (ix2 r k) = glu (∑ i : Fin 1024, u (ix2 r i) * a (ix2 i k)) (∑ i : Fin 1024, u (ix2 r i) * b (ix2 i k)) := by
  unfold k0_pay18 glu; pointwise

theorem pay4_apply (v7 : Vec Ideal S1024x1024 .f32) (v9 : Vec Ideal S1x1x1024 .f32) (a b : Vec Ideal S1024x256 .bf16) (r : Fin 1024) (k : Fin 256) :
    (k0_pay5 (k0_pay4 v7 v9 a b)) (ix2 r k) = glu (∑ i : Fin 1024, (k0_pay3 v7 v9) (ix2 r i) * a (ix2 i k)) (∑ i : Fin 1024, (k0_pay3 v7 v9) (ix2 r i) * b (ix2 i k)) := by
  unfold k0_pay5 k0_pay4 glu; pointwise

theorem pay10_apply (u : FVec Ideal S1024x1024 .bf16) (a b : Vec Ideal S1024x256 .bf16) (r : Fin 1024) (k : Fin 256) :
    (k0_pay10 (k0_pay8 u a) (k0_pay9 u b)) (ix2 r k) = glu (∑ i : Fin 1024, u (ix2 r i) * a (ix2 i k)) (∑ i : Fin 1024, u (ix2 r i) * b (ix2 i k)) := by
  unfold k0_pay10 k0_pay8 k0_pay9 glu; pointwise

theorem pay14_apply (u : FVec Ideal S1024x1024 .bf16) (a b : Vec Ideal S1024x256 .bf16) (r : Fin 1024) (k : Fin 256) :
    (k0_pay14 u (k0_pay13 u a) b) (ix2 r k) = glu (∑ i : Fin 1024, u (ix2 r i) * a (ix2 i k)) (∑ i : Fin 1024, u (ix2 r i) * b (ix2 i k)) := by
  unfold k0_pay14 k0_pay13 glu; pointwise

theorem pay19_apply (x : Vec Ideal S256x1024 .f32) (h : Vec Ideal S256x2816 .bf16) (w : Vec Ideal S2816x1024 .bf16) (r : Fin 256) (k : Fin 1024) :
    k0_pay19 x h w (ix2 r k) = x (ix2 r k) + ∑ j : Fin 2816, h (ix2 r j) * w (ix2 j k) := by
  unfold k0_pay19; pointwise

theorem pay20_apply (x : Vec Ideal S256x1024 .f32) (h : Vec Ideal S256x2816 .bf16) (w : Vec Ideal S2816x1024 .bf16) (r : Fin 256) (k : Fin 1024) :
    k0_pay20 x h w (ix2 r k) = x (ix2 r k) + ∑ j : Fin 2816, h (ix2 r j) * w (ix2 j k) := by
  unfold k0_pay20; pointwise

theorem pay21_apply (x : Vec Ideal S256x1024 .f32) (h : Vec Ideal S256x2816 .bf16) (w : Vec Ideal S2816x1024 .bf16) (r : Fin 256) (k : Fin 1024) :
    k0_pay21 x h w (ix2 r k) = x (ix2 r k) + ∑ j : Fin 2816, h (ix2 r j) * w (ix2 j k) := by
  unfold k0_pay21; pointwise

theorem pay22_apply (x : Vec Ideal S256x1024 .f32) (h : Vec Ideal S256x2816 .bf16) (w : Vec Ideal S2816x1024 .bf16) (r : Fin 256) (k : Fin 1024) :
    k0_pay22 x h w (ix2 r k) = x (ix2 r k) + ∑ j : Fin 2816, h (ix2 r j) * w (ix2 j k) := by
  unfold k0_pay22; pointwise

theorem gate0_apply (h : FVec Ideal S256x1024 .f32) (g : Vec Ideal S1x1x1024 .f32) (w : Vec Ideal S1024x1024 .bf16) (r : Fin 256) (k : Fin 1024) :
    (k0_pay24 (k0_pay23 h g) w) (ix2 r k) = Ideal.logistic (∑ j : Fin 1024, nrm (fun i => h (ix2 r i)) (fun i => g (ix3 0 0 i)) j * w (ix2 j k)) := by
  unfold k0_pay24 k0_pay23 nrm len eps; pointwise

theorem gate1_apply (h : FVec Ideal S256x1024 .f32) (g : Vec Ideal S1x1x1024 .f32) (w : Vec Ideal S1024x1024 .bf16) (r : Fin 256) (k : Fin 1024) :
    (k0_pay25 h g w) (ix2 r k) = Ideal.logistic (∑ j : Fin 1024, nrm (fun i => h (ix2 r i)) (fun i => g (ix3 0 0 i)) j * w (ix2 j k)) := by
  unfold k0_pay25 nrm len eps; pointwise

theorem gate2_apply (h : FVec Ideal S256x1024 .f32) (g : Vec Ideal S1x1x1024 .f32) (w : Vec Ideal S1024x1024 .bf16) (r : Fin 256) (k : Fin 1024) :
    (k0_pay27 (k0_pay26 h g) w) (ix2 r k) = Ideal.logistic (∑ j : Fin 1024, nrm (fun i => h (ix2 r i)) (fun i => g (ix3 0 0 i)) j * w (ix2 j k)) := by
  unfold k0_pay27 k0_pay26 nrm len eps; pointwise

theorem gate3_apply (h : FVec Ideal S256x1024 .f32) (g : Vec Ideal S1x1x1024 .f32) (w : Vec Ideal S1024x1024 .bf16) (r : Fin 256) (k : Fin 1024) :
    (k0_pay28 h g w) (ix2 r k) = Ideal.logistic (∑ j : Fin 1024, nrm (fun i => h (ix2 r i)) (fun i => g (ix3 0 0 i)) j * w (ix2 j k)) := by
  unfold k0_pay28 nrm len eps; pointwise

theorem fin0_apply (h a : FVec Ideal S256x1024 .f32) (q : Vec Ideal S256x1024 .f32) (g : Vec Ideal S1x1024 .f32) (r : Fin 256) (k : Fin 1024) :
    k0_pay29 h a q g (ix2 r k) = nrm (fun j => h (ix2 r j) + a (ix2 r j) * q (ix2 r j)) (fun j => g (ix2 0 j)) k := by
  unfold k0_pay29 nrm len eps; pointwise

theorem fin1_apply (h a : FVec Ideal S256x1024 .f32) (q : Vec Ideal S256x1024 .f32) (g : Vec Ideal S1x1024 .f32) (r : Fin 256) (k : Fin 1024) :
    k0_pay30 h a q g (ix2 r k) = nrm (fun j => h (ix2 r j) + a (ix2 r j) * q (ix2 r j)) (fun j => g (ix2 0 j)) k := by
  unfold k0_pay30 nrm len eps; pointwise

theorem fin2_apply (h a : FVec Ideal S256x1024 .f32) (q : Vec Ideal S256x1024 .f32) (g : Vec Ideal S1x1024 .f32) (r : Fin 256) (k : Fin 1024) :
    k0_pay31 h a q g (ix2 r k) = nrm (fun j => h (ix2 r j) + a (ix2 r j) * q (ix2 r j)) (fun j => g (ix2 0 j)) k := by
  unfold k0_pay31 nrm len eps; pointwise

theorem fin3_apply (h a : FVec Ideal S256x1024 .f32) (q : Vec Ideal S256x1024 .f32) (g : Vec Ideal S1x1024 .f32) (r : Fin 256) (k : Fin 1024) :
    k0_pay1 h a q g (ix2 r k) = nrm (fun j => h (ix2 r j) + a (ix2 r j) * q (ix2 r j)) (fun j => g (ix2 0 j)) k := by
  unfold k0_pay1 nrm len eps; pointwise

end Cert.Kernel2Ideal.Ffn

end
-- ==== Proof.FfnOut.lean ====
/- What the feed-forward kernel's body leaves in its output block, row by row: the hidden scratch's eleven stores are the
   columns of one matrix, the four final stores the row quarters of one block. -/
module

public import proofs.«01_k».proof.Proof.Gen.Kernel2Ideal.Value
public import proofs.«01_k».proof.Proof.FfnPay
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.ShloMosaic.Tactic Cert.FfnSpec

theorem hz2 : (![0, 0] : Fin 2 → Nat) = fun _ => 0 := funext fun a => by fin_cases a <;> rfl
theorem hz3 : (![0, 0, 0] : Fin 3 → Nat) = fun _ => 0 := funext fun a => by fin_cases a <;> rfl

/-- The hidden matrix of a block. -/
def hidMat (x0 : Vec Ideal S1024x1024 .f32) (x2 : Vec Ideal S1x1x1024 .f32) (x3 : Vec Ideal S1024x5632 .bf16) : Vec Ideal S1024x2816 .bf16 :=
  fun y => hid (nrm (fun j => x0 (ix2 ⟨(y 0).val, (y 0).isLt⟩ j)) (fun j => x2 (ix3 0 0 j))) (fun a b => x3 (ix2 a b)) ⟨(y 1).val, (y 1).isLt⟩

/-- A store of columns `o … o+255` whose entries are the gated unit of columns `o` and `2816 + o` is a block of `hidMat`. -/
theorem piece_hid (x0 : Vec Ideal S1024x1024 .f32) (x2 : Vec Ideal S1x1x1024 .f32) (x3 : Vec Ideal S1024x5632 .bf16) (o o' : ℕ) (ho : o' = 2816 + o)
    (inb : ∀ a, (![0, o] : Fin 2 → Nat) a + S1024x256.size a ≤ S1024x2816.size a)
    (inl : ∀ a, (![0, o] : Fin 2 → Nat) a + S1024x256.size a ≤ S1024x5632.size a)
    (inr : ∀ a, (![0, o'] : Fin 2 → Nat) a + S1024x256.size a ≤ S1024x5632.size a)
    (w : Vec Ideal S1024x256 .bf16)
    (hw : ∀ (r : Fin 1024) (k : Fin 256), w (ix2 r k) =
      glu (∑ i : Fin 1024, k0_pay3 x0 x2 (ix2 r i) * View.ld x3 (Rect.unit (s := S1024x5632) ![0, o] S1024x256.size inl) (ix2 i k))
        (∑ i : Fin 1024, k0_pay3 x0 x2 (ix2 r i) * View.ld x3 (Rect.unit (s := S1024x5632) ![0, o'] S1024x256.size inr) (ix2 i k)))
    (x : (Rect.unit (s := S1024x2816) ![0, o] S1024x256.size inb).shape.Idx) :
    w x = hidMat x0 x2 x3 ((Rect.unit (s := S1024x2816) ![0, o] S1024x256.size inb).emb x) := by
  subst ho
  obtain ⟨r, k, rfl⟩ : ∃ (r : Fin 1024) (k : Fin 256), x = ix2 r k := ⟨x 0, x 1, funext fun a => by match a with | ⟨0, _⟩ => rfl | ⟨1, _⟩ => rfl⟩
  have e0 : ((Rect.unit (s := S1024x2816) ![0, o] S1024x256.size inb).emb (ix2 r k) 0).val = r.val := by
    show 0 + 1 * r.val = _; omega
  have e1 : ((Rect.unit (s := S1024x2816) ![0, o] S1024x256.size inb).emb (ix2 r k) 1).val = o + k.val := by
    show o + 1 * k.val = _; omega
  refine (hw r k).trans ?_
  unfold hidMat hid
  simp only [pay3_apply, e0, e1]
  have key : ∀ (o'' : ℕ) (inl : ∀ a, (![0, o''] : Fin 2 → Nat) a + S1024x256.size a ≤ S1024x5632.size a) (i : Fin 1024) (n : Fin 5632) (hn : n.val = o'' + k.val),
      View.ld x3 (Rect.unit (s := S1024x5632) ![0, o''] S1024x256.size inl) (ix2 i k) = x3 (ix2 i n) := by
    intro o'' inl i n hn
    refine congrArg x3 (funext fun a => Fin.ext ?_)
    match a with
    | ⟨0, _⟩ => show 0 + 1 * i.val = i.val; omega
    | ⟨1, _⟩ => show o'' + 1 * k.val = n.val; omega
  have hk : o + k.val < 2816 := by have := inb 1; simp at this; omega
  congr 1
  · exact Finset.sum_congr rfl fun i _ => by rw [key o inl i ⟨o + k.val, by omega⟩ rfl]
  · exact Finset.sum_congr rfl fun i _ => by rw [key (2816 + o) inr i ⟨2816 + (o + k.val), by omega⟩ (by show 2816 + (o + k.val) = _; omega)]

set_option maxHeartbeats 1000000 in
/-- The hidden scratch after its eleven stores. -/
theorem hid_canon (x0 : Vec Ideal S1024x1024 .f32) (x2 : Vec Ideal S1x1x1024 .f32) (x3 : Vec Ideal S1024x5632 .bf16) :
    View.canon ([
      ⟨Rect.unit (s := S1024x2816) ![0, 2560] ![1024, 256] inb_S1024x2816_S1024x256_0_2560, k0_pay18 (k0_pay3 x0 x2) (View.ld x3 (Rect.unit (s := S1024x5632) ![0, 2560] ![1024, 256] inb_S1024x5632_S1024x256_0_2560)) (View.ld x3 (Rect.unit (s := S1024x5632) ![0, 5376] ![1024, 256] inb_S1024x5632_S1024x256_0_5376))⟩,
      ⟨Rect.unit (s := S1024x2816) ![0, 2304] ![1024, 256] inb_S1024x2816_S1024x256_0_2304, k0_pay17 (k0_pay3 x0 x2) (View.ld x3 (Rect.unit (s := S1024x5632) ![0, 2304] ![1024, 256] inb_S1024x5632_S1024x256_0_2304)) (View.ld x3 (Rect.unit (s := S1024x5632) ![0, 5120] ![1024, 256] inb_S1024x5632_S1024x256_0_5120))⟩,
      ⟨Rect.unit (s := S1024x2816) ![0, 2048] ![1024, 256] inb_S1024x2816_S1024x256_0_2048, k0_pay16 (k0_pay3 x0 x2) (View.ld x3 (Rect.unit (s := S1024x5632) ![0, 2048] ![1024, 256] inb_S1024x5632_S1024x256_0_2048)) (View.ld x3 (Rect.unit (s := S1024x5632) ![0, 4864] ![1024, 256] inb_S1024x5632_S1024x256_0_4864))⟩,
      ⟨Rect.unit (s := S1024x2816) ![0, 1792] ![1024, 256] inb_S1024x2816_S1024x256_0_1792, k0_pay15 (k0_pay3 x0 x2) (View.ld x3 (Rect.unit (s := S1024x5632) ![0, 1792] ![1024, 256] inb_S1024x5632_S1024x256_0_1792)) (View.ld x3 (Rect.unit (s := S1024x5632) ![0, 4608] ![1024, 256] inb_S1024x5632_S1024x256_0_4608))⟩,
      ⟨Rect.unit (s := S1024x2816) ![0, 1536] ![1024, 256] inb_S1024x2816_S1024x256_0_1536, k0_pay14 (k0_pay3 x0 x2) (k0_pay13 (k0_pay3 x0 x2) (View.ld x3 (Rect.unit (s := S1024x5632) ![0, 1536] ![1024, 256] inb_S1024x5632_S1024x256_0_1536))) (View.ld x3 (Rect.unit (s := S1024x5632) ![0, 4352] ![1024, 256] inb_S1024x5632_S1024x256_0_4352))⟩,
      ⟨Rect.unit (s := S1024x2816) ![0, 1280] ![1024, 256] inb_S1024x2816_S1024x256_0_1280, k0_pay12 (k0_pay3 x0 x2) (View.ld x3 (Rect.unit (s := S1024x5632) ![0, 1280] ![1024, 256] inb_S1024x5632_S1024x256_0_1280)) (View.ld x3 (Rect.unit (s := S1024x5632) ![0, 4096] ![1024, 256] inb_S1024x5632_S1024x256_0_4096))⟩,
      ⟨Rect.unit (s := S1024x2816) ![0, 1024] ![1024, 256] inb_S1024x2816_S1024x256_0_1024, k0_pay11 (k0_pay3 x0 x2) (View.ld x3 (Rect.unit (s := S1024x5632) ![0, 1024] ![1024, 256] inb_S1024x5632_S1024x256_0_1024)) (View.ld x3 (Rect.unit (s := S1024x5632) ![0, 3840] ![1024, 256] inb_S1024x5632_S1024x256_0_3840))⟩,
      ⟨Rect.unit (s := S1024x2816) ![0, 768] ![1024, 256] inb_S1024x2816_S1024x256_0_768, k0_pay10 (k0_pay8 (k0_pay3 x0 x2) (View.ld x3 (Rect.unit (s := S1024x5632) ![0, 768] ![1024, 256] inb_S1024x5632_S1024x256_0_768))) (k0_pay9 (k0_pay3 x0 x2) (View.ld x3 (Rect.unit (s := S1024x5632) ![0, 3584] ![1024, 256] inb_S1024x5632_S1024x256_0_3584)))⟩,
      ⟨Rect.unit (s := S1024x2816) ![0, 512] ![1024, 256] inb_S1024x2816_S1024x256_0_512, k0_pay7 (k0_pay3 x0 x2) (View.ld x3 (Rect.unit (s := S1024x5632) ![0, 512] ![1024, 256] inb_S1024x5632_S1024x256_0_512)) (View.ld x3 (Rect.unit (s := S1024x5632) ![0, 3328] ![1024, 256] inb_S1024x5632_S1024x256_0_3328))⟩,
      ⟨Rect.unit (s := S1024x2816) ![0, 256] ![1024, 256] inb_S1024x2816_S1024x256_0_256, k0_pay6 (k0_pay3 x0 x2) (View.ld x3 (Rect.unit (s := S1024x5632) ![0, 256] ![1024, 256] inb_S1024x5632_S1024x256_0_256)) (View.ld x3 (Rect.unit (s := S1024x5632) ![0, 3072] ![1024, 256] inb_S1024x5632_S1024x256_0_3072))⟩,
      ⟨Rect.unit (s := S1024x2816) ![0, 0] ![1024, 256] inb_S1024x2816_S1024x256_0_0, k0_pay5 (k0_pay4 x0 x2 (View.ld x3 (Rect.unit (s := S1024x5632) ![0, 0] ![1024, 256] inb_S1024x5632_S1024x256_0_0)) (View.ld x3 (Rect.unit (s := S1024x5632) ![0, 2816] ![1024, 256] inb_S1024x5632_S1024x256_0_2816)))⟩] : List (View.Piece (Elt Ideal) S1024x2816 .bf16)) = hidMat x0 x2 x3 := by
  funext y
  refine View.canon_apply_of_pieces (hidMat x0 x2 x3) _ (View.PiecesOf.mem ?_) y (View.cover_of_tiledBy _ ![1024, 256] (by sl_kernel_rfl) y)
  refine ⟨?_, ?_, ?_, ?_, ?_, ?_, ?_, ?_, ?_, ?_, ?_, trivial⟩
  · exact piece_hid x0 x2 x3 2560 5376 rfl inb_S1024x2816_S1024x256_0_2560 inb_S1024x5632_S1024x256_0_2560 inb_S1024x5632_S1024x256_0_5376 _ (pay18_apply _ _ _)
  · exact piece_hid x0 x2 x3 2304 5120 rfl inb_S1024x2816_S1024x256_0_2304 inb_S1024x5632_S1024x256_0_2304 inb_S1024x5632_S1024x256_0_5120 _ (pay17_apply _ _ _)
  · exact piece_hid x0 x2 x3 2048 4864 rfl inb_S1024x2816_S1024x256_0_2048 inb_S1024x5632_S1024x256_0_2048 inb_S1024x5632_S1024x256_0_4864 _ (pay16_apply _ _ _)
  · exact piece_hid x0 x2 x3 1792 4608 rfl inb_S1024x2816_S1024x256_0_1792 inb_S1024x5632_S1024x256_0_1792 inb_S1024x5632_S1024x256_0_4608 _ (pay15_apply _ _ _)
  · exact piece_hid x0 x2 x3 1536 4352 rfl inb_S1024x2816_S1024x256_0_1536 inb_S1024x5632_S1024x256_0_1536 inb_S1024x5632_S1024x256_0_4352 _ (pay14_apply _ _ _)
  · exact piece_hid x0 x2 x3 1280 4096 rfl inb_S1024x2816_S1024x256_0_1280 inb_S1024x5632_S1024x256_0_1280 inb_S1024x5632_S1024x256_0_4096 _ (pay12_apply _ _ _)
  · exact piece_hid x0 x2 x3 1024 3840 rfl inb_S1024x2816_S1024x256_0_1024 inb_S1024x5632_S1024x256_0_1024 inb_S1024x5632_S1024x256_0_3840 _ (pay11_apply _ _ _)
  · exact piece_hid x0 x2 x3 768 3584 rfl inb_S1024x2816_S1024x256_0_768 inb_S1024x5632_S1024x256_0_768 inb_S1024x5632_S1024x256_0_3584 _ (pay10_apply _ _ _)
  · exact piece_hid x0 x2 x3 512 3328 rfl inb_S1024x2816_S1024x256_0_512 inb_S1024x5632_S1024x256_0_512 inb_S1024x5632_S1024x256_0_3328 _ (pay7_apply _ _ _)
  · exact piece_hid x0 x2 x3 256 3072 rfl inb_S1024x2816_S1024x256_0_256 inb_S1024x5632_S1024x256_0_256 inb_S1024x5632_S1024x256_0_3072 _ (pay6_apply _ _ _)
  · exact piece_hid x0 x2 x3 0 2816 rfl inb_S1024x2816_S1024x256_0_0 inb_S1024x5632_S1024x256_0_0 inb_S1024x5632_S1024x256_0_2816 _ (pay4_apply _ _ _ _)

/-- The output block, row by row. -/
def outMat (x0 : Vec Ideal S1024x1024 .f32) (x1 : Vec Ideal S1x1024x256 .f32) (x2 : Vec Ideal S1x1x1024 .f32) (x3 : Vec Ideal S1024x5632 .bf16)
    (x4 : Vec Ideal S2816x1024 .bf16) (x5 : Vec Ideal S1x1x1024 .f32) (x6 : Vec Ideal S1024x1024 .bf16) (x7 : Vec Ideal S256x1024 .bf16)
    (x8 : Vec Ideal S1x1024 .f32) : Vec Ideal S1024x1024 .f32 :=
  fun y => row (fun j => x0 (ix2 ⟨(y 0).val, (y 0).isLt⟩ j)) (fun j => x1 (ix3 0 ⟨(y 0).val, (y 0).isLt⟩ j)) (fun j => x2 (ix3 0 0 j))
    (fun a b => x3 (ix2 a b)) (fun a b => x4 (ix2 a b)) (fun j => x5 (ix3 0 0 j)) (fun a b => x6 (ix2 a b)) (fun a b => x7 (ix2 a b))
    (fun j => x8 (ix2 0 j)) ⟨(y 1).val, (y 1).isLt⟩

/-- A store of rows `o … o+255` with the final row function's entries is a block of `outMat`. -/
theorem piece_out (x0 : Vec Ideal S1024x1024 .f32) (x1 : Vec Ideal S1x1024x256 .f32) (x2 : Vec Ideal S1x1x1024 .f32) (x3 : Vec Ideal S1024x5632 .bf16)
    (x4 : Vec Ideal S2816x1024 .bf16) (x5 : Vec Ideal S1x1x1024 .f32) (x6 : Vec Ideal S1024x1024 .bf16) (x7 : Vec Ideal S256x1024 .bf16)
    (x8 : Vec Ideal S1x1024 .f32) (o : ℕ)
    (inb : ∀ a, (![o, 0] : Fin 2 → Nat) a + S256x1024.size a ≤ S1024x1024.size a)
    (inh : ∀ a, (![o, 0] : Fin 2 → Nat) a + S256x2816.size a ≤ S1024x2816.size a)
    (H A W : Vec Ideal S256x1024 .f32)
    (hH : ∀ (r : Fin 256) (k : Fin 1024), H (ix2 r k) = View.ld x0 (Rect.unit (s := S1024x1024) ![o, 0] S256x1024.size inb) (ix2 r k)
        + ∑ j : Fin 2816, hidMat x0 x2 x3 ((Rect.unit (s := S1024x2816) ![o, 0] S256x2816.size inh).toLoadRect.idx (ix2 r j)) * x4 (ix2 j k))
    (hA : ∀ (r : Fin 256) (k : Fin 1024), A (ix2 r k) = Ideal.logistic (∑ j : Fin 1024, nrm (fun i => H (ix2 r i)) (fun i => x5 (ix3 0 0 i)) j * x6 (ix2 j k)))
    (hW : ∀ (r : Fin 256) (k : Fin 1024), W (ix2 r k) =
      nrm (fun j => H (ix2 r j) + A (ix2 r j) * k0_pay2 x1 x7 ((Rect.unit (s := S1024x1024) ![o, 0] S256x1024.size inb).toLoadRect.idx (ix2 r j))) (fun j => x8 (ix2 0 j)) k)
    (x : (Rect.unit (s := S1024x1024) ![o, 0] S256x1024.size inb).shape.Idx) :
    W x = outMat x0 x1 x2 x3 x4 x5 x6 x7 x8 ((Rect.unit (s := S1024x1024) ![o, 0] S256x1024.size inb).emb x) := by
  obtain ⟨r, k, rfl⟩ : ∃ (r : Fin 256) (k : Fin 1024), x = ix2 r k := ⟨x 0, x 1, funext fun a => by match a with | ⟨0, _⟩ => rfl | ⟨1, _⟩ => rfl⟩
  have ho : o + r.val < 1024 := by have := inb 0; simp at this; omega
  have e0 : ((Rect.unit (s := S1024x1024) ![o, 0] S256x1024.size inb).emb (ix2 r k) 0).val = o + r.val := by
    show o + 1 * r.val = _; omega
  have e1 : ((Rect.unit (s := S1024x1024) ![o, 0] S256x1024.size inb).emb (ix2 r k) 1).val = k.val := by
    show 0 + 1 * k.val = _; omega
  have l0 : ∀ j : Fin 1024, (Rect.unit (s := S1024x1024) ![o, 0] S256x1024.size inb).toLoadRect.idx (ix2 r j) = ix2 ⟨o + r.val, ho⟩ j := fun j => funext fun a => Fin.ext (by
    match a with
    | ⟨0, _⟩ => show o + 1 * r.val = o + r.val; omega
    | ⟨1, _⟩ => show 0 + 1 * j.val = j.val; omega)
  have l1 : ∀ j : Fin 1024, View.ld x0 (Rect.unit (s := S1024x1024) ![o, 0] S256x1024.size inb) (ix2 r j) = x0 (ix2 ⟨o + r.val, ho⟩ j) := fun j => congrArg x0 (l0 j)
  have l2 : ∀ j : Fin 2816, (Rect.unit (s := S1024x2816) ![o, 0] S256x2816.size inh).toLoadRect.idx (ix2 r j) = ix2 ⟨o + r.val, ho⟩ j := fun j => funext fun a => Fin.ext (by
    match a with
    | ⟨0, _⟩ => show o + 1 * r.val = o + r.val; omega
    | ⟨1, _⟩ => show 0 + 1 * j.val = j.val; omega)
  have hm : ∀ j : Fin 1024, H (ix2 r j) = mid (fun j => x0 (ix2 ⟨o + r.val, ho⟩ j)) (fun j => x2 (ix3 0 0 j)) (fun a b => x3 (ix2 a b)) (fun a b => x4 (ix2 a b)) j := by
    intro j
    rw [hH r j, l1]
    simp only [l2]
    rfl
  rw [hW r k]
  simp only [hA, l0, pay2_apply, hm]
  unfold outMat row
  simp only [e0, e1]
  rfl

/-- The store of rows 768 … 1023. -/
theorem quarter768 (x0 : Vec Ideal S1024x1024 .f32) (x1 : Vec Ideal S1x1024x256 .f32) (x2 : Vec Ideal S1x1x1024 .f32) (x3 : Vec Ideal S1024x5632 .bf16)
    (x4 : Vec Ideal S2816x1024 .bf16) (x5 : Vec Ideal S1x1x1024 .f32) (x6 : Vec Ideal S1024x1024 .bf16) (x7 : Vec Ideal S256x1024 .bf16)
    (x8 : Vec Ideal S1x1024 .f32)
    (x : (Rect.unit (s := S1024x1024) ![768, 0] S256x1024.size inb_S1024x1024_S256x1024_768_0).shape.Idx) :
    k0_pay1 (k0_pay22 (View.ld x0 (Rect.unit (s := S1024x1024) ![768, 0] S256x1024.size inb_S1024x1024_S256x1024_768_0)) (fun j => hidMat x0 x2 x3 ((Rect.unit (s := S1024x2816) ![768, 0] S256x2816.size inb_S1024x2816_S256x2816_768_0).toLoadRect.idx j)) x4)
      (k0_pay28 (k0_pay22 (View.ld x0 (Rect.unit (s := S1024x1024) ![768, 0] S256x1024.size inb_S1024x1024_S256x1024_768_0)) (fun j => hidMat x0 x2 x3 ((Rect.unit (s := S1024x2816) ![768, 0] S256x2816.size inb_S1024x2816_S256x2816_768_0).toLoadRect.idx j)) x4) x5 x6)
      (fun j => k0_pay2 x1 x7 ((Rect.unit (s := S1024x1024) ![768, 0] S256x1024.size inb_S1024x1024_S256x1024_768_0).toLoadRect.idx j)) x8 x
      = outMat x0 x1 x2 x3 x4 x5 x6 x7 x8 ((Rect.unit (s := S1024x1024) ![768, 0] S256x1024.size inb_S1024x1024_S256x1024_768_0).emb x) :=
  piece_out x0 x1 x2 x3 x4 x5 x6 x7 x8 768 inb_S1024x1024_S256x1024_768_0 inb_S1024x2816_S256x2816_768_0
    (k0_pay22 (View.ld x0 (Rect.unit (s := S1024x1024) ![768, 0] S256x1024.size inb_S1024x1024_S256x1024_768_0)) (fun j => hidMat x0 x2 x3 ((Rect.unit (s := S1024x2816) ![768, 0] S256x2816.size inb_S1024x2816_S256x2816_768_0).toLoadRect.idx j)) x4)
    (k0_pay28 (k0_pay22 (View.ld x0 (Rect.unit (s := S1024x1024) ![768, 0] S256x1024.size inb_S1024x1024_S256x1024_768_0)) (fun j => hidMat x0 x2 x3 ((Rect.unit (s := S1024x2816) ![768, 0] S256x2816.size inb_S1024x2816_S256x2816_768_0).toLoadRect.idx j)) x4) x5 x6) _
    (fun r k => pay22_apply _ _ _ r k) (fun r k => gate3_apply _ _ _ r k) (fun r k => fin3_apply _ _ _ _ r k) x

/-- The store of rows 512 … 767. -/
theorem quarter512 (x0 : Vec Ideal S1024x1024 .f32) (x1 : Vec Ideal S1x1024x256 .f32) (x2 : Vec Ideal S1x1x1024 .f32) (x3 : Vec Ideal S1024x5632 .bf16)
    (x4 : Vec Ideal S2816x1024 .bf16) (x5 : Vec Ideal S1x1x1024 .f32) (x6 : Vec Ideal S1024x1024 .bf16) (x7 : Vec Ideal S256x1024 .bf16)
    (x8 : Vec Ideal S1x1024 .f32)
    (x : (Rect.unit (s := S1024x1024) ![512, 0] S256x1024.size inb_S1024x1024_S256x1024_512_0).shape.Idx) :
    k0_pay31 (k0_pay21 (View.ld x0 (Rect.unit (s := S1024x1024) ![512, 0] S256x1024.size inb_S1024x1024_S256x1024_512_0)) (fun j => hidMat x0 x2 x3 ((Rect.unit (s := S1024x2816) ![512, 0] S256x2816.size inb_S1024x2816_S256x2816_512_0).toLoadRect.idx j)) x4)
      (k0_pay27 (k0_pay26 (k0_pay21 (View.ld x0 (Rect.unit (s := S1024x1024) ![512, 0] S256x1024.size inb_S1024x1024_S256x1024_512_0)) (fun j => hidMat x0 x2 x3 ((Rect.unit (s := S1024x2816) ![512, 0] S256x2816.size inb_S1024x2816_S256x2816_512_0).toLoadRect.idx j)) x4) x5) x6)
      (fun j => k0_pay2 x1 x7 ((Rect.unit (s := S1024x1024) ![512, 0] S256x1024.size inb_S1024x1024_S256x1024_512_0).toLoadRect.idx j)) x8 x
      = outMat x0 x1 x2 x3 x4 x5 x6 x7 x8 ((Rect.unit (s := S1024x1024) ![512, 0] S256x1024.size inb_S1024x1024_S256x1024_512_0).emb x) :=
  piece_out x0 x1 x2 x3 x4 x5 x6 x7 x8 512 inb_S1024x1024_S256x1024_512_0 inb_S1024x2816_S256x2816_512_0
    (k0_pay21 (View.ld x0 (Rect.unit (s := S1024x1024) ![512, 0] S256x1024.size inb_S1024x1024_S256x1024_512_0)) (fun j => hidMat x0 x2 x3 ((Rect.unit (s := S1024x2816) ![512, 0] S256x2816.size inb_S1024x2816_S256x2816_512_0).toLoadRect.idx j)) x4)
    (k0_pay27 (k0_pay26 (k0_pay21 (View.ld x0 (Rect.unit (s := S1024x1024) ![512, 0] S256x1024.size inb_S1024x1024_S256x1024_512_0)) (fun j => hidMat x0 x2 x3 ((Rect.unit (s := S1024x2816) ![512, 0] S256x2816.size inb_S1024x2816_S256x2816_512_0).toLoadRect.idx j)) x4) x5) x6) _
    (fun r k => pay21_apply _ _ _ r k) (fun r k => gate2_apply _ _ _ r k) (fun r k => fin2_apply _ _ _ _ r k) x

/-- The store of rows 256 … 511. -/
theorem quarter256 (x0 : Vec Ideal S1024x1024 .f32) (x1 : Vec Ideal S1x1024x256 .f32) (x2 : Vec Ideal S1x1x1024 .f32) (x3 : Vec Ideal S1024x5632 .bf16)
    (x4 : Vec Ideal S2816x1024 .bf16) (x5 : Vec Ideal S1x1x1024 .f32) (x6 : Vec Ideal S1024x1024 .bf16) (x7 : Vec Ideal S256x1024 .bf16)
    (x8 : Vec Ideal S1x1024 .f32)
    (x : (Rect.unit (s := S1024x1024) ![256, 0] S256x1024.size inb_S1024x1024_S256x1024_256_0).shape.Idx) :
    k0_pay30 (k0_pay20 (View.ld x0 (Rect.unit (s := S1024x1024) ![256, 0] S256x1024.size inb_S1024x1024_S256x1024_256_0)) (fun j => hidMat x0 x2 x3 ((Rect.unit (s := S1024x2816) ![256, 0] S256x2816.size inb_S1024x2816_S256x2816_256_0).toLoadRect.idx j)) x4)
      (k0_pay25 (k0_pay20 (View.ld x0 (Rect.unit (s := S1024x1024) ![256, 0] S256x1024.size inb_S1024x1024_S256x1024_256_0)) (fun j => hidMat x0 x2 x3 ((Rect.unit (s := S1024x2816) ![256, 0] S256x2816.size inb_S1024x2816_S256x2816_256_0).toLoadRect.idx j)) x4) x5 x6)
      (fun j => k0_pay2 x1 x7 ((Rect.unit (s := S1024x1024) ![256, 0] S256x1024.size inb_S1024x1024_S256x1024_256_0).toLoadRect.idx j)) x8 x
      = outMat x0 x1 x2 x3 x4 x5 x6 x7 x8 ((Rect.unit (s := S1024x1024) ![256, 0] S256x1024.size inb_S1024x1024_S256x1024_256_0).emb x) :=
  piece_out x0 x1 x2 x3 x4 x5 x6 x7 x8 256 inb_S1024x1024_S256x1024_256_0 inb_S1024x2816_S256x2816_256_0
    (k0_pay20 (View.ld x0 (Rect.unit (s := S1024x1024) ![256, 0] S256x1024.size inb_S1024x1024_S256x1024_256_0)) (fun j => hidMat x0 x2 x3 ((Rect.unit (s := S1024x2816) ![256, 0] S256x2816.size inb_S1024x2816_S256x2816_256_0).toLoadRect.idx j)) x4)
    (k0_pay25 (k0_pay20 (View.ld x0 (Rect.unit (s := S1024x1024) ![256, 0] S256x1024.size inb_S1024x1024_S256x1024_256_0)) (fun j => hidMat x0 x2 x3 ((Rect.unit (s := S1024x2816) ![256, 0] S256x2816.size inb_S1024x2816_S256x2816_256_0).toLoadRect.idx j)) x4) x5 x6) _
    (fun r k => pay20_apply _ _ _ r k) (fun r k => gate1_apply _ _ _ r k) (fun r k => fin1_apply _ _ _ _ r k) x

/-- The store of rows 0 … 255. -/
theorem quarter0 (x0 : Vec Ideal S1024x1024 .f32) (x1 : Vec Ideal S1x1024x256 .f32) (x2 : Vec Ideal S1x1x1024 .f32) (x3 : Vec Ideal S1024x5632 .bf16)
    (x4 : Vec Ideal S2816x1024 .bf16) (x5 : Vec Ideal S1x1x1024 .f32) (x6 : Vec Ideal S1024x1024 .bf16) (x7 : Vec Ideal S256x1024 .bf16)
    (x8 : Vec Ideal S1x1024 .f32)
    (x : (Rect.unit (s := S1024x1024) ![0, 0] S256x1024.size inb_S1024x1024_S256x1024_0_0).shape.Idx) :
    k0_pay29 (k0_pay19 (View.ld x0 (Rect.unit (s := S1024x1024) ![0, 0] S256x1024.size inb_S1024x1024_S256x1024_0_0)) (fun j => hidMat x0 x2 x3 ((Rect.unit (s := S1024x2816) ![0, 0] S256x2816.size inb_S1024x2816_S256x2816_0_0).toLoadRect.idx j)) x4)
      (k0_pay24 (k0_pay23 (k0_pay19 (View.ld x0 (Rect.unit (s := S1024x1024) ![0, 0] S256x1024.size inb_S1024x1024_S256x1024_0_0)) (fun j => hidMat x0 x2 x3 ((Rect.unit (s := S1024x2816) ![0, 0] S256x2816.size inb_S1024x2816_S256x2816_0_0).toLoadRect.idx j)) x4) x5) x6)
      (fun j => k0_pay2 x1 x7 ((Rect.unit (s := S1024x1024) ![0, 0] S256x1024.size inb_S1024x1024_S256x1024_0_0).toLoadRect.idx j)) x8 x
      = outMat x0 x1 x2 x3 x4 x5 x6 x7 x8 ((Rect.unit (s := S1024x1024) ![0, 0] S256x1024.size inb_S1024x1024_S256x1024_0_0).emb x) :=
  piece_out x0 x1 x2 x3 x4 x5 x6 x7 x8 0 inb_S1024x1024_S256x1024_0_0 inb_S1024x2816_S256x2816_0_0
    (k0_pay19 (View.ld x0 (Rect.unit (s := S1024x1024) ![0, 0] S256x1024.size inb_S1024x1024_S256x1024_0_0)) (fun j => hidMat x0 x2 x3 ((Rect.unit (s := S1024x2816) ![0, 0] S256x2816.size inb_S1024x2816_S256x2816_0_0).toLoadRect.idx j)) x4)
    (k0_pay24 (k0_pay23 (k0_pay19 (View.ld x0 (Rect.unit (s := S1024x1024) ![0, 0] S256x1024.size inb_S1024x1024_S256x1024_0_0)) (fun j => hidMat x0 x2 x3 ((Rect.unit (s := S1024x2816) ![0, 0] S256x2816.size inb_S1024x2816_S256x2816_0_0).toLoadRect.idx j)) x4) x5) x6) _
    (fun r k => pay19_apply _ _ _ r k) (fun r k => gate0_apply _ _ _ r k) (fun r k => fin0_apply _ _ _ _ r k) x

/-- A read of rows from `o` on sees nothing of a store of 256 rows that ends before `o`. -/
theorem canon_skip (o o' : ℕ) (ho : o' + 256 ≤ o) (inb : ∀ a, (![o', 0] : Fin 2 → Nat) a + (![256, 1024] : Fin 2 → Nat) a ≤ S1024x1024.size a)
    (inb' : ∀ a, (![o, 0] : Fin 2 → Nat) a + (![256, 1024] : Fin 2 → Nat) a ≤ S1024x1024.size a) (w : Vec Ideal S256x1024 .f32)
    (L : List (View.Piece (Elt Ideal) S1024x1024 .f32)) (j : S256x1024.Idx) :
    View.canon (⟨Rect.unit (s := S1024x1024) ![o', 0] ![256, 1024] inb, w⟩ :: L) ((Rect.unit (s := S1024x1024) ![o, 0] ![256, 1024] inb').toLoadRect.idx j)
      = View.canon L ((Rect.unit (s := S1024x1024) ![o, 0] ![256, 1024] inb').toLoadRect.idx j) := by
  refine View.canon_cons_of_not_mem _ _ ?_
  intro h
  have h1 := ((Rect.mem_set_unit (inb := inb)).mp h 0).2
  have h2 : ((Rect.unit (s := S1024x1024) ![o, 0] ![256, 1024] inb').toLoadRect.idx j 0).val = o + 1 * (j 0).val := rfl
  have h3 : ((Rect.unit (s := S1024x1024) ![o, 0] ![256, 1024] inb').toLoadRect.idx j 0).val < o' + 256 := h1
  omega

/-- One store of the whole block is the block. -/
theorem canon_all (inb : ∀ a, (![0, 0] : Fin 2 → Nat) a + (![1024, 1024] : Fin 2 → Nat) a ≤ S1024x1024.size a) (w : Vec Ideal S1024x1024 .f32) :
    View.canon ([⟨Rect.unit (s := S1024x1024) ![0, 0] ![1024, 1024] inb, w⟩] : List (View.Piece (Elt Ideal) S1024x1024 .f32)) = w :=
  View.canon_unit_zero (S := S1024x1024) hz2 inb w

set_option maxHeartbeats 1000000 in
/-- The body's output block. -/
theorem out_eq (c : Dev nD) (i : grid0.Coords) (arg1 : Memref sig .tc .vmem S1024x1024 .f32) (harg1 : arg1.IsWhole) (arg2 : Memref sig .tc .vmem S1x1024x256 .f32) (harg2 : arg2.IsWhole) (arg3 : Memref sig .tc .vmem S1x1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x2816 .bf16) (harg11 : arg11.IsWhole)
    (x0 : Vec Ideal S1024x1024 .f32) (x1 : Vec Ideal S1x1024x256 .f32) (x2 : Vec Ideal S1x1x1024 .f32) (x3 : Vec Ideal S1024x5632 .bf16) (x4 : Vec Ideal S2816x1024 .bf16) (x5 : Vec Ideal S1x1x1024 .f32) (x6 : Vec Ideal S1024x1024 .bf16) (x7 : Vec Ideal S256x1024 .bf16) (x8 : Vec Ideal S1x1024 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = outMat x0 x1 x2 x3 x4 x5 x6 x7 x8 := by
  unfold out0_A_9
  rw [View.read_writes_junk_eq_canon]
  unfold kernelRun0_A
  dsimp only
  sl_unfold_words
  simp only [View.readAt_eq_ld, Memref.IsWhole.read_unread, View.ld_unit_zero (S := S1024x1024) hz2, View.ld_unit_zero (S := S2816x1024) hz2,
    View.ld_unit_zero (S := S256x1024) hz2, View.ld_unit_zero (S := S1x1024) hz2, View.ld_unit_zero (S := S1x1x1024) hz3,
    View.ld_unit_zero (S := S1x1024x256) hz3, View.readCov_eq_canon']
  simp (disch := omega) only [hid_canon, canon_skip, canon_all]
  funext y
  refine View.canon_append_of_piecesOf (outMat x0 x1 x2 x3 x4 x5 x6 x7 x8) [_] [_, _, _, _] ⟨?_, ?_, ?_, ?_, trivial⟩ y ?_
  · exact quarter768 x0 x1 x2 x3 x4 x5 x6 x7 x8
  · exact quarter512 x0 x1 x2 x3 x4 x5 x6 x7 x8
  · exact quarter256 x0 x1 x2 x3 x4 x5 x6 x7 x8
  · exact quarter0 x0 x1 x2 x3 x4 x5 x6 x7 x8
  · exact View.cover_of_tiledBy _ ![256, 1024] (by sl_kernel_rfl) y

end Cert.Kernel2Ideal.Ffn

end
-- ==== Proof.FfnValue.lean ====
/- The feed-forward kernel's result array: row `n` is the row function of row `n` of the stream and layer 1's weights. -/
module

public import proofs.«01_k».proof.Proof.FfnOut
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.ShloMosaic.Tactic Idealize.SL.Sem Cert.FfnSpec

variable (m : (ℓ : Loc nD τ sig) → Buf (Elt Ideal) ℓ) (c : Dev nD)

/-- Row `(b, r)` of the result. -/
def outRow (b : Fin 4) (r : Fin 8192) : Fin 1024 → EReal :=
  row (fun j => (m ((c.tc : Thread nD τ).loc main_arg0) : FVec Ideal S4x8192x1024 .f32) (ix3 b r j))
    (fun j => (m ((c.tc : Thread nD τ).loc main_arg1) : FVec Ideal S2x4x8192x256 .f32) (ix4 1 b r j))
    (fun j => (m ((c.tc : Thread nD τ).loc main_arg2) : FVec Ideal S2x1024 .f32) (ix2 1 j))
    (fun i j => (m ((c.tc : Thread nD τ).loc main_arg3) : FVec Ideal S2x1024x5632 .f32) (ix3 1 i j))
    (fun i j => (m ((c.tc : Thread nD τ).loc main_arg4) : FVec Ideal S2x2816x1024 .f32) (ix3 1 i j))
    (fun j => (m ((c.tc : Thread nD τ).loc main_arg5) : FVec Ideal S2x1024 .f32) (ix2 1 j))
    (fun i j => (m ((c.tc : Thread nD τ).loc main_arg6) : FVec Ideal S2x1024x1024 .f32) (ix3 1 i j))
    (fun i j => (m ((c.tc : Thread nD τ).loc main_arg7) : FVec Ideal S2x256x1024 .f32) (ix3 1 i j))
    (fun j => (m ((c.tc : Thread nD τ).loc main_arg8) : FVec Ideal S1024 .f32) (ix1 j))

/-- The result array. -/
def result : FVec Ideal S32768x1024 .f32 := fun y =>
  outRow m c ⟨(y 0).val / 8192, by have : (y 0).val < 32768 := (y 0).isLt; omega⟩ ⟨(y 0).val % 8192, Nat.mod_lt _ (by decide)⟩ ⟨(y 1).val, (y 1).isLt⟩

/-- Where each window's block lies at each point. -/
theorem idx (t : Fin cfg0.N) : win0_0.index t = ![t.val, 0] ∧ win0_1.index t = ![1, t.val, 0] ∧ win0_2.index t = ![1, 0, 0] ∧ win0_3.index t = ![0, 0]
    ∧ win0_4.index t = ![0, 0] ∧ win0_5.index t = ![1, 0, 0] ∧ win0_6.index t = ![0, 0] ∧ win0_7.index t = ![0, 0] ∧ win0_8.index t = ![0, 0]
    ∧ win0_9.index t = ![t.val, 0] :=
  (by decide +kernel : ∀ t : Fin grid0.N, win0_0.index t = ![t.val, 0] ∧ win0_1.index t = ![1, t.val, 0] ∧ win0_2.index t = ![1, 0, 0] ∧ win0_3.index t = ![0, 0]
    ∧ win0_4.index t = ![0, 0] ∧ win0_5.index t = ![1, 0, 0] ∧ win0_6.index t = ![0, 0] ∧ win0_7.index t = ![0, 0] ∧ win0_8.index t = ![0, 0]
    ∧ win0_9.index t = ![t.val, 0]) t

theorem blk0 (t : Fin cfg0.N) (b : Fin 4) (q : Fin 8192) (r j : Fin 1024) (h : 1024 * t.val + r.val = 8192 * b.val + q.val) :
    (iblk m c 0 t : FVec Ideal S1024x1024 .f32) (ix2 r j) = (m ((c.tc : Thread nD τ).loc main_arg0) : FVec Ideal S4x8192x1024 .f32) (ix3 b q j) := by
  have e : (iblk m c 0 t : FVec Ideal S1024x1024 .f32) (ix2 r j) = (V m c main_v1 : FVec Ideal S32768x1024 .f32) (ix2 ⟨1024 * t.val + r.val, by omega⟩ j) := by
    blk_ext [iblk, V, idx t]
  rw [e]
  entry_read
  refine shapeCast_apply _ _ _ _ ?_
  refine (Shape.rowMajor_val_three (d := ![4, 8192, 1024]) _).trans (Eq.trans ?_ (Shape.rowMajor_val_two (d := ![32768, 1024]) _).symm)
  show (b.val * 8192 + q.val) * 1024 + j.val = (1024 * t.val + r.val) * 1024 + j.val
  omega

theorem blk1 (t : Fin cfg0.N) (b : Fin 4) (q : Fin 8192) (r : Fin 1024) (j : Fin 256) (h : 1024 * t.val + r.val = 8192 * b.val + q.val) :
    (iblk m c 1 t : FVec Ideal S1x1024x256 .f32) (ix3 0 r j) = (m ((c.tc : Thread nD τ).loc main_arg1) : FVec Ideal S2x4x8192x256 .f32) (ix4 1 b q j) := by
  have e : (iblk m c 1 t : FVec Ideal S1x1024x256 .f32) (ix3 0 r j) = (V m c main_v0 : FVec Ideal S2x32768x256 .f32) (ix3 1 ⟨1024 * t.val + r.val, by omega⟩ j) := by
    blk_ext [iblk, V, idx t]
  rw [e]
  entry_read
  refine shapeCast_apply _ _ _ _ ?_
  refine (Shape.rowMajor_val_four (d := ![2, 4, 8192, 256]) _).trans (Eq.trans ?_ (Shape.rowMajor_val_three (d := ![2, 32768, 256]) _).symm)
  show ((1 * 4 + b.val) * 8192 + q.val) * 256 + j.val = (1 * 32768 + (1024 * t.val + r.val)) * 256 + j.val
  omega

theorem blk2 (t : Fin cfg0.N) (j : Fin 1024) :
    (iblk m c 2 t : FVec Ideal S1x1x1024 .f32) (ix3 0 0 j) = (m ((c.tc : Thread nD τ).loc main_arg2) : FVec Ideal S2x1024 .f32) (ix2 1 j) := by
  have e : (iblk m c 2 t : FVec Ideal S1x1x1024 .f32) (ix3 0 0 j) = (V m c main_v2 : FVec Ideal S2x1x1024 .f32) (ix3 1 0 j) := by
    blk_ext [iblk, V, idx t]
  rw [e]
  entry_read
  pointwise

theorem blk3 (t : Fin cfg0.N) (i : Fin 1024) (j : Fin 5632) :
    (iblk m c 3 t : FVec Ideal S1024x5632 .bf16) (ix2 i j) = (m ((c.tc : Thread nD τ).loc main_arg3) : FVec Ideal S2x1024x5632 .f32) (ix3 1 i j) := by
  have e : (iblk m c 3 t : FVec Ideal S1024x5632 .bf16) (ix2 i j) = (V m c main_v5 : FVec Ideal S1024x5632 .bf16) (ix2 i j) := by
    blk_ext [iblk, V, idx t]
  rw [e]
  entry_read
  pointwise

theorem blk4 (t : Fin cfg0.N) (i : Fin 2816) (j : Fin 1024) :
    (iblk m c 4 t : FVec Ideal S2816x1024 .bf16) (ix2 i j) = (m ((c.tc : Thread nD τ).loc main_arg4) : FVec Ideal S2x2816x1024 .f32) (ix3 1 i j) := by
  have e : (iblk m c 4 t : FVec Ideal S2816x1024 .bf16) (ix2 i j) = (V m c main_v8 : FVec Ideal S2816x1024 .bf16) (ix2 i j) := by
    blk_ext [iblk, V, idx t]
  rw [e]
  entry_read
  pointwise

theorem blk5 (t : Fin cfg0.N) (j : Fin 1024) :
    (iblk m c 5 t : FVec Ideal S1x1x1024 .f32) (ix3 0 0 j) = (m ((c.tc : Thread nD τ).loc main_arg5) : FVec Ideal S2x1024 .f32) (ix2 1 j) := by
  have e : (iblk m c 5 t : FVec Ideal S1x1x1024 .f32) (ix3 0 0 j) = (V m c main_v9 : FVec Ideal S2x1x1024 .f32) (ix3 1 0 j) := by
    blk_ext [iblk, V, idx t]
  rw [e]
  entry_read
  pointwise

theorem blk6 (t : Fin cfg0.N) (i j : Fin 1024) :
    (iblk m c 6 t : FVec Ideal S1024x1024 .bf16) (ix2 i j) = (m ((c.tc : Thread nD τ).loc main_arg6) : FVec Ideal S2x1024x1024 .f32) (ix3 1 i j) := by
  have e : (iblk m c 6 t : FVec Ideal S1024x1024 .bf16) (ix2 i j) = (V m c main_v12 : FVec Ideal S1024x1024 .bf16) (ix2 i j) := by
    blk_ext [iblk, V, idx t]
  rw [e]
  entry_read
  pointwise

theorem blk7 (t : Fin cfg0.N) (i : Fin 256) (j : Fin 1024) :
    (iblk m c 7 t : FVec Ideal S256x1024 .bf16) (ix2 i j) = (m ((c.tc : Thread nD τ).loc main_arg7) : FVec Ideal S2x256x1024 .f32) (ix3 1 i j) := by
  have e : (iblk m c 7 t : FVec Ideal S256x1024 .bf16) (ix2 i j) = (V m c main_v15 : FVec Ideal S256x1024 .bf16) (ix2 i j) := by
    blk_ext [iblk, V, idx t]
  rw [e]
  entry_read
  pointwise

theorem blk8 (t : Fin cfg0.N) (j : Fin 1024) :
    (iblk m c 8 t : FVec Ideal S1x1024 .f32) (ix2 0 j) = (m ((c.tc : Thread nD τ).loc main_arg8) : FVec Ideal S1024 .f32) (ix1 j) := by
  have e : (iblk m c 8 t : FVec Ideal S1x1024 .f32) (ix2 0 j) = (V m c main_v16 : FVec Ideal S1x1024 .f32) (ix2 0 j) := by
    blk_ext [iblk, V, idx t]
  rw [e]
  entry_read
  pointwise

/-- The array after the run. -/
theorem arr_eq : (dats m 0 c).arrAt 9 cfg0.N = result m c := by
  refine (dats m 0 c).arrAt_eq_of_covers 9 _ (by decide +kernel) fun t hf y => ?_
  rw [after0_9]
  unfold outsAt0
  rw [out_eq]
  have ht : t.val < 32 := t.isLt
  have hy : (y 0).val < 1024 := (y 0).isLt
  have hy1 : (y 1).val < 1024 := (y 1).isLt
  have q0 : (((cfg0.win 9).blk t).view.emb y 0).val = 1024 * t.val + (y 0).val := by
    blk_simp [idx t]; omega
  have q1 : (((cfg0.win 9).blk t).view.emb y 1).val = (y 1).val := by
    blk_simp [idx t]
  have hq : 1024 * t.val + (y 0).val = 8192 * ((1024 * t.val + (y 0).val) / 8192) + (1024 * t.val + (y 0).val) % 8192 := by omega
  show outMat _ _ _ _ _ _ _ _ _ y = result m c (((cfg0.win 9).blk t).view.emb y)
  unfold outMat result outRow
  simp only [q0, q1]
  have e0 : ∀ j, (iblk m c 0 t : FVec Ideal S1024x1024 .f32) (ix2 ⟨(y 0).val, hy⟩ j) = _ := fun j =>
    blk0 m c t ⟨(1024 * t.val + (y 0).val) / 8192, by omega⟩ ⟨(1024 * t.val + (y 0).val) % 8192, by omega⟩ ⟨(y 0).val, hy⟩ j hq
  have e1 : ∀ j, (iblk m c 1 t : FVec Ideal S1x1024x256 .f32) (ix3 0 ⟨(y 0).val, hy⟩ j) = _ := fun j =>
    blk1 m c t ⟨(1024 * t.val + (y 0).val) / 8192, by omega⟩ ⟨(1024 * t.val + (y 0).val) % 8192, by omega⟩ ⟨(y 0).val, hy⟩ j hq
  simp only [e0, e1, blk2, blk3, blk4, blk5, blk6, blk7, blk8]

end Cert.Kernel2Ideal.Ffn

end
-- ==== Proof.FfnRef.lean ====
/- The reference's feed-forward result at the extended reals, at an index: the row function of `FfnSpec`. -/
module

public import proofs.«01_k».proof.Proof.Gen.Reference2Ideal.Run
public import proofs.«01_k».proof.Proof.FfnSpec

@[expose] public section

set_option maxRecDepth 16384

noncomputable section

namespace Cert.Reference2Ideal.Ffn

open Cert.Reference2Ideal Cert.Reference2Ideal.Gen Cert.Reference2Ideal.Value Idealize.ShloMosaic Idealize.ShloMosaic.TcCoe Cert.FfnSpec

/-- The normalisation of every row. -/
def rmsOp (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

theorem rmsOp_apply (x : FVec Ideal S4x8192x1024 .f32) (g : FVec Ideal S1024 .f32) (b : Fin 4) (r : Fin 8192) (k : Fin 1024) :
    rmsOp x g (ix3 b r k) = nrm (fun j => x (ix3 b r j)) (fun j => g (ix1 j)) k := by
  unfold rmsOp nrm len eps; pointwise

/-- Layer 1's gains. -/
def gain (g : FVec Ideal S2x1024 .f32) : FVec Ideal S1024 .f32 :=
  shapeCast _ (extractStridedSlice S1x1024 ![1, 0] g slices_S2x1024_S1x1024_1_0) shapeCasts_S1x1024_S1024

theorem gain_apply (g : FVec Ideal S2x1024 .f32) (k : Fin 1024) : gain g (ix1 k) = g (ix2 1 k) := by
  unfold gain; pointwise

/-- The gate and value columns. -/
def gateUp (u : FVec Ideal S4x8192x1024 .f32) (w : FVec Ideal S2x1024x5632 .f32) : FVec Ideal S4x8192x5632 .f32 :=
  Host.dotGeneral dot_S4x8192x1024_S1024x5632_S4x8192x5632_2_0_01_1_n_n none u (shapeCast _ (extractStridedSlice S1x1024x5632 ![1, 0, 0] w slices_S2x1024x5632_S1x1024x5632_1_0_0) shapeCasts_S1x1024x5632_S1024x5632)

theorem gateUp_apply (u : FVec Ideal S4x8192x1024 .f32) (w : FVec Ideal S2x1024x5632 .f32) (b : Fin 4) (r : Fin 8192) (k : Fin 5632) :
    gateUp u w (ix3 b r k) = ∑ i : Fin 1024, u (ix3 b r i) * w (ix3 1 i k) := by
  unfold gateUp; pointwise

/-- The residual sum after the gated unit. -/
def midOp (x : FVec Ideal S4x8192x1024 .f32) (a : FVec Ideal S4x8192x5632 .f32) (wd : FVec Ideal S2x2816x1024 .f32) : FVec Ideal S4x8192x1024 .f32 :=
  addf x (Host.dotGeneral dot_S4x8192x2816_S2816x1024_S4x8192x1024_2_0_01_1_n_n none (mulf (mulf (extractStridedSlice S4x8192x2816 ![0, 0, 0] a slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] a slices_S4x8192x5632_S4x8192x2816_0_0_0)))))) (extractStridedSlice S4x8192x2816 ![0, 0, 2816] a slices_S4x8192x5632_S4x8192x2816_0_0_2816)) (shapeCast _ (extractStridedSlice S1x2816x1024 ![1, 0, 0] wd slices_S2x2816x1024_S1x2816x1024_1_0_0) shapeCasts_S1x2816x1024_S2816x1024))

theorem midOp_apply (x : FVec Ideal S4x8192x1024 .f32) (a : FVec Ideal S4x8192x5632 .f32) (wd : FVec Ideal S2x2816x1024 .f32) (b : Fin 4) (r : Fin 8192) (k : Fin 1024) :
    midOp x a wd (ix3 b r k) = x (ix3 b r k) + ∑ j : Fin 2816, glu (a (ix3 b r ⟨j.val, by omega⟩)) (a (ix3 b r ⟨2816 + j.val, by omega⟩)) * wd (ix3 1 j k) := by
  unfold midOp glu Ideal.logistic; pointwise

/-- The residual sum after the gated embedding. -/
def pleOp (h u : FVec Ideal S4x8192x1024 .f32) (p : FVec Ideal S2x4x8192x256 .f32) (wg : FVec Ideal S2x1024x1024 .f32) (wp : FVec Ideal S2x256x1024 .f32) : FVec Ideal S4x8192x1024 .f32 :=
  addf h (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (Host.dotGeneral dot_S4x8192x1024_S1024x1024_S4x8192x1024_2_0_01_1_n_n none u (shapeCast _ (extractStridedSlice S1x1024x1024 ![1, 0, 0] wg slices_S2x1024x1024_S1x1024x1024_1_0_0) shapeCasts_S1x1024x1024_S1024x1024)))))) (Host.dotGeneral dot_S4x8192x256_S256x1024_S4x8192x1024_2_0_01_1_n_n none (shapeCast _ (extractStridedSlice S1x4x8192x256 ![1, 0, 0, 0] p slices_S2x4x8192x256_S1x4x8192x256_1_0_0_0) shapeCasts_S1x4x8192x256_S4x8192x256) (shapeCast _ (extractStridedSlice S1x256x1024 ![1, 0, 0] wp slices_S2x256x1024_S1x256x1024_1_0_0) shapeCasts_S1x256x1024_S256x1024)))

theorem pleOp_apply (h u : FVec Ideal S4x8192x1024 .f32) (p : FVec Ideal S2x4x8192x256 .f32) (wg : FVec Ideal S2x1024x1024 .f32) (wp : FVec Ideal S2x256x1024 .f32) (b : Fin 4) (r : Fin 8192) (k : Fin 1024) :
    pleOp h u p wg wp (ix3 b r k) = h (ix3 b r k) + Ideal.logistic (∑ j : Fin 1024, u (ix3 b r j) * wg (ix3 1 j k)) * ∑ j : Fin 256, p (ix4 1 b r j) * wp (ix3 1 j k) := by
  unfold pleOp Ideal.logistic; pointwise

variable (m : (ℓ : Loc nD τ sig) → Buf (Elt Ideal) ℓ) (c : Dev nD)

/-- The stream after the gated unit, and after the gated embedding. -/
def h1 : FVec Ideal S4x8192x1024 .f32 :=
  midOp (m ((c.tc : Thread nD τ).loc main_arg0)) (gateUp (rmsOp (m ((c.tc : Thread nD τ).loc main_arg0)) (gain (m ((c.tc : Thread nD τ).loc main_arg2)))) (m ((c.tc : Thread nD τ).loc main_arg3))) (m ((c.tc : Thread nD τ).loc main_arg4))
def h2 : FVec Ideal S4x8192x1024 .f32 :=
  pleOp (h1 m c) (rmsOp (h1 m c) (gain (m ((c.tc : Thread nD τ).loc main_arg5)))) (m ((c.tc : Thread nD τ).loc main_arg1)) (m ((c.tc : Thread nD τ).loc main_arg6)) (m ((c.tc : Thread nD τ).loc main_arg7))

theorem res_eq : res_main_v70 m c = shapeCast _ (rmsOp (h2 m c) (m ((c.tc : Thread nD τ).loc main_arg8))) shapeCasts_S4x8192x1024_S32768x1024 := rfl

/-- Row `8192 b + r` of the result is the row function of row `(b, r)` of the stream and layer 1's weights. -/
theorem res_apply (b : Fin 4) (r : Fin 8192) (k : Fin 1024) (n : Fin 32768) (hn : n.val = 8192 * b.val + r.val) :
    (res_main_v70 m c : FVec Ideal S32768x1024 .f32) (ix2 n k) = row (fun j => (m ((c.tc : Thread nD τ).loc main_arg0) : FVec Ideal S4x8192x1024 .f32) (ix3 b r j))
      (fun j => (m ((c.tc : Thread nD τ).loc main_arg1) : FVec Ideal S2x4x8192x256 .f32) (ix4 1 b r j))
      (fun j => (m ((c.tc : Thread nD τ).loc main_arg2) : FVec Ideal S2x1024 .f32) (ix2 1 j))
      (fun i j => (m ((c.tc : Thread nD τ).loc main_arg3) : FVec Ideal S2x1024x5632 .f32) (ix3 1 i j))
      (fun i j => (m ((c.tc : Thread nD τ).loc main_arg4) : FVec Ideal S2x2816x1024 .f32) (ix3 1 i j))
      (fun j => (m ((c.tc : Thread nD τ).loc main_arg5) : FVec Ideal S2x1024 .f32) (ix2 1 j))
      (fun i j => (m ((c.tc : Thread nD τ).loc main_arg6) : FVec Ideal S2x1024x1024 .f32) (ix3 1 i j))
      (fun i j => (m ((c.tc : Thread nD τ).loc main_arg7) : FVec Ideal S2x256x1024 .f32) (ix3 1 i j))
      (fun j => (m ((c.tc : Thread nD τ).loc main_arg8) : FVec Ideal S1024 .f32) (ix1 j)) k := by
  rw [res_eq]
  have e : shapeCast S32768x1024 (rmsOp (h2 m c) (m ((c.tc : Thread nD τ).loc main_arg8))) shapeCasts_S4x8192x1024_S32768x1024 (ix2 n k)
      = rmsOp (h2 m c) (m ((c.tc : Thread nD τ).loc main_arg8)) (ix3 b r k) := by
    refine shapeCast_apply _ _ _ _ ?_
    rw [Shape.rowMajor_val_three, Shape.rowMajor_val_two]
    show (b.val * 8192 + r.val) * 1024 + k.val = n.val * 1024 + k.val
    omega
  refine e.trans ?_
  rw [rmsOp_apply]
  have e1 : ∀ j, h1 m c (ix3 b r j) = mid (fun j => (m ((c.tc : Thread nD τ).loc main_arg0) : FVec Ideal S4x8192x1024 .f32) (ix3 b r j))
      (fun j => (m ((c.tc : Thread nD τ).loc main_arg2) : FVec Ideal S2x1024 .f32) (ix2 1 j))
      (fun i j => (m ((c.tc : Thread nD τ).loc main_arg3) : FVec Ideal S2x1024x5632 .f32) (ix3 1 i j))
      (fun i j => (m ((c.tc : Thread nD τ).loc main_arg4) : FVec Ideal S2x2816x1024 .f32) (ix3 1 i j)) j := by
    intro j
    unfold h1
    rw [midOp_apply]
    simp only [gateUp_apply, rmsOp_apply, gain_apply]
    rfl
  unfold h2
  simp only [pleOp_apply, rmsOp_apply, gain_apply, e1]
  rfl

end Cert.Reference2Ideal.Ffn

end
-- ==== Proof.FfnClaim.lean ====
/- The feed-forward call's value claim: the kernel's array and the reference's array are one function of the arguments. -/
module

public import proofs.«01_k».proof.Defs
public import proofs.«01_k».proof.Proof.FfnValue
public import proofs.«01_k».proof.Proof.FfnRef

@[expose] public section

set_option maxRecDepth 16384

noncomputable section

namespace Cert.FfnClaim

open Idealize.ShloMosaic Idealize.ShloMosaic.TcCoe Idealize.SL.Sem

/-- From memories agreeing on the arguments, the reference's array is the kernel's. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) :
    (Cert.Reference2Ideal.Value.res_main_v70 m' c : FVec Ideal Cert.Kernel2Ideal.S32768x1024 .f32) = Cert.Kernel2Ideal.Ffn.result m c := by
  obtain ⟨h0, h1, h2, h3, h4, h5, h6, h7, h8⟩ := h
  funext y
  have hy : (y 0).val < 32768 := (y 0).isLt
  obtain ⟨n, k, rfl⟩ : ∃ (n : Fin 32768) (k : Fin 1024), y = ix2 n k := ⟨y 0, y 1, funext fun a => by match a with | ⟨0, _⟩ => rfl | ⟨1, _⟩ => rfl⟩
  refine (Cert.Reference2Ideal.Ffn.res_apply m' c ⟨n.val / 8192, by omega⟩ ⟨n.val % 8192, by omega⟩ k n (by show n.val = 8192 * (n.val / 8192) + n.val % 8192; omega)).trans ?_
  rw [h0, h1, h2, h3, h4, h5, h6, h7, h8]
  rfl

theorem algebraic : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Ffn.result m c, ?_, ?_⟩
  · refine (θ_run Cert.Kernel2Ideal.defs _ _).mono (fun r h c => ?_) (Cert.Kernel2Ideal.Value.run_blocks m g)
    exact ⟨(h c).1.trans (Cert.Kernel2Ideal.Ffn.arr_eq m c), (h c).2⟩
  · refine (θ_run Cert.Reference2Ideal.defs _ _).mono (fun r h c => ?_) (Cert.Reference2Ideal.Value.run m' g')
    exact ⟨(h c).1.trans (same m m' c (hag c)), (h c).2⟩

end Cert.FfnClaim

end
-- ==== Proof.Ffn0Pay.lean ====
/- The first layer's feed-forward kernel: its payloads at the extended reals, each at an index. -/
module

public import proofs.«01_k».proof.Proof.Gen.Kernel3Ideal.Skeleton
public import proofs.«01_k».proof.Proof.FfnSpec

@[expose] public section

set_option maxRecDepth 16384

noncomputable section

namespace Cert.Kernel3Ideal.Ffn

open Cert.Kernel3Ideal Cert.Kernel3Ideal.Gen Idealize.ShloMosaic Idealize.ShloMosaic.TcCoe Cert.FfnSpec

theorem emb_apply (p : Vec Ideal S1x1024x256 .f32) (w : Vec Ideal S256x1024 .bf16) (r k : Fin 1024) :
    k0_pay29 (k0_pay27 p) (k0_pay28 w) (ix2 r k) = ∑ j : Fin 256, p (ix3 0 r j) * w (ix2 j k) := by
  unfold k0_pay29 k0_pay27 k0_pay28; pointwise

theorem nrm_apply (x : Vec Ideal S1024x1024 .f32) (g : Vec Ideal S1x1x1024 .f32) (r k : Fin 1024) :
    k0_pay30 x g (ix2 r k) = nrm (fun j => x (ix2 r j)) (fun j => g (ix3 0 0 j)) k := by
  unfold k0_pay30 nrm len eps; pointwise

/-- The gated unit of the two products of a matrix with column blocks `a` and `b`, as an array. -/
def gluMat (u : FVec Ideal S1024x1024 .bf16) (a b : Vec Ideal S1024x256 .bf16) : FVec Ideal S1024x256 .bf16 :=
  fun y => glu (∑ i : Fin 1024, u (ix2 (y 0) i) * a (ix2 i (y 1))) (∑ i : Fin 1024, u (ix2 (y 0) i) * b (ix2 i (y 1)))

section
variable (u : FVec Ideal S1024x1024 .bf16) (a b : Vec Ideal S1024x256 .bf16)

/-- An array whose entries are the gated unit is `gluMat`. -/
theorem eq_gluMat (w : FVec Ideal S1024x256 .bf16)
    (h : ∀ (r : Fin 1024) (k : Fin 256), w (ix2 r k) = glu (∑ i : Fin 1024, u (ix2 r i) * a (ix2 i k)) (∑ i : Fin 1024, u (ix2 r i) * b (ix2 i k))) :
    w = gluMat u a b := by
  funext y
  obtain ⟨r, k, rfl⟩ : ∃ (r : Fin 1024) (k : Fin 256), y = ix2 r k := ⟨y 0, y 1, funext fun a => by match a with | ⟨0, _⟩ => rfl | ⟨1, _⟩ => rfl⟩
  exact h r k

theorem tile31 (x : Vec Ideal S1024x1024 .f32) (g : Vec Ideal S1x1x1024 .f32) : k0_pay31 x g a b = gluMat (k0_pay30 x g) a b :=
  eq_gluMat _ _ _ _ fun r k => by unfold k0_pay31 glu; pointwise
theorem tile33 (x : Vec Ideal S1024x1024 .f32) (g : Vec Ideal S1x1x1024 .f32) : k0_pay33 (k0_pay30 x g) (k0_pay32 x g a) b = gluMat (k0_pay30 x g) a b :=
  eq_gluMat _ _ _ _ fun r k => by unfold k0_pay33 k0_pay32 glu; pointwise
theorem tile34 : k0_pay34 u a b = gluMat u a b := eq_gluMat _ _ _ _ fun r k => by unfold k0_pay34 glu; pointwise
theorem tile35 : k0_pay35 u a b = gluMat u a b := eq_gluMat _ _ _ _ fun r k => by unfold k0_pay35 glu; pointwise
theorem tile36 : k0_pay36 u a b = gluMat u a b := eq_gluMat _ _ _ _ fun r k => by unfold k0_pay36 glu; pointwise
theorem tile37 : k0_pay37 u a b = gluMat u a b := eq_gluMat _ _ _ _ fun r k => by unfold k0_pay37 glu; pointwise
theorem tile39 : k0_pay39 (k0_pay38 u a b) = gluMat u a b := eq_gluMat _ _ _ _ fun r k => by unfold k0_pay39 k0_pay38 glu; pointwise
theorem tile40 : k0_pay40 u a b = gluMat u a b := eq_gluMat _ _ _ _ fun r k => by unfold k0_pay40 glu; pointwise
theorem tile41 : k0_pay41 u a b = gluMat u a b := eq_gluMat _ _ _ _ fun r k => by unfold k0_pay41 glu; pointwise
theorem tile44 : k0_pay44 u (k0_pay42 u a) (k0_pay43 b) (constant S1024x256 .f32 0x00000000#32) = gluMat u a b :=
  eq_gluMat _ _ _ _ fun r k => by unfold k0_pay44 k0_pay42 k0_pay43 glu; pointwise
theorem tile45 : k0_pay45 u a b = gluMat u a b := eq_gluMat _ _ _ _ fun r k => by unfold k0_pay45 glu; pointwise
end

theorem down46 (x : Vec Ideal S256x1024 .f32) (h : Vec Ideal S256x2816 .bf16) (w : Vec Ideal S2816x1024 .bf16) (r : Fin 256) (k : Fin 1024) :
    k0_pay46 x h w (ix2 r k) = x (ix2 r k) + ∑ j : Fin 2816, h (ix2 r j) * w (ix2 j k) := by
  unfold k0_pay46; pointwise
theorem down49 (x : Vec Ideal S256x1024 .f32) (h : Vec Ideal S256x2816 .bf16) (w : Vec Ideal S2816x1024 .bf16) (r : Fin 256) (k : Fin 1024) :
    k0_pay49 (k0_pay47 x) (k0_pay48 h w) (ix2 r k) = x (ix2 r k) + ∑ j : Fin 2816, h (ix2 r j) * w (ix2 j k) := by
  unfold k0_pay49 k0_pay47 k0_pay48; pointwise
theorem down50 (x : Vec Ideal S256x1024 .f32) (h : Vec Ideal S256x2816 .bf16) (w : Vec Ideal S2816x1024 .bf16) (r : Fin 256) (k : Fin 1024) :
    k0_pay50 x h w (ix2 r k) = x (ix2 r k) + ∑ j : Fin 2816, h (ix2 r j) * w (ix2 j k) := by
  unfold k0_pay50; pointwise
theorem down51 (x : Vec Ideal S256x1024 .f32) (h : Vec Ideal S256x2816 .bf16) (w : Vec Ideal S2816x1024 .bf16) (r : Fin 256) (k : Fin 1024) :
    k0_pay51 x h w (ix2 r k) = x (ix2 r k) + ∑ j : Fin 2816, h (ix2 r j) * w (ix2 j k) := by
  unfold k0_pay51; pointwise

/-- A row after the gated embedding, from the row before it and the projected embedding. -/
def gated (h g : Fin 1024 → EReal) (wg : Fin 1024 → Fin 1024 → EReal) (q : EReal) (k : Fin 1024) : EReal :=
  h k + Ideal.logistic (∑ j, nrm h g j * wg j k) * q

section
variable (h : FVec Ideal S256x1024 .f32) (g : Vec Ideal S1x1x1024 .f32) (w : Vec Ideal S1024x1024 .bf16) (q : Vec Ideal S256x1024 .f32)
  (r : Fin 256) (k : Fin 1024)

theorem last57 : k0_pay57 h (k0_pay52 h g w) q (ix2 r k) = gated (fun j => h (ix2 r j)) (fun j => g (ix3 0 0 j)) (fun a b => w (ix2 a b)) (q (ix2 r k)) k := by
  unfold k0_pay57 k0_pay52 gated nrm len eps; pointwise
theorem last58 : k0_pay58 h (k0_pay53 h g w) q (ix2 r k) = gated (fun j => h (ix2 r j)) (fun j => g (ix3 0 0 j)) (fun a b => w (ix2 a b)) (q (ix2 r k)) k := by
  unfold k0_pay58 k0_pay53 gated nrm len eps; pointwise
theorem last59 : k0_pay59 h (k0_pay54 h g w) q (ix2 r k) = gated (fun j => h (ix2 r j)) (fun j => g (ix3 0 0 j)) (fun a b => w (ix2 a b)) (q (ix2 r k)) k := by
  unfold k0_pay59 k0_pay54 gated nrm len eps; pointwise
theorem last60 : k0_pay60 h (k0_pay55 g) (k0_pay56 h) w q (ix2 r k) = gated (fun j => h (ix2 r j)) (fun j => g (ix3 0 0 j)) (fun a b => w (ix2 a b)) (q (ix2 r k)) k := by
  unfold k0_pay60 k0_pay55 k0_pay56 gated nrm len eps; pointwise
end

end Cert.Kernel3Ideal.Ffn

end
-- ==== Proof.Ffn0Out.lean ====
/- What the first layer's feed-forward kernel leaves in its three output blocks: the stream's block row by row, and the
   blocks of the next mixer's two weights, cast. -/
module

public import proofs.«01_k».proof.Proof.Gen.Kernel3Ideal.Value
public import proofs.«01_k».proof.Proof.Ffn0Pay
public import proofs.«01_k».proof.Proof.FfnOut
public import Idealize.ShloMosaic.Lib.Pipeline.ReadBack

@[expose] public section

set_option maxRecDepth 16384

noncomputable section

namespace Cert.Kernel3Ideal.Ffn

open Cert.Kernel3Ideal Cert.Kernel3Ideal.Gen Idealize.ShloMosaic Idealize.ShloMosaic.TcCoe Idealize.ShloMosaic.Tactic Cert.FfnSpec
open Cert.Kernel2Ideal.Ffn (hz2 hz3 hidMat piece_hid canon_skip canon_all)

/-- One store of the gated unit's columns is a block of the last layer's hidden matrix at the same arguments. -/
theorem piece_tile (x0 : Vec Ideal S1024x1024 .f32) (x2 : Vec Ideal S1x1x1024 .f32) (x3 : Vec Ideal S1024x5632 .bf16) (o o' : ℕ) (ho : o' = 2816 + o)
    (inb : ∀ a, (![0, o] : Fin 2 → Nat) a + S1024x256.size a ≤ S1024x2816.size a)
    (inl : ∀ a, (![0, o] : Fin 2 → Nat) a + S1024x256.size a ≤ S1024x5632.size a)
    (inr : ∀ a, (![0, o'] : Fin 2 → Nat) a + S1024x256.size a ≤ S1024x5632.size a)
    (x : (Rect.unit (s := S1024x2816) ![0, o] S1024x256.size inb).shape.Idx) :
    gluMat (k0_pay30 x0 x2) (View.ld x3 (Rect.unit (s := S1024x5632) ![0, o] S1024x256.size inl)) (View.ld x3 (Rect.unit (s := S1024x5632) ![0, o'] S1024x256.size inr)) x
      = hidMat x0 x2 x3 ((Rect.unit (s := S1024x2816) ![0, o] S1024x256.size inb).emb x) :=
  piece_hid x0 x2 x3 o o' ho inb inl inr _ (fun r k => by
    show glu (∑ i : Fin 1024, k0_pay30 x0 x2 (ix2 r i) * _) (∑ i : Fin 1024, k0_pay30 x0 x2 (ix2 r i) * _) = _
    simp only [nrm_apply, Cert.Kernel2Ideal.Ffn.pay3_apply]; rfl) x

set_option maxHeartbeats 1000000 in
/-- The hidden scratch after its eleven stores. -/
theorem hid_canon (x0 : Vec Ideal S1024x1024 .f32) (x2 : Vec Ideal S1x1x1024 .f32) (x3 : Vec Ideal S1024x5632 .bf16) :
    View.canon ([
      ⟨Rect.unit (s := S1024x2816) ![0, 2560] ![1024, 256] inb_S1024x2816_S1024x256_0_2560, gluMat (k0_pay30 x0 x2) (View.ld x3 (Rect.unit (s := S1024x5632) ![0, 2560] ![1024, 256] inb_S1024x5632_S1024x256_0_2560)) (View.ld x3 (Rect.unit (s := S1024x5632) ![0, 5376] ![1024, 256] inb_S1024x5632_S1024x256_0_5376))⟩,
      ⟨Rect.unit (s := S1024x2816) ![0, 2304] ![1024, 256] inb_S1024x2816_S1024x256_0_2304, gluMat (k0_pay30 x0 x2) (View.ld x3 (Rect.unit (s := S1024x5632) ![0, 2304] ![1024, 256] inb_S1024x5632_S1024x256_0_2304)) (View.ld x3 (Rect.unit (s := S1024x5632) ![0, 5120] ![1024, 256] inb_S1024x5632_S1024x256_0_5120))⟩,
      ⟨Rect.unit (s := S1024x2816) ![0, 2048] ![1024, 256] inb_S1024x2816_S1024x256_0_2048, gluMat (k0_pay30 x0 x2) (View.ld x3 (Rect.unit (s := S1024x5632) ![0, 2048] ![1024, 256] inb_S1024x5632_S1024x256_0_2048)) (View.ld x3 (Rect.unit (s := S1024x5632) ![0, 4864] ![1024, 256] inb_S1024x5632_S1024x256_0_4864))⟩,
      ⟨Rect.unit (s := S1024x2816) ![0, 1792] ![1024, 256] inb_S1024x2816_S1024x256_0_1792, gluMat (k0_pay30 x0 x2) (View.ld x3 (Rect.unit (s := S1024x5632) ![0, 1792] ![1024, 256] inb_S1024x5632_S1024x256_0_1792)) (View.ld x3 (Rect.unit (s := S1024x5632) ![0, 4608] ![1024, 256] inb_S1024x5632_S1024x256_0_4608))⟩,
      ⟨Rect.unit (s := S1024x2816) ![0, 1536] ![1024, 256] inb_S1024x2816_S1024x256_0_1536, gluMat (k0_pay30 x0 x2) (View.ld x3 (Rect.unit (s := S1024x5632) ![0, 1536] ![1024, 256] inb_S1024x5632_S1024x256_0_1536)) (View.ld x3 (Rect.unit (s := S1024x5632) ![0, 4352] ![1024, 256] inb_S1024x5632_S1024x256_0_4352))⟩,
      ⟨Rect.unit (s := S1024x2816) ![0, 1280] ![1024, 256] inb_S1024x2816_S1024x256_0_1280, gluMat (k0_pay30 x0 x2) (View.ld x3 (Rect.unit (s := S1024x5632) ![0, 1280] ![1024, 256] inb_S1024x5632_S1024x256_0_1280)) (View.ld x3 (Rect.unit (s := S1024x5632) ![0, 4096] ![1024, 256] inb_S1024x5632_S1024x256_0_4096))⟩,
      ⟨Rect.unit (s := S1024x2816) ![0, 1024] ![1024, 256] inb_S1024x2816_S1024x256_0_1024, gluMat (k0_pay30 x0 x2) (View.ld x3 (Rect.unit (s := S1024x5632) ![0, 1024] ![1024, 256] inb_S1024x5632_S1024x256_0_1024)) (View.ld x3 (Rect.unit (s := S1024x5632) ![0, 3840] ![1024, 256] inb_S1024x5632_S1024x256_0_3840))⟩,
      ⟨Rect.unit (s := S1024x2816) ![0, 768] ![1024, 256] inb_S1024x2816_S1024x256_0_768, gluMat (k0_pay30 x0 x2) (View.ld x3 (Rect.unit (s := S1024x5632) ![0, 768] ![1024, 256] inb_S1024x5632_S1024x256_0_768)) (View.ld x3 (Rect.unit (s := S1024x5632) ![0, 3584] ![1024, 256] inb_S1024x5632_S1024x256_0_3584))⟩,
      ⟨Rect.unit (s := S1024x2816) ![0, 512] ![1024, 256] inb_S1024x2816_S1024x256_0_512, gluMat (k0_pay30 x0 x2) (View.ld x3 (Rect.unit (s := S1024x5632) ![0, 512] ![1024, 256] inb_S1024x5632_S1024x256_0_512)) (View.ld x3 (Rect.unit (s := S1024x5632) ![0, 3328] ![1024, 256] inb_S1024x5632_S1024x256_0_3328))⟩,
      ⟨Rect.unit (s := S1024x2816) ![0, 256] ![1024, 256] inb_S1024x2816_S1024x256_0_256, gluMat (k0_pay30 x0 x2) (View.ld x3 (Rect.unit (s := S1024x5632) ![0, 256] ![1024, 256] inb_S1024x5632_S1024x256_0_256)) (View.ld x3 (Rect.unit (s := S1024x5632) ![0, 3072] ![1024, 256] inb_S1024x5632_S1024x256_0_3072))⟩,
      ⟨Rect.unit (s := S1024x2816) ![0, 0] ![1024, 256] inb_S1024x2816_S1024x256_0_0, gluMat (k0_pay30 x0 x2) (View.ld x3 (Rect.unit (s := S1024x5632) ![0, 0] ![1024, 256] inb_S1024x5632_S1024x256_0_0)) (View.ld x3 (Rect.unit (s := S1024x5632) ![0, 2816] ![1024, 256] inb_S1024x5632_S1024x256_0_2816))⟩] : List (View.Piece (Elt Ideal) S1024x2816 .bf16)) = hidMat x0 x2 x3 := by
  funext y
  refine View.canon_apply_of_pieces (hidMat x0 x2 x3) _ (View.PiecesOf.mem ?_) y (View.cover_of_tiledBy _ ![1024, 256] (by sl_kernel_rfl) y)
  exact ⟨piece_tile x0 x2 x3 2560 5376 rfl inb_S1024x2816_S1024x256_0_2560 inb_S1024x5632_S1024x256_0_2560 inb_S1024x5632_S1024x256_0_5376,
    piece_tile x0 x2 x3 2304 5120 rfl inb_S1024x2816_S1024x256_0_2304 inb_S1024x5632_S1024x256_0_2304 inb_S1024x5632_S1024x256_0_5120,
    piece_tile x0 x2 x3 2048 4864 rfl inb_S1024x2816_S1024x256_0_2048 inb_S1024x5632_S1024x256_0_2048 inb_S1024x5632_S1024x256_0_4864,
    piece_tile x0 x2 x3 1792 4608 rfl inb_S1024x2816_S1024x256_0_1792 inb_S1024x5632_S1024x256_0_1792 inb_S1024x5632_S1024x256_0_4608,
    piece_tile x0 x2 x3 1536 4352 rfl inb_S1024x2816_S1024x256_0_1536 inb_S1024x5632_S1024x256_0_1536 inb_S1024x5632_S1024x256_0_4352,
    piece_tile x0 x2 x3 1280 4096 rfl inb_S1024x2816_S1024x256_0_1280 inb_S1024x5632_S1024x256_0_1280 inb_S1024x5632_S1024x256_0_4096,
    piece_tile x0 x2 x3 1024 3840 rfl inb_S1024x2816_S1024x256_0_1024 inb_S1024x5632_S1024x256_0_1024 inb_S1024x5632_S1024x256_0_3840,
    piece_tile x0 x2 x3 768 3584 rfl inb_S1024x2816_S1024x256_0_768 inb_S1024x5632_S1024x256_0_768 inb_S1024x5632_S1024x256_0_3584,
    piece_tile x0 x2 x3 512 3328 rfl inb_S1024x2816_S1024x256_0_512 inb_S1024x5632_S1024x256_0_512 inb_S1024x5632_S1024x256_0_3328,
    piece_tile x0 x2 x3 256 3072 rfl inb_S1024x2816_S1024x256_0_256 inb_S1024x5632_S1024x256_0_256 inb_S1024x5632_S1024x256_0_3072,
    piece_tile x0 x2 x3 0 2816 rfl inb_S1024x2816_S1024x256_0_0 inb_S1024x5632_S1024x256_0_0 inb_S1024x5632_S1024x256_0_2816, trivial⟩

/-- The stream's block, row by row. -/
def outMat (x0 : Vec Ideal S1024x1024 .f32) (x1 : Vec Ideal S1x1024x256 .f32) (x2 : Vec Ideal S1x1x1024 .f32) (x3 : Vec Ideal S1024x5632 .bf16) (x4 : Vec Ideal S2816x1024 .bf16) (x5 : Vec Ideal S1x1x1024 .f32) (x6 : Vec Ideal S1024x1024 .bf16) (x7 : Vec Ideal S256x1024 .bf16) : Vec Ideal S1024x1024 .f32 :=
  fun y => ple (mid (fun j => x0 (ix2 ⟨(y 0).val, (y 0).isLt⟩ j)) (fun j => x2 (ix3 0 0 j)) (fun a b => x3 (ix2 a b)) (fun a b => x4 (ix2 a b)))
    (fun j => x5 (ix3 0 0 j)) (fun a b => x6 (ix2 a b)) (fun j => x1 (ix3 0 ⟨(y 0).val, (y 0).isLt⟩ j)) (fun a b => x7 (ix2 a b)) ⟨(y 1).val, (y 1).isLt⟩

/-- A store of rows `o … o+255` with the row function's entries is a block of `outMat`. -/
theorem piece_out (x0 : Vec Ideal S1024x1024 .f32) (x1 : Vec Ideal S1x1024x256 .f32) (x2 : Vec Ideal S1x1x1024 .f32) (x3 : Vec Ideal S1024x5632 .bf16) (x4 : Vec Ideal S2816x1024 .bf16) (x5 : Vec Ideal S1x1x1024 .f32) (x6 : Vec Ideal S1024x1024 .bf16) (x7 : Vec Ideal S256x1024 .bf16) (o : ℕ)
    (inb : ∀ a, (![o, 0] : Fin 2 → Nat) a + S256x1024.size a ≤ S1024x1024.size a)
    (inh : ∀ a, (![o, 0] : Fin 2 → Nat) a + S256x2816.size a ≤ S1024x2816.size a)
    (H W : Vec Ideal S256x1024 .f32)
    (hH : ∀ (r : Fin 256) (k : Fin 1024), H (ix2 r k) = View.ld x0 (Rect.unit (s := S1024x1024) ![o, 0] S256x1024.size inb) (ix2 r k)
        + ∑ j : Fin 2816, hidMat x0 x2 x3 ((Rect.unit (s := S1024x2816) ![o, 0] S256x2816.size inh).toLoadRect.idx (ix2 r j)) * x4 (ix2 j k))
    (hW : ∀ (r : Fin 256) (k : Fin 1024), W (ix2 r k) =
      gated (fun j => H (ix2 r j)) (fun j => x5 (ix3 0 0 j)) (fun a b => x6 (ix2 a b))
        (k0_pay29 (k0_pay27 x1) (k0_pay28 x7) ((Rect.unit (s := S1024x1024) ![o, 0] S256x1024.size inb).toLoadRect.idx (ix2 r k))) k)
    (x : (Rect.unit (s := S1024x1024) ![o, 0] S256x1024.size inb).shape.Idx) :
    W x = outMat x0 x1 x2 x3 x4 x5 x6 x7 ((Rect.unit (s := S1024x1024) ![o, 0] S256x1024.size inb).emb x) := by
  obtain ⟨r, k, rfl⟩ : ∃ (r : Fin 256) (k : Fin 1024), x = ix2 r k := ⟨x 0, x 1, funext fun a => by match a with | ⟨0, _⟩ => rfl | ⟨1, _⟩ => rfl⟩
  have ho : o + r.val < 1024 := by have := inb 0; simp at this; omega
  have e0 : ((Rect.unit (s := S1024x1024) ![o, 0] S256x1024.size inb).emb (ix2 r k) 0).val = o + r.val := by
    show o + 1 * r.val = _; omega
  have e1 : ((Rect.unit (s := S1024x1024) ![o, 0] S256x1024.size inb).emb (ix2 r k) 1).val = k.val := by
    show 0 + 1 * k.val = _; omega
  have l0 : ∀ j : Fin 1024, (Rect.unit (s := S1024x1024) ![o, 0] S256x1024.size inb).toLoadRect.idx (ix2 r j) = ix2 ⟨o + r.val, ho⟩ j := fun j => funext fun a => Fin.ext (by
    match a with
    | ⟨0, _⟩ => show o + 1 * r.val = o + r.val; omega
    | ⟨1, _⟩ => show 0 + 1 * j.val = j.val; omega)
  have l1 : ∀ j : Fin 1024, View.ld x0 (Rect.unit (s := S1024x1024) ![o, 0] S256x1024.size inb) (ix2 r j) = x0 (ix2 ⟨o + r.val, ho⟩ j) := fun j => congrArg x0 (l0 j)
  have l2 : ∀ j : Fin 2816, (Rect.unit (s := S1024x2816) ![o, 0] S256x2816.size inh).toLoadRect.idx (ix2 r j) = ix2 ⟨o + r.val, ho⟩ j := fun j => funext fun a => Fin.ext (by
    match a with
    | ⟨0, _⟩ => show o + 1 * r.val = o + r.val; omega
    | ⟨1, _⟩ => show 0 + 1 * j.val = j.val; omega)
  have hm : ∀ j : Fin 1024, H (ix2 r j) = mid (fun j => x0 (ix2 ⟨o + r.val, ho⟩ j)) (fun j => x2 (ix3 0 0 j)) (fun a b => x3 (ix2 a b)) (fun a b => x4 (ix2 a b)) j := by
    intro j
    rw [hH r j, l1]
    simp only [l2]
    rfl
  rw [hW r k]
  simp only [l0, emb_apply, hm]
  unfold outMat gated ple
  simp only [e0, e1]

set_option maxHeartbeats 1000000 in
/-- The body's block of the stream. -/
theorem out_eq (c : Dev nD) (i : grid0.Coords) (arg1 : Memref sig .tc .vmem S1024x1024 .f32) (harg1 : arg1.IsWhole) (arg2 : Memref sig .tc .vmem S1x1024x256 .f32) (harg2 : arg2.IsWhole) (arg3 : Memref sig .tc .vmem S1x1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x3088x128 .f32) (harg10 : arg10.IsWhole) (arg11 : Memref sig .tc .vmem S1x32x1024 .f32) (harg11 : arg11.IsWhole) (arg12 : Memref sig .tc .vmem S1024x1024 .f32) (harg12 : arg12.IsWhole) (arg13 : Memref sig .tc .vmem S128x3200 .bf16) (harg13 : arg13.IsWhole) (arg14 : Memref sig .tc .vmem S32x1024 .bf16) (harg14 : arg14.IsWhole) (arg15 : Memref sig .tc .vmem S1024x2816 .bf16) (harg15 : arg15.IsWhole)
    (x0 : Vec Ideal S1024x1024 .f32) (x1 : Vec Ideal S1x1024x256 .f32) (x2 : Vec Ideal S1x1x1024 .f32) (x3 : Vec Ideal S1024x5632 .bf16) (x4 : Vec Ideal S2816x1024 .bf16) (x5 : Vec Ideal S1x1x1024 .f32) (x6 : Vec Ideal S1024x1024 .bf16) (x7 : Vec Ideal S256x1024 .bf16) (x8 : Vec Ideal S1x1024 .f32) (x9 : Vec Ideal S1x3088x128 .f32) (x10 : Vec Ideal S1x32x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = outMat x0 x1 x2 x3 x4 x5 x6 x7 := by
  unfold out0_A_11
  rw [View.read_writes_junk_eq_canon]
  unfold kernelRun0_A
  dsimp only
  sl_unfold_words
  simp only [View.readAt_eq_ld, Memref.IsWhole.read_unread, View.ld_unit_zero (S := S1024x1024) hz2, View.ld_unit_zero (S := S2816x1024) hz2,
    View.ld_unit_zero (S := S256x1024) hz2, View.ld_unit_zero (S := S1x1024) hz2, View.ld_unit_zero (S := S1x1x1024) hz3,
    View.ld_unit_zero (S := S1x1024x256) hz3, View.readCov_eq_canon', tile31, tile33, tile34, tile35, tile36, tile37, tile39, tile40, tile41, tile44, tile45]
  simp (disch := omega) only [hid_canon, canon_skip, canon_all]
  funext y
  refine View.canon_append_of_piecesOf (outMat x0 x1 x2 x3 x4 x5 x6 x7) [_] [_, _, _, _] ⟨?_, ?_, ?_, ?_, trivial⟩ y ?_
  · exact piece_out x0 x1 x2 x3 x4 x5 x6 x7 768 inb_S1024x1024_S256x1024_768_0 inb_S1024x2816_S256x2816_768_0 _ _ (fun r k => down51 _ _ _ r k) (fun r k => last60 _ _ _ _ r k)
  · exact piece_out x0 x1 x2 x3 x4 x5 x6 x7 512 inb_S1024x1024_S256x1024_512_0 inb_S1024x2816_S256x2816_512_0 _ _ (fun r k => down50 _ _ _ r k) (fun r k => last59 _ _ _ _ r k)
  · exact piece_out x0 x1 x2 x3 x4 x5 x6 x7 256 inb_S1024x1024_S256x1024_256_0 inb_S1024x2816_S256x2816_256_0 _ _ (fun r k => down49 _ _ _ r k) (fun r k => last58 _ _ _ _ r k)
  · exact piece_out x0 x1 x2 x3 x4 x5 x6 x7 0 inb_S1024x1024_S256x1024_0_0 inb_S1024x2816_S256x2816_0_0 _ _ (fun r k => down46 _ _ _ r k) (fun r k => last57 _ _ _ _ r k)
  · exact View.cover_of_tiledBy _ ![256, 1024] (by sl_kernel_rfl) y

/-- The block of the input weight: column `j` is the source row, transposed. -/
def winMat (x9 : Vec Ideal S1x3088x128 .f32) : Vec Ideal S128x3200 .bf16 := fun y =>
  match src ⟨(y 1).val, (y 1).isLt⟩ with
  | some n => x9 (ix3 0 n ⟨(y 0).val, (y 0).isLt⟩)
  | none => 0

/-- A transposed tile. -/
def tileT (v : Vec Ideal S1x128x128 .f32) : FVec Ideal S128x128 .bf16 := k0_pay1 v

theorem tileT_apply (v : Vec Ideal S1x128x128 .f32) (r k : Fin 128) : tileT v (ix2 r k) = v (ix3 0 k r) := by
  unfold tileT k0_pay1; pointwise

/-- The last tile: sixteen source rows, then zeros. -/
theorem tileZ_lo (v : Vec Ideal S1x16x128 .f32) (r : Fin 128) (k : Fin 128) (n : Fin 16) (h : k.val = n.val) : k0_pay25 v (ix2 r k) = v (ix3 0 n r) := by
  unfold k0_pay25
  refine Eq.trans (b := concatenate S128x128 0 [⟨S16x128, shapeCast S16x128 v shapeCasts_S1x16x128_S16x128⟩, ⟨S112x128, broadcast S112x128 (Scalar.sitofp (F := Ideal) .f32 0#32)⟩] concatenates_S16x128_S112x128_S128x128_d0 (ix2 k r)) (by pointwise) ?_
  refine (concatenate_pair_apply_left (t := S128x128) (s₁ := S16x128) (s₂ := S112x128) 0 _ _ _ (ix2 k r) rfl (ix2 n r) (fun b => ?_)).trans (by pointwise)
  match b with
  | ⟨0, _⟩ => exact h.symm
  | ⟨1, _⟩ => rfl

theorem tileZ_hi (v : Vec Ideal S1x16x128 .f32) (r : Fin 128) (k : Fin 128) (h : 16 ≤ k.val) : k0_pay25 v (ix2 r k) = 0 := by
  unfold k0_pay25
  refine Eq.trans (b := concatenate S128x128 0 [⟨S16x128, shapeCast S16x128 v shapeCasts_S1x16x128_S16x128⟩, ⟨S112x128, broadcast S112x128 (Scalar.sitofp (F := Ideal) .f32 0#32)⟩] concatenates_S16x128_S112x128_S128x128_d0 (ix2 k r)) (by pointwise) ?_
  refine (concatenate_pair_apply_right (t := S128x128) (s₁ := S16x128) (s₂ := S112x128) 0 _ _ _ (ix2 k r) rfl rfl (ix2 ⟨k.val - 16, by omega⟩ r) (fun b hb => ?_) (by show k.val - 16 + 16 = k.val; omega)).trans ?_
  · match b with
    | ⟨0, _⟩ => exact absurd rfl hb
    | ⟨1, _⟩ => rfl
  · show Scalar.sitofp (F := Ideal) .f32 0#32 = 0
    show ((((0#32).toInt : ℤ) : ℝ) : EReal) = 0
    simp

/-- A store of columns `o … o+127` holding the transposed tile of source rows from `o'` on is a block of `winMat`. -/
theorem piece_win (x9 : Vec Ideal S1x3088x128 .f32) (o o' : ℕ) (ho : ∀ k < 128, ∀ h : o + k < 3200, src ⟨o + k, h⟩ = if h' : o' + k < 3088 then some ⟨o' + k, h'⟩ else none)
    (inb : ∀ a, (![0, o] : Fin 2 → Nat) a + S128x128.size a ≤ S128x3200.size a)
    (inl : ∀ a, (![0, o', 0] : Fin 3 → Nat) a + S1x128x128.size a ≤ S1x3088x128.size a)
    (x : (Rect.unit (s := S128x3200) ![0, o] S128x128.size inb).shape.Idx) :
    tileT (View.ld x9 (Rect.unit (s := S1x3088x128) ![0, o', 0] S1x128x128.size inl)) x = winMat x9 ((Rect.unit (s := S128x3200) ![0, o] S128x128.size inb).emb x) := by
  obtain ⟨r, k, rfl⟩ : ∃ (r : Fin 128) (k : Fin 128), x = ix2 r k := ⟨x 0, x 1, funext fun a => by match a with | ⟨0, _⟩ => rfl | ⟨1, _⟩ => rfl⟩
  have e0 : ((Rect.unit (s := S128x3200) ![0, o] S128x128.size inb).emb (ix2 r k) 0).val = r.val := by
    show 0 + 1 * r.val = _; omega
  have e1 : ((Rect.unit (s := S128x3200) ![0, o] S128x128.size inb).emb (ix2 r k) 1).val = o + k.val := by
    show o + 1 * k.val = _; omega
  have h1 : o + 128 ≤ 3200 := inb 1
  have h2 : o' + 128 ≤ 3088 := inl 1
  rw [tileT_apply]
  unfold winMat
  simp only [e0, e1]
  rw [ho k.val k.isLt (by omega), dif_pos (by omega)]
  refine congrArg x9 (funext fun a => Fin.ext ?_)
  match a with
  | ⟨0, _⟩ => rfl
  | ⟨1, _⟩ => show o' + 1 * k.val = o' + k.val; omega
  | ⟨2, _⟩ => show 0 + 1 * r.val = r.val; omega

theorem src_lo (o : ℕ) (h0 : o + 128 ≤ 1536) : ∀ k < 128, ∀ h : o + k < 3200, src ⟨o + k, h⟩ = if h' : o + k < 3088 then some ⟨o + k, h'⟩ else none := by
  intro k hk h
  unfold src
  rw [dif_pos (show o + k < 1536 by omega), dif_pos (by omega)]

theorem src_hi (o o' : ℕ) (e : o' = o + 16) (h0 : 1536 ≤ o) (h1 : o + 128 ≤ 3072) : ∀ k < 128, ∀ h : o + k < 3200, src ⟨o + k, h⟩ = if h' : o' + k < 3088 then some ⟨o' + k, h'⟩ else none := by
  intro k hk h
  unfold src
  rw [dif_neg (show ¬ o + k < 1536 by omega), dif_pos (show o + k < 3072 by omega), dif_pos (show o' + k < 3088 by omega)]
  exact congrArg some (Fin.ext (show o + k + 16 = o' + k by omega))

/-- The store of the last tile. -/
theorem piece_last (x9 : Vec Ideal S1x3088x128 .f32) (x : (Rect.unit (s := S128x3200) ![0, 3072] S128x128.size inb_S128x3200_S128x128_0_3072).shape.Idx) :
    k0_pay25 (View.ld x9 (Rect.unit (s := S1x3088x128) ![0, 1536, 0] S1x16x128.size inb_S1x3088x128_S1x16x128_0_1536_0)) x
      = winMat x9 ((Rect.unit (s := S128x3200) ![0, 3072] S128x128.size inb_S128x3200_S128x128_0_3072).emb x) := by
  obtain ⟨r, k, rfl⟩ : ∃ (r : Fin 128) (k : Fin 128), x = ix2 r k := ⟨x 0, x 1, funext fun a => by match a with | ⟨0, _⟩ => rfl | ⟨1, _⟩ => rfl⟩
  have e0 : ((Rect.unit (s := S128x3200) ![0, 3072] S128x128.size inb_S128x3200_S128x128_0_3072).emb (ix2 r k) 0).val = r.val := by
    show 0 + 1 * r.val = _; omega
  have e1 : ((Rect.unit (s := S128x3200) ![0, 3072] S128x128.size inb_S128x3200_S128x128_0_3072).emb (ix2 r k) 1).val = 3072 + k.val := by
    show 3072 + 1 * k.val = _; omega
  unfold winMat
  simp only [e0, e1]
  by_cases hk : k.val < 16
  · rw [tileZ_lo _ r k ⟨k.val, hk⟩ rfl]
    have : src ⟨3072 + k.val, by omega⟩ = some ⟨1536 + k.val, by omega⟩ := by
      unfold src
      rw [dif_neg (show ¬ 3072 + k.val < 1536 by omega), dif_neg (show ¬ 3072 + k.val < 3072 by omega), dif_pos (show 3072 + k.val < 3088 by omega)]
      exact congrArg some (Fin.ext (show 3072 + k.val - 1536 = 1536 + k.val by omega))
    rw [this]
    refine congrArg x9 (funext fun a => Fin.ext ?_)
    match a with
    | ⟨0, _⟩ => rfl
    | ⟨1, _⟩ => show 1536 + 1 * k.val = 1536 + k.val; omega
    | ⟨2, _⟩ => show 0 + 1 * r.val = r.val; omega
  · rw [tileZ_hi _ r k (by omega)]
    have : src ⟨3072 + k.val, by omega⟩ = none := by
      unfold src
      rw [dif_neg (show ¬ 3072 + k.val < 1536 by omega), dif_neg (show ¬ 3072 + k.val < 3072 by omega), dif_neg (show ¬ 3072 + k.val < 3088 by omega)]
    rw [this]

set_option maxHeartbeats 1000000 in
/-- The body's block of the input weight. -/
theorem win_eq (c : Dev nD) (i : grid0.Coords) (arg1 : Memref sig .tc .vmem S1024x1024 .f32) (harg1 : arg1.IsWhole) (arg2 : Memref sig .tc .vmem S1x1024x256 .f32) (harg2 : arg2.IsWhole) (arg3 : Memref sig .tc .vmem S1x1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x3088x128 .f32) (harg10 : arg10.IsWhole) (arg11 : Memref sig .tc .vmem S1x32x1024 .f32) (harg11 : arg11.IsWhole) (arg12 : Memref sig .tc .vmem S1024x1024 .f32) (harg12 : arg12.IsWhole) (arg13 : Memref sig .tc .vmem S128x3200 .bf16) (harg13 : arg13.IsWhole) (arg14 : Memref sig .tc .vmem S32x1024 .bf16) (harg14 : arg14.IsWhole) (arg15 : Memref sig .tc .vmem S1024x2816 .bf16) (harg15 : arg15.IsWhole)
    (x0 : Vec Ideal S1024x1024 .f32) (x1 : Vec Ideal S1x1024x256 .f32) (x2 : Vec Ideal S1x1x1024 .f32) (x3 : Vec Ideal S1024x5632 .bf16) (x4 : Vec Ideal S2816x1024 .bf16) (x5 : Vec Ideal S1x1x1024 .f32) (x6 : Vec Ideal S1024x1024 .bf16) (x7 : Vec Ideal S256x1024 .bf16) (x8 : Vec Ideal S1x1024 .f32) (x9 : Vec Ideal S1x3088x128 .f32) (x10 : Vec Ideal S1x32x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = winMat x9 := by
  unfold out0_A_12
  rw [View.read_writes_junk_eq_canon]
  unfold kernelRun0_A
  dsimp only
  sl_unfold_words
  simp only [View.readAt_eq_ld, Memref.IsWhole.read_unread]
  funext y
  refine View.canon_apply_of_pieces (winMat x9) _ (View.PiecesOf.mem ?_) y (View.cover_of_tiledBy _ ![128, 128] (by sl_kernel_rfl) y)
  exact ⟨piece_last x9,
    piece_win x9 2944 2960 (src_hi _ _ rfl (by omega) (by omega)) inb_S128x3200_S128x128_0_2944 inb_S1x3088x128_S1x128x128_0_2960_0,
    piece_win x9 2816 2832 (src_hi _ _ rfl (by omega) (by omega)) inb_S128x3200_S128x128_0_2816 inb_S1x3088x128_S1x128x128_0_2832_0,
    piece_win x9 2688 2704 (src_hi _ _ rfl (by omega) (by omega)) inb_S128x3200_S128x128_0_2688 inb_S1x3088x128_S1x128x128_0_2704_0,
    piece_win x9 2560 2576 (src_hi _ _ rfl (by omega) (by omega)) inb_S128x3200_S128x128_0_2560 inb_S1x3088x128_S1x128x128_0_2576_0,
    piece_win x9 2432 2448 (src_hi _ _ rfl (by omega) (by omega)) inb_S128x3200_S128x128_0_2432 inb_S1x3088x128_S1x128x128_0_2448_0,
    piece_win x9 2304 2320 (src_hi _ _ rfl (by omega) (by omega)) inb_S128x3200_S128x128_0_2304 inb_S1x3088x128_S1x128x128_0_2320_0,
    piece_win x9 2176 2192 (src_hi _ _ rfl (by omega) (by omega)) inb_S128x3200_S128x128_0_2176 inb_S1x3088x128_S1x128x128_0_2192_0,
    piece_win x9 2048 2064 (src_hi _ _ rfl (by omega) (by omega)) inb_S128x3200_S128x128_0_2048 inb_S1x3088x128_S1x128x128_0_2064_0,
    piece_win x9 1920 1936 (src_hi _ _ rfl (by omega) (by omega)) inb_S128x3200_S128x128_0_1920 inb_S1x3088x128_S1x128x128_0_1936_0,
    piece_win x9 1792 1808 (src_hi _ _ rfl (by omega) (by omega)) inb_S128x3200_S128x128_0_1792 inb_S1x3088x128_S1x128x128_0_1808_0,
    piece_win x9 1664 1680 (src_hi _ _ rfl (by omega) (by omega)) inb_S128x3200_S128x128_0_1664 inb_S1x3088x128_S1x128x128_0_1680_0,
    piece_win x9 1536 1552 (src_hi _ _ rfl (by omega) (by omega)) inb_S128x3200_S128x128_0_1536 inb_S1x3088x128_S1x128x128_0_1552_0,
    piece_win x9 1408 1408 (src_lo _ (by omega)) inb_S128x3200_S128x128_0_1408 inb_S1x3088x128_S1x128x128_0_1408_0,
    piece_win x9 1280 1280 (src_lo _ (by omega)) inb_S128x3200_S128x128_0_1280 inb_S1x3088x128_S1x128x128_0_1280_0,
    piece_win x9 1152 1152 (src_lo _ (by omega)) inb_S128x3200_S128x128_0_1152 inb_S1x3088x128_S1x128x128_0_1152_0,
    piece_win x9 1024 1024 (src_lo _ (by omega)) inb_S128x3200_S128x128_0_1024 inb_S1x3088x128_S1x128x128_0_1024_0,
    piece_win x9 896 896 (src_lo _ (by omega)) inb_S128x3200_S128x128_0_896 inb_S1x3088x128_S1x128x128_0_896_0,
    piece_win x9 768 768 (src_lo _ (by omega)) inb_S128x3200_S128x128_0_768 inb_S1x3088x128_S1x128x128_0_768_0,
    piece_win x9 640 640 (src_lo _ (by omega)) inb_S128x3200_S128x128_0_640 inb_S1x3088x128_S1x128x128_0_640_0,
    piece_win x9 512 512 (src_lo _ (by omega)) inb_S128x3200_S128x128_0_512 inb_S1x3088x128_S1x128x128_0_512_0,
    piece_win x9 384 384 (src_lo _ (by omega)) inb_S128x3200_S128x128_0_384 inb_S1x3088x128_S1x128x128_0_384_0,
    piece_win x9 256 256 (src_lo _ (by omega)) inb_S128x3200_S128x128_0_256 inb_S1x3088x128_S1x128x128_0_256_0,
    piece_win x9 128 128 (src_lo _ (by omega)) inb_S128x3200_S128x128_0_128 inb_S1x3088x128_S1x128x128_0_128_0,
    piece_win x9 0 0 (src_lo _ (by omega)) inb_S128x3200_S128x128_0_0 inb_S1x3088x128_S1x128x128_0_0_0, trivial⟩

/-- The block of the output weight. -/
def woutMat (x10 : Vec Ideal S1x32x1024 .f32) : Vec Ideal S32x1024 .bf16 := k0_pay26 x10

theorem woutMat_apply (x10 : Vec Ideal S1x32x1024 .f32) (r : Fin 32) (k : Fin 1024) : woutMat x10 (ix2 r k) = x10 (ix3 0 r k) := by
  unfold woutMat k0_pay26; pointwise

set_option maxHeartbeats 1000000 in
/-- The body's block of the output weight. -/
theorem wout_eq (c : Dev nD) (i : grid0.Coords) (arg1 : Memref sig .tc .vmem S1024x1024 .f32) (harg1 : arg1.IsWhole) (arg2 : Memref sig .tc .vmem S1x1024x256 .f32) (harg2 : arg2.IsWhole) (arg3 : Memref sig .tc .vmem S1x1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x3088x128 .f32) (harg10 : arg10.IsWhole) (arg11 : Memref sig .tc .vmem S1x32x1024 .f32) (harg11 : arg11.IsWhole) (arg12 : Memref sig .tc .vmem S1024x1024 .f32) (harg12 : arg12.IsWhole) (arg13 : Memref sig .tc .vmem S128x3200 .bf16) (harg13 : arg13.IsWhole) (arg14 : Memref sig .tc .vmem S32x1024 .bf16) (harg14 : arg14.IsWhole) (arg15 : Memref sig .tc .vmem S1024x2816 .bf16) (harg15 : arg15.IsWhole)
    (x0 : Vec Ideal S1024x1024 .f32) (x1 : Vec Ideal S1x1024x256 .f32) (x2 : Vec Ideal S1x1x1024 .f32) (x3 : Vec Ideal S1024x5632 .bf16) (x4 : Vec Ideal S2816x1024 .bf16) (x5 : Vec Ideal S1x1x1024 .f32) (x6 : Vec Ideal S1024x1024 .bf16) (x7 : Vec Ideal S256x1024 .bf16) (x8 : Vec Ideal S1x1024 .f32) (x9 : Vec Ideal S1x3088x128 .f32) (x10 : Vec Ideal S1x32x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = woutMat x10 := by
  unfold out0_A_13
  rw [View.read_writes_junk_eq_canon]
  unfold kernelRun0_A
  dsimp only
  sl_unfold_words
  simp only [View.readAt_eq_ld, Memref.IsWhole.read_unread, View.ld_unit_zero (S := S1x32x1024) hz3]
  exact View.canon_unit_zero (S := S32x1024) hz2 _ _

end Cert.Kernel3Ideal.Ffn

end
-- ==== Proof.Ffn0Value.lean ====
/- The first layer's feed-forward kernel's result arrays: row `n` of the stream is the row function of row `n` of the stream
   before it and layer 0's weights; the two weights are the next mixer's, prepared. -/
module

public import proofs.«01_k».proof.Proof.Ffn0Out
public import Idealize.ShloMosaic.Lib.Pipeline.ValueKit
public import Idealize.ShloMosaic.Lib.Claim

@[expose] public section

set_option maxRecDepth 16384

noncomputable section

namespace Cert.Kernel3Ideal.Ffn

open Cert.Kernel3Ideal Cert.Kernel3Ideal.Gen Idealize.ShloMosaic Idealize.ShloMosaic.TcCoe Idealize.ShloMosaic.Tactic Idealize.SL.Sem Cert.FfnSpec

variable (m : (ℓ : Loc nD τ sig) → Buf (Elt Ideal) ℓ) (c : Dev nD)

/-- Row `(b, r)` of the stream. -/
def outRow (b : Fin 4) (r : Fin 8192) : Fin 1024 → EReal :=
  ple (mid (fun j => (m ((c.tc : Thread nD τ).loc main_arg0) : FVec Ideal S4x8192x1024 .f32) (ix3 b r j))
      (fun j => (m ((c.tc : Thread nD τ).loc main_arg2) : FVec Ideal S2x1024 .f32) (ix2 0 j))
      (fun i j => (m ((c.tc : Thread nD τ).loc main_arg3) : FVec Ideal S2x1024x5632 .f32) (ix3 0 i j))
      (fun i j => (m ((c.tc : Thread nD τ).loc main_arg4) : FVec Ideal S2x2816x1024 .f32) (ix3 0 i j)))
      (fun j => (m ((c.tc : Thread nD τ).loc main_arg5) : FVec Ideal S2x1024 .f32) (ix2 0 j))
      (fun i j => (m ((c.tc : Thread nD τ).loc main_arg6) : FVec Ideal S2x1024x1024 .f32) (ix3 0 i j))
      (fun j => (m ((c.tc : Thread nD τ).loc main_arg1) : FVec Ideal S2x4x8192x256 .f32) (ix4 0 b r j))
      (fun i j => (m ((c.tc : Thread nD τ).loc main_arg7) : FVec Ideal S2x256x1024 .f32) (ix3 0 i j))

/-- The stream's array. -/
def result : FVec Ideal S32768x1024 .f32 := fun y =>
  outRow m c ⟨(y 0).val / 8192, by have : (y 0).val < 32768 := (y 0).isLt; omega⟩ ⟨(y 0).val % 8192, Nat.mod_lt _ (by decide)⟩ ⟨(y 1).val, (y 1).isLt⟩

/-- The prepared input weight's array. -/
def resultIn : FVec Ideal S1024x3200 .bf16 := fun y =>
  match src ⟨(y 1).val, (y 1).isLt⟩ with
  | some n => (m ((c.tc : Thread nD τ).loc main_arg9) : FVec Ideal S2x1024x3088 .f32) (ix3 1 ⟨(y 0).val, (y 0).isLt⟩ n)
  | none => 0

/-- The prepared output weight's array. -/
def resultOut : FVec Ideal S1024x1024 .bf16 := fun y =>
  (m ((c.tc : Thread nD τ).loc main_arg10) : FVec Ideal S2x1024x1024 .f32) (ix3 1 ⟨(y 0).val, (y 0).isLt⟩ ⟨(y 1).val, (y 1).isLt⟩)

/-- Where each window's block lies at each point. -/
theorem idx (t : Fin cfg0.N) : win0_0.index t = ![t.val, 0] ∧ win0_1.index t = ![0, t.val, 0] ∧ win0_2.index t = ![0, 0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![1, 0, t.val / 4] ∧ win0_10.index t = ![1, t.val, 0] ∧ win0_11.index t = ![t.val, 0] ∧ win0_12.index t = ![t.val / 4, 0] ∧ win0_13.index t = ![t.val, 0] :=
  (by decide +kernel : ∀ t : Fin grid0.N, win0_0.index t = ![t.val, 0] ∧ win0_1.index t = ![0, t.val, 0] ∧ win0_2.index t = ![0, 0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![1, 0, t.val / 4] ∧ win0_10.index t = ![1, t.val, 0] ∧ win0_11.index t = ![t.val, 0] ∧ win0_12.index t = ![t.val / 4, 0] ∧ win0_13.index t = ![t.val, 0]) t

theorem blk0 (t : Fin cfg0.N) (b : Fin 4) (q : Fin 8192) (r j : Fin 1024) (h : 1024 * t.val + r.val = 8192 * b.val + q.val) :
    (iblk m c 0 t : FVec Ideal S1024x1024 .f32) (ix2 r j) = (m ((c.tc : Thread nD τ).loc main_arg0) : FVec Ideal S4x8192x1024 .f32) (ix3 b q j) := by
  have e : (iblk m c 0 t : FVec Ideal S1024x1024 .f32) (ix2 r j) = (V m c main_v2 : FVec Ideal S32768x1024 .f32) (ix2 ⟨1024 * t.val + r.val, by omega⟩ j) := by
    blk_ext [iblk, V, idx t]
  rw [e]
  entry_read
  refine shapeCast_apply _ _ _ _ ?_
  refine (Shape.rowMajor_val_three (d := ![4, 8192, 1024]) _).trans (Eq.trans ?_ (Shape.rowMajor_val_two (d := ![32768, 1024]) _).symm)
  show (b.val * 8192 + q.val) * 1024 + j.val = (1024 * t.val + r.val) * 1024 + j.val
  omega

theorem blk1 (t : Fin cfg0.N) (b : Fin 4) (q : Fin 8192) (r : Fin 1024) (j : Fin 256) (h : 1024 * t.val + r.val = 8192 * b.val + q.val) :
    (iblk m c 1 t : FVec Ideal S1x1024x256 .f32) (ix3 0 r j) = (m ((c.tc : Thread nD τ).loc main_arg1) : FVec Ideal S2x4x8192x256 .f32) (ix4 0 b q j) := by
  have e : (iblk m c 1 t : FVec Ideal S1x1024x256 .f32) (ix3 0 r j) = (V m c main_v0 : FVec Ideal S2x32768x256 .f32) (ix3 0 ⟨1024 * t.val + r.val, by omega⟩ j) := by
    blk_ext [iblk, V, idx t]
  rw [e]
  entry_read
  refine shapeCast_apply _ _ _ _ ?_
  refine (Shape.rowMajor_val_four (d := ![2, 4, 8192, 256]) _).trans (Eq.trans ?_ (Shape.rowMajor_val_three (d := ![2, 32768, 256]) _).symm)
  show ((0 * 4 + b.val) * 8192 + q.val) * 256 + j.val = (0 * 32768 + (1024 * t.val + r.val)) * 256 + j.val
  omega

theorem blk2 (t : Fin cfg0.N) (j : Fin 1024) :
    (iblk m c 2 t : FVec Ideal S1x1x1024 .f32) (ix3 0 0 j) = (m ((c.tc : Thread nD τ).loc main_arg2) : FVec Ideal S2x1024 .f32) (ix2 0 j) := by
  have e : (iblk m c 2 t : FVec Ideal S1x1x1024 .f32) (ix3 0 0 j) = (V m c main_v3 : FVec Ideal S2x1x1024 .f32) (ix3 0 0 j) := by
    blk_ext [iblk, V, idx t]
  rw [e]
  entry_read
  pointwise

theorem blk3 (t : Fin cfg0.N) (i : Fin 1024) (j : Fin 5632) :
    (iblk m c 3 t : FVec Ideal S1024x5632 .bf16) (ix2 i j) = (m ((c.tc : Thread nD τ).loc main_arg3) : FVec Ideal S2x1024x5632 .f32) (ix3 0 i j) := by
  have e : (iblk m c 3 t : FVec Ideal S1024x5632 .bf16) (ix2 i j) = (V m c main_v6 : FVec Ideal S1024x5632 .bf16) (ix2 i j) := by
    blk_ext [iblk, V, idx t]
  rw [e]
  entry_read
  pointwise

theorem blk4 (t : Fin cfg0.N) (i : Fin 2816) (j : Fin 1024) :
    (iblk m c 4 t : FVec Ideal S2816x1024 .bf16) (ix2 i j) = (m ((c.tc : Thread nD τ).loc main_arg4) : FVec Ideal S2x2816x1024 .f32) (ix3 0 i j) := by
  have e : (iblk m c 4 t : FVec Ideal S2816x1024 .bf16) (ix2 i j) = (V m c main_v9 : FVec Ideal S2816x1024 .bf16) (ix2 i j) := by
    blk_ext [iblk, V, idx t]
  rw [e]
  entry_read
  pointwise

theorem blk5 (t : Fin cfg0.N) (j : Fin 1024) :
    (iblk m c 5 t : FVec Ideal S1x1x1024 .f32) (ix3 0 0 j) = (m ((c.tc : Thread nD τ).loc main_arg5) : FVec Ideal S2x1024 .f32) (ix2 0 j) := by
  have e : (iblk m c 5 t : FVec Ideal S1x1x1024 .f32) (ix3 0 0 j) = (V m c main_v10 : FVec Ideal S2x1x1024 .f32) (ix3 0 0 j) := by
    blk_ext [iblk, V, idx t]
  rw [e]
  entry_read
  pointwise

theorem blk6 (t : Fin cfg0.N) (i j : Fin 1024) :
    (iblk m c 6 t : FVec Ideal S1024x1024 .bf16) (ix2 i j) = (m ((c.tc : Thread nD τ).loc main_arg6) : FVec Ideal S2x1024x1024 .f32) (ix3 0 i j) := by
  have e : (iblk m c 6 t : FVec Ideal S1024x1024 .bf16) (ix2 i j) = (V m c main_v13 : FVec Ideal S1024x1024 .bf16) (ix2 i j) := by
    blk_ext [iblk, V, idx t]
  rw [e]
  entry_read
  pointwise

theorem blk7 (t : Fin cfg0.N) (i : Fin 256) (j : Fin 1024) :
    (iblk m c 7 t : FVec Ideal S256x1024 .bf16) (ix2 i j) = (m ((c.tc : Thread nD τ).loc main_arg7) : FVec Ideal S2x256x1024 .f32) (ix3 0 i j) := by
  have e : (iblk m c 7 t : FVec Ideal S256x1024 .bf16) (ix2 i j) = (V m c main_v16 : FVec Ideal S256x1024 .bf16) (ix2 i j) := by
    blk_ext [iblk, V, idx t]
  rw [e]
  entry_read
  pointwise

theorem blk9 (t : Fin cfg0.N) (n : Fin 3088) (r : Fin 128) (i : Fin 1024) (h : i.val = 128 * (t.val / 4) + r.val) :
    (iblk m c 9 t : FVec Ideal S1x3088x128 .f32) (ix3 0 n r) = (m ((c.tc : Thread nD τ).loc main_arg9) : FVec Ideal S2x1024x3088 .f32) (ix3 1 i n) := by
  have e : (iblk m c 9 t : FVec Ideal S1x3088x128 .f32) (ix3 0 n r) = (V m c main_v1 : FVec Ideal S2x3088x1024 .f32) (ix3 1 n i) := by
    blk_ext [iblk, V, idx t]
  rw [e]
  entry_read
  pointwise

theorem blk10 (t : Fin cfg0.N) (r : Fin 32) (i k : Fin 1024) (h : i.val = 32 * t.val + r.val) :
    (iblk m c 10 t : FVec Ideal S1x32x1024 .f32) (ix3 0 r k) = (m ((c.tc : Thread nD τ).loc main_arg10) : FVec Ideal S2x1024x1024 .f32) (ix3 1 i k) := by
  have e : (iblk m c 10 t : FVec Ideal S1x32x1024 .f32) (ix3 0 r k) = (V m c main_arg10 : FVec Ideal S2x1024x1024 .f32) (ix3 1 i k) := by
    blk_ext [iblk, V, idx t]
  rw [e]
  entry_read
  rfl

/-- The stream's array after the run. -/
theorem arr_eq : (dats m 0 c).arrAt 11 cfg0.N = result m c := by
  refine (dats m 0 c).arrAt_eq_of_covers 11 _ (by decide +kernel) fun t hf y => ?_
  rw [after0_11]
  unfold outsAt0
  rw [out_eq]
  have ht : t.val < 32 := t.isLt
  have hy : (y 0).val < 1024 := (y 0).isLt
  have hy1 : (y 1).val < 1024 := (y 1).isLt
  have q0 : (((cfg0.win 11).blk t).view.emb y 0).val = 1024 * t.val + (y 0).val := by
    blk_simp [idx t]; omega
  have q1 : (((cfg0.win 11).blk t).view.emb y 1).val = (y 1).val := by
    blk_simp [idx t]
  have hq : 1024 * t.val + (y 0).val = 8192 * ((1024 * t.val + (y 0).val) / 8192) + (1024 * t.val + (y 0).val) % 8192 := by omega
  show outMat _ _ _ _ _ _ _ _ y = result m c (((cfg0.win 11).blk t).view.emb y)
  unfold outMat result outRow
  simp only [q0, q1]
  have e0 : ∀ j, (iblk m c 0 t : FVec Ideal S1024x1024 .f32) (ix2 ⟨(y 0).val, hy⟩ j) = _ := fun j =>
    blk0 m c t ⟨(1024 * t.val + (y 0).val) / 8192, by omega⟩ ⟨(1024 * t.val + (y 0).val) % 8192, by omega⟩ ⟨(y 0).val, hy⟩ j hq
  have e1 : ∀ j, (iblk m c 1 t : FVec Ideal S1x1024x256 .f32) (ix3 0 ⟨(y 0).val, hy⟩ j) = _ := fun j =>
    blk1 m c t ⟨(1024 * t.val + (y 0).val) / 8192, by omega⟩ ⟨(1024 * t.val + (y 0).val) % 8192, by omega⟩ ⟨(y 0).val, hy⟩ j hq
  simp only [e0, e1, blk2, blk3, blk4, blk5, blk6, blk7]

/-- The prepared input weight's array after the run. -/
theorem arr_in : (dats m 0 c).arrAt 12 cfg0.N = resultIn m c := by
  refine (dats m 0 c).arrAt_eq_of_covers 12 _ (by decide +kernel) fun t hf y => ?_
  rw [after0_12]
  unfold outsAt0
  dsimp only
  rw [win_eq]
  have ht : t.val < 32 := t.isLt
  have hy : (y 0).val < 128 := (y 0).isLt
  have hy1 : (y 1).val < 3200 := (y 1).isLt
  have q0 : (((cfg0.win 12).blk t).view.emb y 0).val = 128 * (t.val / 4) + (y 0).val := by
    blk_simp [idx t]; omega
  have q1 : (((cfg0.win 12).blk t).view.emb y 1).val = (y 1).val := by
    blk_simp [idx t]
  show winMat _ y = resultIn m c (((cfg0.win 12).blk t).view.emb y)
  unfold winMat resultIn
  simp only [q0, q1]
  have e9 : ∀ n, (iblk m c 9 t : FVec Ideal S1x3088x128 .f32) (ix3 0 n ⟨(y 0).val, hy⟩) = _ := fun n =>
    blk9 m c t n ⟨(y 0).val, hy⟩ ⟨128 * (t.val / 4) + (y 0).val, by omega⟩ rfl
  simp only [e9]
  cases src ⟨(y 1).val, hy1⟩ <;> rfl

/-- The prepared output weight's array after the run. -/
theorem arr_out : (dats m 0 c).arrAt 13 cfg0.N = resultOut m c := by
  refine (dats m 0 c).arrAt_eq_of_covers 13 _ (by decide +kernel) fun t hf y => ?_
  rw [after0_13]
  unfold outsAt0
  dsimp only
  rw [wout_eq]
  have ht : t.val < 32 := t.isLt
  have hy : (y 0).val < 32 := (y 0).isLt
  have hy1 : (y 1).val < 1024 := (y 1).isLt
  have q0 : (((cfg0.win 13).blk t).view.emb y 0).val = 32 * t.val + (y 0).val := by
    blk_simp [idx t]; omega
  have q1 : (((cfg0.win 13).blk t).view.emb y 1).val = (y 1).val := by
    blk_simp [idx t]
  show woutMat _ y = resultOut m c (((cfg0.win 13).blk t).view.emb y)
  have hyy : y = ix2 ⟨(y 0).val, hy⟩ ⟨(y 1).val, hy1⟩ := funext fun a => by match a with | ⟨0, _⟩ => rfl | ⟨1, _⟩ => rfl
  refine (congrArg (woutMat _) hyy).trans ((woutMat_apply _ _ _).trans ?_)
  unfold resultOut
  simp only [q0, q1]
  exact blk10 m c t ⟨(y 0).val, hy⟩ ⟨32 * t.val + (y 0).val, by omega⟩ ⟨(y 1).val, hy1⟩ rfl

end Cert.Kernel3Ideal.Ffn

end
-- ==== Proof.Ffn0Ref.lean ====
/- The reference of the first layer's feed-forward call at the extended reals, at an index: the stream, and the next
   mixer's two prepared weights. -/
module

public import proofs.«01_k».proof.Proof.Gen.Reference3Ideal.Run
public import proofs.«01_k».proof.Proof.FfnRef

@[expose] public section

set_option maxRecDepth 16384

noncomputable section

namespace Cert.Reference3Ideal.Ffn

open Cert.Reference2Ideal.Ffn (rmsOp rmsOp_apply)
open Cert.Reference3Ideal Cert.Reference3Ideal.Gen Cert.Reference3Ideal.Value Idealize.ShloMosaic Idealize.ShloMosaic.TcCoe Cert.FfnSpec

/-- Layer 0's gains. -/
def gain (g : FVec Ideal S2x1024 .f32) : FVec Ideal S1024 .f32 :=
  shapeCast _ (extractStridedSlice S1x1024 ![0, 0] g slices_S2x1024_S1x1024_0_0) shapeCasts_S1x1024_S1024

theorem gain_apply (g : FVec Ideal S2x1024 .f32) (k : Fin 1024) : gain g (ix1 k) = g (ix2 0 k) := by
  unfold gain; pointwise

/-- The gate and value columns. -/
def gateUp (u : FVec Ideal S4x8192x1024 .f32) (w : FVec Ideal S2x1024x5632 .f32) : FVec Ideal S4x8192x5632 .f32 :=
  Host.dotGeneral dot_S4x8192x1024_S1024x5632_S4x8192x5632_2_0_01_1_n_n none u (shapeCast _ (extractStridedSlice S1x1024x5632 ![0, 0, 0] w slices_S2x1024x5632_S1x1024x5632_0_0_0) shapeCasts_S1x1024x5632_S1024x5632)

theorem gateUp_apply (u : FVec Ideal S4x8192x1024 .f32) (w : FVec Ideal S2x1024x5632 .f32) (b : Fin 4) (r : Fin 8192) (k : Fin 5632) :
    gateUp u w (ix3 b r k) = ∑ i : Fin 1024, u (ix3 b r i) * w (ix3 0 i k) := by
  unfold gateUp; pointwise

/-- The residual sum after the gated unit. -/
def midOp (x : FVec Ideal S4x8192x1024 .f32) (a : FVec Ideal S4x8192x5632 .f32) (wd : FVec Ideal S2x2816x1024 .f32) : FVec Ideal S4x8192x1024 .f32 :=
  addf x (Host.dotGeneral dot_S4x8192x2816_S2816x1024_S4x8192x1024_2_0_01_1_n_n none (mulf (mulf (extractStridedSlice S4x8192x2816 ![0, 0, 0] a slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] a slices_S4x8192x5632_S4x8192x2816_0_0_0)))))) (extractStridedSlice S4x8192x2816 ![0, 0, 2816] a slices_S4x8192x5632_S4x8192x2816_0_0_2816)) (shapeCast _ (extractStridedSlice S1x2816x1024 ![0, 0, 0] wd slices_S2x2816x1024_S1x2816x1024_0_0_0) shapeCasts_S1x2816x1024_S2816x1024))

theorem midOp_apply (x : FVec Ideal S4x8192x1024 .f32) (a : FVec Ideal S4x8192x5632 .f32) (wd : FVec Ideal S2x2816x1024 .f32) (b : Fin 4) (r : Fin 8192) (k : Fin 1024) :
    midOp x a wd (ix3 b r k) = x (ix3 b r k) + ∑ j : Fin 2816, glu (a (ix3 b r ⟨j.val, by omega⟩)) (a (ix3 b r ⟨2816 + j.val, by omega⟩)) * wd (ix3 0 j k) := by
  unfold midOp glu Ideal.logistic; pointwise

/-- The residual sum after the gated embedding. -/
def pleOp (h u : FVec Ideal S4x8192x1024 .f32) (p : FVec Ideal S2x4x8192x256 .f32) (wg : FVec Ideal S2x1024x1024 .f32) (wp : FVec Ideal S2x256x1024 .f32) : FVec Ideal S4x8192x1024 .f32 :=
  addf h (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (Host.dotGeneral dot_S4x8192x1024_S1024x1024_S4x8192x1024_2_0_01_1_n_n none u (shapeCast _ (extractStridedSlice S1x1024x1024 ![0, 0, 0] wg slices_S2x1024x1024_S1x1024x1024_0_0_0) shapeCasts_S1x1024x1024_S1024x1024)))))) (Host.dotGeneral dot_S4x8192x256_S256x1024_S4x8192x1024_2_0_01_1_n_n none (shapeCast _ (extractStridedSlice S1x4x8192x256 ![0, 0, 0, 0] p slices_S2x4x8192x256_S1x4x8192x256_0_0_0_0) shapeCasts_S1x4x8192x256_S4x8192x256) (shapeCast _ (extractStridedSlice S1x256x1024 ![0, 0, 0] wp slices_S2x256x1024_S1x256x1024_0_0_0) shapeCasts_S1x256x1024_S256x1024)))

theorem pleOp_apply (h u : FVec Ideal S4x8192x1024 .f32) (p : FVec Ideal S2x4x8192x256 .f32) (wg : FVec Ideal S2x1024x1024 .f32) (wp : FVec Ideal S2x256x1024 .f32) (b : Fin 4) (r : Fin 8192) (k : Fin 1024) :
    pleOp h u p wg wp (ix3 b r k) = h (ix3 b r k) + Ideal.logistic (∑ j : Fin 1024, u (ix3 b r j) * wg (ix3 0 j k)) * ∑ j : Fin 256, p (ix4 0 b r j) * wp (ix3 0 j k) := by
  unfold pleOp Ideal.logistic; pointwise

variable (m : (ℓ : Loc nD τ sig) → Buf (Elt Ideal) ℓ) (c : Dev nD)

/-- The stream after the gated unit, and after the gated embedding. -/
def h1 : FVec Ideal S4x8192x1024 .f32 :=
  midOp (m ((c.tc : Thread nD τ).loc main_arg0)) (gateUp (rmsOp (m ((c.tc : Thread nD τ).loc main_arg0)) (gain (m ((c.tc : Thread nD τ).loc main_arg2)))) (m ((c.tc : Thread nD τ).loc main_arg3))) (m ((c.tc : Thread nD τ).loc main_arg4))
def h2 : FVec Ideal S4x8192x1024 .f32 :=
  pleOp (h1 m c) (rmsOp (h1 m c) (gain (m ((c.tc : Thread nD τ).loc main_arg5)))) (m ((c.tc : Thread nD τ).loc main_arg1)) (m ((c.tc : Thread nD τ).loc main_arg6)) (m ((c.tc : Thread nD τ).loc main_arg7))

theorem res_eq : res_main_v69 m c = shapeCast _ (h2 m c) shapeCasts_S4x8192x1024_S32768x1024 := rfl

/-- Row `8192 b + r` of the stream is the row function of row `(b, r)` of the stream before it and layer 0's weights. -/
theorem res_apply (b : Fin 4) (r : Fin 8192) (k : Fin 1024) (n : Fin 32768) (hn : n.val = 8192 * b.val + r.val) :
    (res_main_v69 m c : FVec Ideal S32768x1024 .f32) (ix2 n k) = ple (mid (fun j => (m ((c.tc : Thread nD τ).loc main_arg0) : FVec Ideal S4x8192x1024 .f32) (ix3 b r j))
      (fun j => (m ((c.tc : Thread nD τ).loc main_arg2) : FVec Ideal S2x1024 .f32) (ix2 0 j))
      (fun i j => (m ((c.tc : Thread nD τ).loc main_arg3) : FVec Ideal S2x1024x5632 .f32) (ix3 0 i j))
      (fun i j => (m ((c.tc : Thread nD τ).loc main_arg4) : FVec Ideal S2x2816x1024 .f32) (ix3 0 i j)))
      (fun j => (m ((c.tc : Thread nD τ).loc main_arg5) : FVec Ideal S2x1024 .f32) (ix2 0 j))
      (fun i j => (m ((c.tc : Thread nD τ).loc main_arg6) : FVec Ideal S2x1024x1024 .f32) (ix3 0 i j))
      (fun j => (m ((c.tc : Thread nD τ).loc main_arg1) : FVec Ideal S2x4x8192x256 .f32) (ix4 0 b r j))
      (fun i j => (m ((c.tc : Thread nD τ).loc main_arg7) : FVec Ideal S2x256x1024 .f32) (ix3 0 i j)) k := by
  rw [res_eq]
  have e : shapeCast S32768x1024 (h2 m c) shapeCasts_S4x8192x1024_S32768x1024 (ix2 n k) = h2 m c (ix3 b r k) := by
    refine shapeCast_apply _ _ _ _ ?_
    rw [Shape.rowMajor_val_three, Shape.rowMajor_val_two]
    show (b.val * 8192 + r.val) * 1024 + k.val = n.val * 1024 + k.val
    omega
  refine e.trans ?_
  have e1 : ∀ j, h1 m c (ix3 b r j) = mid (fun j => (m ((c.tc : Thread nD τ).loc main_arg0) : FVec Ideal S4x8192x1024 .f32) (ix3 b r j))
      (fun j => (m ((c.tc : Thread nD τ).loc main_arg2) : FVec Ideal S2x1024 .f32) (ix2 0 j))
      (fun i j => (m ((c.tc : Thread nD τ).loc main_arg3) : FVec Ideal S2x1024x5632 .f32) (ix3 0 i j))
      (fun i j => (m ((c.tc : Thread nD τ).loc main_arg4) : FVec Ideal S2x2816x1024 .f32) (ix3 0 i j)) j := by
    intro j
    unfold h1
    rw [midOp_apply]
    simp only [gateUp_apply, rmsOp_apply, gain_apply]
    rfl
  unfold h2
  simp only [pleOp_apply, rmsOp_apply, gain_apply, e1]
  rfl

/-- Layer 1's input weight. -/
def winOne (w : FVec Ideal S2x1024x3088 .f32) : FVec Ideal S1024x3088 .f32 :=
  shapeCast _ (extractStridedSlice S1x1024x3088 ![1, 0, 0] w slices_S2x1024x3088_S1x1024x3088_1_0_0) shapeCasts_S1x1024x3088_S1024x3088

theorem winOne_apply (w : FVec Ideal S2x1024x3088 .f32) (i : Fin 1024) (n : Fin 3088) : winOne w (ix2 i n) = w (ix3 1 i n) := by
  unfold winOne; pointwise

/-- The prepared weight: the columns in the order q, k, v, g, cb, cc, cx, gate, zeros. -/
def catOp (x : FVec Ideal S1024x3088 .f32) : FVec Ideal S1024x3200 .bf16 :=
  truncf .bf16 (concatenate S1024x3200 1 [⟨S1024x256, extractStridedSlice S1024x256 ![0, 0] x slices_S1024x3088_S1024x256_0_0⟩, ⟨S1024x256, extractStridedSlice S1024x256 ![0, 256] x slices_S1024x3088_S1024x256_0_256⟩, ⟨S1024x512, extractStridedSlice S1024x512 ![0, 512] x slices_S1024x3088_S1024x512_0_512⟩, ⟨S1024x512, extractStridedSlice S1024x512 ![0, 1024] x slices_S1024x3088_S1024x512_0_1024⟩, ⟨S1024x512, extractStridedSlice S1024x512 ![0, 1552] x slices_S1024x3088_S1024x512_0_1552⟩, ⟨S1024x512, extractStridedSlice S1024x512 ![0, 2064] x slices_S1024x3088_S1024x512_0_2064⟩, ⟨S1024x512, extractStridedSlice S1024x512 ![0, 2576] x slices_S1024x3088_S1024x512_0_2576⟩, ⟨S1024x16, extractStridedSlice S1024x16 ![0, 1536] x slices_S1024x3088_S1024x16_0_1536⟩, ⟨S1024x112, broadcastInDim S1024x112 ![] bcast_S_S1024x112 (constant S_ .f32 0x00000000#32)⟩] concatenates_S1024x256_S1024x256_S1024x512_S1024x512_S1024x512_S1024x512_S1024x512_S1024x16_S1024x112_S1024x3200_d1) bitsLt_bf16_f32

/-- A column of a slice of columns. -/
theorem cols (x : FVec Ideal S1024x3088 .f32) (n o : ℕ) (h : S1024x3088.Slices ![0, o] (⟨2, ![1024, n]⟩ : Shape)) (i : Fin 1024) (k : Fin n) (hk : o + k.val < 3088) :
    extractStridedSlice (⟨2, ![1024, n]⟩ : Shape) ![0, o] x h (ix2 i k) = x (ix2 i ⟨o + k.val, hk⟩) := by
  refine congrArg x (funext fun a => Fin.ext ?_)
  match a with
  | ⟨0, _⟩ => show 0 + i.val = i.val; omega
  | ⟨1, _⟩ => rfl

theorem catOp_apply (x : FVec Ideal S1024x3088 .f32) (i : Fin 1024) (j : Fin 3200) :
    catOp x (ix2 i j) = match src j with | some n => x (ix2 i n) | none => 0 := by
  have hj := j.isLt
  unfold catOp
  show (concatenate S1024x3200 1 [⟨S1024x256, extractStridedSlice S1024x256 ![0, 0] x slices_S1024x3088_S1024x256_0_0⟩, ⟨S1024x256, extractStridedSlice S1024x256 ![0, 256] x slices_S1024x3088_S1024x256_0_256⟩, ⟨S1024x512, extractStridedSlice S1024x512 ![0, 512] x slices_S1024x3088_S1024x512_0_512⟩, ⟨S1024x512, extractStridedSlice S1024x512 ![0, 1024] x slices_S1024x3088_S1024x512_0_1024⟩, ⟨S1024x512, extractStridedSlice S1024x512 ![0, 1552] x slices_S1024x3088_S1024x512_0_1552⟩, ⟨S1024x512, extractStridedSlice S1024x512 ![0, 2064] x slices_S1024x3088_S1024x512_0_2064⟩, ⟨S1024x512, extractStridedSlice S1024x512 ![0, 2576] x slices_S1024x3088_S1024x512_0_2576⟩, ⟨S1024x16, extractStridedSlice S1024x16 ![0, 1536] x slices_S1024x3088_S1024x16_0_1536⟩, ⟨S1024x112, broadcastInDim S1024x112 ![] bcast_S_S1024x112 (constant S_ .f32 0x00000000#32)⟩] concatenates_S1024x256_S1024x256_S1024x512_S1024x512_S1024x512_S1024x512_S1024x512_S1024x16_S1024x112_S1024x3200_d1) (ix2 i j) = _
  by_cases h0 : j.val < 256
  · have e : src j = some ⟨0 + (j.val - 0), by omega⟩ := by
      unfold src
      rw [dif_pos (show j.val < 1536 by omega)]
      exact congrArg some (Fin.ext (by show _ = 0 + (j.val - 0); dsimp only; omega))
    rw [e]
    refine (concatenate_apply_piece (t := S1024x3200) 1 _ _ (ix2 i j) 0 (by simp) S1024x256 _ rfl rfl 0 rfl (ix2 i ⟨j.val - 0, by omega⟩) (fun b hb => ?_) (by show 0 + (j.val - 0) = j.val; omega)).trans ?_
    · match b with
      | ⟨0, _⟩ => rfl
      | ⟨1, _⟩ => exact absurd rfl hb
    · exact cols x 256 0 _ i ⟨j.val - 0, by omega⟩ (by show 0 + (j.val - 0) < 3088; omega)
  by_cases h1 : j.val < 512
  · have e : src j = some ⟨256 + (j.val - 256), by omega⟩ := by
      unfold src
      rw [dif_pos (show j.val < 1536 by omega)]
      exact congrArg some (Fin.ext (by show _ = 256 + (j.val - 256); dsimp only; omega))
    rw [e]
    refine (concatenate_apply_piece (t := S1024x3200) 1 _ _ (ix2 i j) 1 (by simp) S1024x256 _ rfl rfl 256 rfl (ix2 i ⟨j.val - 256, by omega⟩) (fun b hb => ?_) (by show 256 + (j.val - 256) = j.val; omega)).trans ?_
    · match b with
      | ⟨0, _⟩ => rfl
      | ⟨1, _⟩ => exact absurd rfl hb
    · exact cols x 256 256 _ i ⟨j.val - 256, by omega⟩ (by show 256 + (j.val - 256) < 3088; omega)
  by_cases h2 : j.val < 1024
  · have e : src j = some ⟨512 + (j.val - 512), by omega⟩ := by
      unfold src
      rw [dif_pos (show j.val < 1536 by omega)]
      exact congrArg some (Fin.ext (by show _ = 512 + (j.val - 512); dsimp only; omega))
    rw [e]
    refine (concatenate_apply_piece (t := S1024x3200) 1 _ _ (ix2 i j) 2 (by simp) S1024x512 _ rfl rfl 512 rfl (ix2 i ⟨j.val - 512, by omega⟩) (fun b hb => ?_) (by show 512 + (j.val - 512) = j.val; omega)).trans ?_
    · match b with
      | ⟨0, _⟩ => rfl
      | ⟨1, _⟩ => exact absurd rfl hb
    · exact cols x 512 512 _ i ⟨j.val - 512, by omega⟩ (by show 512 + (j.val - 512) < 3088; omega)
  by_cases h3 : j.val < 1536
  · have e : src j = some ⟨1024 + (j.val - 1024), by omega⟩ := by
      unfold src
      rw [dif_pos (show j.val < 1536 by omega)]
      exact congrArg some (Fin.ext (by show _ = 1024 + (j.val - 1024); dsimp only; omega))
    rw [e]
    refine (concatenate_apply_piece (t := S1024x3200) 1 _ _ (ix2 i j) 3 (by simp) S1024x512 _ rfl rfl 1024 rfl (ix2 i ⟨j.val - 1024, by omega⟩) (fun b hb => ?_) (by show 1024 + (j.val - 1024) = j.val; omega)).trans ?_
    · match b with
      | ⟨0, _⟩ => rfl
      | ⟨1, _⟩ => exact absurd rfl hb
    · exact cols x 512 1024 _ i ⟨j.val - 1024, by omega⟩ (by show 1024 + (j.val - 1024) < 3088; omega)
  by_cases h4 : j.val < 2048
  · have e : src j = some ⟨1552 + (j.val - 1536), by omega⟩ := by
      unfold src
      rw [dif_neg (show ¬ j.val < 1536 by omega), dif_pos (show j.val < 3072 by omega)]
      exact congrArg some (Fin.ext (by show _ = 1552 + (j.val - 1536); dsimp only; omega))
    rw [e]
    refine (concatenate_apply_piece (t := S1024x3200) 1 _ _ (ix2 i j) 4 (by simp) S1024x512 _ rfl rfl 1536 rfl (ix2 i ⟨j.val - 1536, by omega⟩) (fun b hb => ?_) (by show 1536 + (j.val - 1536) = j.val; omega)).trans ?_
    · match b with
      | ⟨0, _⟩ => rfl
      | ⟨1, _⟩ => exact absurd rfl hb
    · exact cols x 512 1552 _ i ⟨j.val - 1536, by omega⟩ (by show 1552 + (j.val - 1536) < 3088; omega)
  by_cases h5 : j.val < 2560
  · have e : src j = some ⟨2064 + (j.val - 2048), by omega⟩ := by
      unfold src
      rw [dif_neg (show ¬ j.val < 1536 by omega), dif_pos (show j.val < 3072 by omega)]
      exact congrArg some (Fin.ext (by show _ = 2064 + (j.val - 2048); dsimp only; omega))
    rw [e]
    refine (concatenate_apply_piece (t := S1024x3200) 1 _ _ (ix2 i j) 5 (by simp) S1024x512 _ rfl rfl 2048 rfl (ix2 i ⟨j.val - 2048, by omega⟩) (fun b hb => ?_) (by show 2048 + (j.val - 2048) = j.val; omega)).trans ?_
    · match b with
      | ⟨0, _⟩ => rfl
      | ⟨1, _⟩ => exact absurd rfl hb
    · exact cols x 512 2064 _ i ⟨j.val - 2048, by omega⟩ (by show 2064 + (j.val - 2048) < 3088; omega)
  by_cases h6 : j.val < 3072
  · have e : src j = some ⟨2576 + (j.val - 2560), by omega⟩ := by
      unfold src
      rw [dif_neg (show ¬ j.val < 1536 by omega), dif_pos (show j.val < 3072 by omega)]
      exact congrArg some (Fin.ext (by show _ = 2576 + (j.val - 2560); dsimp only; omega))
    rw [e]
    refine (concatenate_apply_piece (t := S1024x3200) 1 _ _ (ix2 i j) 6 (by simp) S1024x512 _ rfl rfl 2560 rfl (ix2 i ⟨j.val - 2560, by omega⟩) (fun b hb => ?_) (by show 2560 + (j.val - 2560) = j.val; omega)).trans ?_
    · match b with
      | ⟨0, _⟩ => rfl
      | ⟨1, _⟩ => exact absurd rfl hb
    · exact cols x 512 2576 _ i ⟨j.val - 2560, by omega⟩ (by show 2576 + (j.val - 2560) < 3088; omega)
  by_cases h7 : j.val < 3088
  · have e : src j = some ⟨1536 + (j.val - 3072), by omega⟩ := by
      unfold src
      rw [dif_neg (show ¬ j.val < 1536 by omega), dif_neg (show ¬ j.val < 3072 by omega), dif_pos (show j.val < 3088 by omega)]
      exact congrArg some (Fin.ext (by show _ = 1536 + (j.val - 3072); dsimp only; omega))
    rw [e]
    refine (concatenate_apply_piece (t := S1024x3200) 1 _ _ (ix2 i j) 7 (by simp) S1024x16 _ rfl rfl 3072 rfl (ix2 i ⟨j.val - 3072, by omega⟩) (fun b hb => ?_) (by show 3072 + (j.val - 3072) = j.val; omega)).trans ?_
    · match b with
      | ⟨0, _⟩ => rfl
      | ⟨1, _⟩ => exact absurd rfl hb
    · exact cols x 16 1536 _ i ⟨j.val - 3072, by omega⟩ (by show 1536 + (j.val - 3072) < 3088; omega)
  have e : src j = none := by
    unfold src
    rw [dif_neg (show ¬ j.val < 1536 by omega), dif_neg (show ¬ j.val < 3072 by omega), dif_neg (show ¬ j.val < 3088 by omega)]
  rw [e]
  refine (concatenate_apply_piece (t := S1024x3200) 1 _ _ (ix2 i j) 8 (by simp) S1024x112 _ rfl rfl 3088 rfl (ix2 i ⟨j.val - 3088, by omega⟩) (fun b hb => ?_) (by show 3088 + (j.val - 3088) = j.val; omega)).trans ?_
  · match b with
    | ⟨0, _⟩ => rfl
    | ⟨1, _⟩ => exact absurd rfl hb
  · pointwise

/-- Layer 1's prepared input weight. -/
def winOp (w : FVec Ideal S2x1024x3088 .f32) : FVec Ideal S1024x3200 .bf16 := catOp (winOne w)

theorem winOp_apply (w : FVec Ideal S2x1024x3088 .f32) (i : Fin 1024) (j : Fin 3200) :
    winOp w (ix2 i j) = match src j with | some n => w (ix3 1 i n) | none => 0 := by
  refine (catOp_apply (winOne w) i j).trans ?_
  simp only [winOne_apply]

/-- Layer 1's output weight, cast. -/
def woutOp (w : FVec Ideal S2x1024x1024 .f32) : FVec Ideal S1024x1024 .bf16 :=
  truncf .bf16 (shapeCast _ (extractStridedSlice S1x1024x1024 ![1, 0, 0] w slices_S2x1024x1024_S1x1024x1024_1_0_0) shapeCasts_S1x1024x1024_S1024x1024) bitsLt_bf16_f32

theorem woutOp_apply (w : FVec Ideal S2x1024x1024 .f32) (i k : Fin 1024) : woutOp w (ix2 i k) = w (ix3 1 i k) := by
  unfold woutOp; pointwise

end Cert.Reference3Ideal.Ffn

end
-- ==== Proof.Ffn0Claim.lean ====
/- The value claim of the first layer's feed-forward call: the kernel's arrays and the reference's arrays are the same functions
   of the arguments. -/
module

public import proofs.«01_k».proof.Defs
public import proofs.«01_k».proof.Proof.Ffn0Value
public import proofs.«01_k».proof.Proof.Ffn0Ref

@[expose] public section

set_option maxRecDepth 16384

noncomputable section

namespace Cert.Ffn0Claim

open Idealize.ShloMosaic Idealize.ShloMosaic.TcCoe Idealize.SL.Sem

/-- From memories agreeing on the arguments, the reference's stream is the kernel's. -/
theorem same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    (Cert.Reference3Ideal.Value.res_main_v69 m' c : FVec Ideal Cert.Kernel3Ideal.S32768x1024 .f32) = Cert.Kernel3Ideal.Ffn.result m c := by
  obtain ⟨h0, h1, h2, h3, h4, h5, h6, h7⟩ := h
  funext y
  have hy : (y 0).val < 32768 := (y 0).isLt
  obtain ⟨n, k, rfl⟩ : ∃ (n : Fin 32768) (k : Fin 1024), y = ix2 n k := ⟨y 0, y 1, funext fun a => by match a with | ⟨0, _⟩ => rfl | ⟨1, _⟩ => rfl⟩
  refine (Cert.Reference3Ideal.Ffn.res_apply m' c ⟨n.val / 8192, by omega⟩ ⟨n.val % 8192, by omega⟩ k n (by show n.val = 8192 * (n.val / 8192) + n.val % 8192; omega)).trans ?_
  rw [h0, h1, h2, h3, h4, h5, h6, h7]
  rfl

/-- The same of the prepared input weight … -/
theorem sameIn (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) :
    (Cert.Reference3Ideal.Ffn.winOp (m' ((c.tc : Thread Cert.Reference3Ideal.nD Cert.Reference3Ideal.τ).loc Cert.Reference3Ideal.main_arg9)) : FVec Ideal Cert.Kernel3Ideal.S1024x3200 .bf16) = Cert.Kernel3Ideal.Ffn.resultIn m c := by
  funext y
  obtain ⟨n, k, rfl⟩ : ∃ (n : Fin 1024) (k : Fin 3200), y = ix2 n k := ⟨y 0, y 1, funext fun a => by match a with | ⟨0, _⟩ => rfl | ⟨1, _⟩ => rfl⟩
  refine (Cert.Reference3Ideal.Ffn.winOp_apply _ n k).trans ?_
  rw [h]
  rfl

/-- … and of the prepared output weight. -/
theorem sameOut (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) :
    (Cert.Reference3Ideal.Ffn.woutOp (m' ((c.tc : Thread Cert.Reference3Ideal.nD Cert.Reference3Ideal.τ).loc Cert.Reference3Ideal.main_arg10)) : FVec Ideal Cert.Kernel3Ideal.S1024x1024 .bf16) = Cert.Kernel3Ideal.Ffn.resultOut m c := by
  funext y
  obtain ⟨n, k, rfl⟩ : ∃ (n k : Fin 1024), y = ix2 n k := ⟨y 0, y 1, funext fun a => by match a with | ⟨0, _⟩ => rfl | ⟨1, _⟩ => rfl⟩
  refine (Cert.Reference3Ideal.Ffn.woutOp_apply _ n k).trans ?_
  rw [h]
  rfl

theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Ffn.result m c, fun c => Cert.Kernel3Ideal.Ffn.resultIn m c, fun c => Cert.Kernel3Ideal.Ffn.resultOut m c, ?_, ?_⟩
  · refine (θ_run Cert.Kernel3Ideal.defs _ _).mono (fun r h c => ?_) (Cert.Kernel3Ideal.Value.run_blocks m g)
    obtain ⟨a, b, d, e⟩ := h c
    exact ⟨a.trans (Cert.Kernel3Ideal.Ffn.arr_eq m c), b.trans (Cert.Kernel3Ideal.Ffn.arr_in m c), d.trans (Cert.Kernel3Ideal.Ffn.arr_out m c), e⟩
  · refine (θ_run Cert.Reference3Ideal.defs _ _).mono (fun r h c => ?_) (Cert.Reference3Ideal.Value.run m' g')
    obtain ⟨a, b, d, e⟩ := h c
    obtain ⟨h0, h1, h2, h3, h4, h5, h6, h7, _, h9, h10⟩ := hag c
    exact ⟨a.trans (same m m' c ⟨h0, h1, h2, h3, h4, h5, h6, h7⟩), b.trans (sameIn m m' c h9), d.trans (sameOut m m' c h10), e⟩

end Cert.Ffn0Claim

end
-- ==== Proof.CastClaim.lean ====
/- The call that prepares the first mixer's weights: its result arrays, the reference's, and the value claim. The block of the
   input weight and the reordering of the columns are those of the first layer's feed-forward call. -/
module

public import proofs.«01_k».proof.Defs
public import proofs.«01_k».proof.Proof.Gen.Kernel4Ideal.Value
public import proofs.«01_k».proof.Proof.Gen.Reference4Ideal.Run
public import proofs.«01_k».proof.Proof.Ffn0Out
public import proofs.«01_k».proof.Proof.Ffn0Ref
public import Idealize.ShloMosaic.Lib.Pipeline.ValueKit
public import Idealize.ShloMosaic.Lib.Claim

@[expose] public section

set_option maxRecDepth 16384

noncomputable section

namespace Cert.Kernel4Ideal.Cast

open Cert.Kernel4Ideal Cert.Kernel4Ideal.Gen Idealize.ShloMosaic Idealize.ShloMosaic.TcCoe Idealize.ShloMosaic.Tactic Idealize.SL.Sem Cert.FfnSpec
open Cert.Kernel3Ideal.Ffn (winMat piece_win piece_last src_lo src_hi)
open Cert.Kernel2Ideal.Ffn (hz2 hz3)

set_option maxHeartbeats 1000000 in
/-- The body's block of the input weight. -/
theorem win_eq (x0 : Vec Ideal S1x3088x128 .f32) (x1 : Vec Ideal S1x128x1024 .f32) : out0_2 x0 x1 = winMat x0 := by
  unfold out0_2
  funext y
  refine View.canon_apply_of_pieces (winMat x0) _ (View.PiecesOf.mem ?_) y (View.cover_of_tiledBy _ ![128, 128] (by sl_kernel_rfl) y)
  exact ⟨piece_last x0,
    piece_win x0 2944 2960 (src_hi _ _ rfl (by omega) (by omega)) inb_S128x3200_S128x128_0_2944 inb_S1x3088x128_S1x128x128_0_2960_0,
    piece_win x0 2816 2832 (src_hi _ _ rfl (by omega) (by omega)) inb_S128x3200_S128x128_0_2816 inb_S1x3088x128_S1x128x128_0_2832_0,
    piece_win x0 2688 2704 (src_hi _ _ rfl (by omega) (by omega)) inb_S128x3200_S128x128_0_2688 inb_S1x3088x128_S1x128x128_0_2704_0,
    piece_win x0 2560 2576 (src_hi _ _ rfl (by omega) (by omega)) inb_S128x3200_S128x128_0_2560 inb_S1x3088x128_S1x128x128_0_2576_0,
    piece_win x0 2432 2448 (src_hi _ _ rfl (by omega) (by omega)) inb_S128x3200_S128x128_0_2432 inb_S1x3088x128_S1x128x128_0_2448_0,
    piece_win x0 2304 2320 (src_hi _ _ rfl (by omega) (by omega)) inb_S128x3200_S128x128_0_2304 inb_S1x3088x128_S1x128x128_0_2320_0,
    piece_win x0 2176 2192 (src_hi _ _ rfl (by omega) (by omega)) inb_S128x3200_S128x128_0_2176 inb_S1x3088x128_S1x128x128_0_2192_0,
    piece_win x0 2048 2064 (src_hi _ _ rfl (by omega) (by omega)) inb_S128x3200_S128x128_0_2048 inb_S1x3088x128_S1x128x128_0_2064_0,
    piece_win x0 1920 1936 (src_hi _ _ rfl (by omega) (by omega)) inb_S128x3200_S128x128_0_1920 inb_S1x3088x128_S1x128x128_0_1936_0,
    piece_win x0 1792 1808 (src_hi _ _ rfl (by omega) (by omega)) inb_S128x3200_S128x128_0_1792 inb_S1x3088x128_S1x128x128_0_1808_0,
    piece_win x0 1664 1680 (src_hi _ _ rfl (by omega) (by omega)) inb_S128x3200_S128x128_0_1664 inb_S1x3088x128_S1x128x128_0_1680_0,
    piece_win x0 1536 1552 (src_hi _ _ rfl (by omega) (by omega)) inb_S128x3200_S128x128_0_1536 inb_S1x3088x128_S1x128x128_0_1552_0,
    piece_win x0 1408 1408 (src_lo _ (by omega)) inb_S128x3200_S128x128_0_1408 inb_S1x3088x128_S1x128x128_0_1408_0,
    piece_win x0 1280 1280 (src_lo _ (by omega)) inb_S128x3200_S128x128_0_1280 inb_S1x3088x128_S1x128x128_0_1280_0,
    piece_win x0 1152 1152 (src_lo _ (by omega)) inb_S128x3200_S128x128_0_1152 inb_S1x3088x128_S1x128x128_0_1152_0,
    piece_win x0 1024 1024 (src_lo _ (by omega)) inb_S128x3200_S128x128_0_1024 inb_S1x3088x128_S1x128x128_0_1024_0,
    piece_win x0 896 896 (src_lo _ (by omega)) inb_S128x3200_S128x128_0_896 inb_S1x3088x128_S1x128x128_0_896_0,
    piece_win x0 768 768 (src_lo _ (by omega)) inb_S128x3200_S128x128_0_768 inb_S1x3088x128_S1x128x128_0_768_0,
    piece_win x0 640 640 (src_lo _ (by omega)) inb_S128x3200_S128x128_0_640 inb_S1x3088x128_S1x128x128_0_640_0,
    piece_win x0 512 512 (src_lo _ (by omega)) inb_S128x3200_S128x128_0_512 inb_S1x3088x128_S1x128x128_0_512_0,
    piece_win x0 384 384 (src_lo _ (by omega)) inb_S128x3200_S128x128_0_384 inb_S1x3088x128_S1x128x128_0_384_0,
    piece_win x0 256 256 (src_lo _ (by omega)) inb_S128x3200_S128x128_0_256 inb_S1x3088x128_S1x128x128_0_256_0,
    piece_win x0 128 128 (src_lo _ (by omega)) inb_S128x3200_S128x128_0_128 inb_S1x3088x128_S1x128x128_0_128_0,
    piece_win x0 0 0 (src_lo _ (by omega)) inb_S128x3200_S128x128_0_0 inb_S1x3088x128_S1x128x128_0_0_0, trivial⟩

/-- The block of the output weight. -/
def woutMat (x1 : Vec Ideal S1x128x1024 .f32) : Vec Ideal S128x1024 .bf16 := k0_pay4 x1

theorem woutMat_apply (x1 : Vec Ideal S1x128x1024 .f32) (r : Fin 128) (k : Fin 1024) : woutMat x1 (ix2 r k) = x1 (ix3 0 r k) := by
  unfold woutMat k0_pay4; pointwise

/-- The body's block of the output weight. -/
theorem wout_eq (x0 : Vec Ideal S1x3088x128 .f32) (x1 : Vec Ideal S1x128x1024 .f32) : out0_3 x0 x1 = woutMat x1 := by
  unfold out0_3
  rw [View.ld_unit_zero (S := S1x128x1024) hz3]
  exact View.canon_unit_zero (S := S128x1024) hz2 _ _

variable (m : (ℓ : Loc nD τ sig) → Buf (Elt Ideal) ℓ) (c : Dev nD)

/-- The prepared input weight's array. -/
def resultIn : FVec Ideal S1024x3200 .bf16 := fun y =>
  match src ⟨(y 1).val, (y 1).isLt⟩ with
  | some n => (m ((c.tc : Thread nD τ).loc main_arg0) : FVec Ideal S2x1024x3088 .f32) (ix3 0 ⟨(y 0).val, (y 0).isLt⟩ n)
  | none => 0

/-- The prepared output weight's array. -/
def resultOut : FVec Ideal S1024x1024 .bf16 := fun y =>
  (m ((c.tc : Thread nD τ).loc main_arg1) : FVec Ideal S2x1024x1024 .f32) (ix3 0 ⟨(y 0).val, (y 0).isLt⟩ ⟨(y 1).val, (y 1).isLt⟩)

/-- Where each window's block lies at each point. -/
theorem idx (t : Fin cfg0.N) : win0_0.index t = ![0, 0, t.val] ∧ win0_1.index t = ![0, t.val, 0] ∧ win0_2.index t = ![t.val, 0] ∧ win0_3.index t = ![t.val, 0] :=
  (by decide +kernel : ∀ t : Fin grid0.N, win0_0.index t = ![0, 0, t.val] ∧ win0_1.index t = ![0, t.val, 0] ∧ win0_2.index t = ![t.val, 0] ∧ win0_3.index t = ![t.val, 0]) t

theorem blk0 (t : Fin cfg0.N) (n : Fin 3088) (r : Fin 128) (i : Fin 1024) (h : i.val = 128 * t.val + r.val) :
    (iblk m c 0 t : FVec Ideal S1x3088x128 .f32) (ix3 0 n r) = (m ((c.tc : Thread nD τ).loc main_arg0) : FVec Ideal S2x1024x3088 .f32) (ix3 0 i n) := by
  have e : (iblk m c 0 t : FVec Ideal S1x3088x128 .f32) (ix3 0 n r) = (V m c main_v0 : FVec Ideal S2x3088x1024 .f32) (ix3 0 n i) := by
    blk_ext [iblk, V, idx t]
  rw [e]
  entry_read
  pointwise

theorem blk1 (t : Fin cfg0.N) (r : Fin 128) (i k : Fin 1024) (h : i.val = 128 * t.val + r.val) :
    (iblk m c 1 t : FVec Ideal S1x128x1024 .f32) (ix3 0 r k) = (m ((c.tc : Thread nD τ).loc main_arg1) : FVec Ideal S2x1024x1024 .f32) (ix3 0 i k) := by
  have e : (iblk m c 1 t : FVec Ideal S1x128x1024 .f32) (ix3 0 r k) = (V m c main_arg1 : FVec Ideal S2x1024x1024 .f32) (ix3 0 i k) := by
    blk_ext [iblk, V, idx t]
  rw [e]
  entry_read
  rfl

/-- The prepared input weight's array after the run. -/
theorem arr_in : (dats m 0 c).arrAt 2 cfg0.N = resultIn m c := by
  refine (dats m 0 c).arrAt_eq_of_covers 2 _ (by decide +kernel) fun t hf y => ?_
  rw [after0_2, win_eq]
  have ht : t.val < 8 := t.isLt
  have hy : (y 0).val < 128 := (y 0).isLt
  have hy1 : (y 1).val < 3200 := (y 1).isLt
  have q0 : (((cfg0.win 2).blk t).view.emb y 0).val = 128 * t.val + (y 0).val := by
    blk_simp [idx t]; omega
  have q1 : (((cfg0.win 2).blk t).view.emb y 1).val = (y 1).val := by
    blk_simp [idx t]
  show winMat _ y = resultIn m c (((cfg0.win 2).blk t).view.emb y)
  unfold winMat resultIn
  simp only [q0, q1]
  have e0 : ∀ n, (iblk m c 0 t : FVec Ideal S1x3088x128 .f32) (ix3 0 n ⟨(y 0).val, hy⟩) = _ := fun n =>
    blk0 m c t n ⟨(y 0).val, hy⟩ ⟨128 * t.val + (y 0).val, by omega⟩ rfl
  simp only [e0]
  cases src ⟨(y 1).val, hy1⟩ <;> rfl

/-- The prepared output weight's array after the run. -/
theorem arr_out : (dats m 0 c).arrAt 3 cfg0.N = resultOut m c := by
  refine (dats m 0 c).arrAt_eq_of_covers 3 _ (by decide +kernel) fun t hf y => ?_
  rw [after0_3, wout_eq]
  have ht : t.val < 8 := t.isLt
  have hy : (y 0).val < 128 := (y 0).isLt
  have hy1 : (y 1).val < 1024 := (y 1).isLt
  have q0 : (((cfg0.win 3).blk t).view.emb y 0).val = 128 * t.val + (y 0).val := by
    blk_simp [idx t]; omega
  have q1 : (((cfg0.win 3).blk t).view.emb y 1).val = (y 1).val := by
    blk_simp [idx t]
  show woutMat _ y = resultOut m c (((cfg0.win 3).blk t).view.emb y)
  have hyy : y = ix2 ⟨(y 0).val, hy⟩ ⟨(y 1).val, hy1⟩ := funext fun a => by match a with | ⟨0, _⟩ => rfl | ⟨1, _⟩ => rfl
  refine (congrArg (woutMat _) hyy).trans ((woutMat_apply _ _ _).trans ?_)
  unfold resultOut
  simp only [q0, q1]
  exact blk1 m c t ⟨(y 0).val, hy⟩ ⟨128 * t.val + (y 0).val, by omega⟩ ⟨(y 1).val, hy1⟩ rfl

end Cert.Kernel4Ideal.Cast

namespace Cert.Reference4Ideal.Cast

open Cert.Reference4Ideal Cert.Reference4Ideal.Gen Idealize.ShloMosaic Cert.FfnSpec

/-- Layer 0's input weight. -/
def winZero (w : FVec Ideal S2x1024x3088 .f32) : FVec Ideal S1024x3088 .f32 :=
  shapeCast _ (extractStridedSlice S1x1024x3088 ![0, 0, 0] w slices_S2x1024x3088_S1x1024x3088_0_0_0) shapeCasts_S1x1024x3088_S1024x3088

theorem winZero_apply (w : FVec Ideal S2x1024x3088 .f32) (i : Fin 1024) (n : Fin 3088) : winZero w (ix2 i n) = w (ix3 0 i n) := by
  unfold winZero; pointwise

/-- Layer 0's prepared input weight. -/
def winOp (w : FVec Ideal S2x1024x3088 .f32) : FVec Ideal S1024x3200 .bf16 := Cert.Reference3Ideal.Ffn.catOp (winZero w)

theorem winOp_apply (w : FVec Ideal S2x1024x3088 .f32) (i : Fin 1024) (j : Fin 3200) :
    winOp w (ix2 i j) = match src j with | some n => w (ix3 0 i n) | none => 0 := by
  refine (Cert.Reference3Ideal.Ffn.catOp_apply (winZero w) i j).trans ?_
  simp only [winZero_apply]
  cases src j <;> rfl

/-- Layer 0's output weight, cast. -/
def woutOp (w : FVec Ideal S2x1024x1024 .f32) : FVec Ideal S1024x1024 .bf16 :=
  truncf .bf16 (shapeCast _ (extractStridedSlice S1x1024x1024 ![0, 0, 0] w slices_S2x1024x1024_S1x1024x1024_0_0_0) shapeCasts_S1x1024x1024_S1024x1024) bitsLt_bf16_f32

theorem woutOp_apply (w : FVec Ideal S2x1024x1024 .f32) (i k : Fin 1024) : woutOp w (ix2 i k) = w (ix3 0 i k) := by
  unfold woutOp; pointwise

end Cert.Reference4Ideal.Cast

namespace Cert.CastClaim

open Idealize.ShloMosaic Idealize.ShloMosaic.TcCoe Idealize.SL.Sem

/-- From memories agreeing on the arguments, the reference's prepared input weight is the kernel's … -/
theorem sameIn (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) :
    (Cert.Reference4Ideal.Cast.winOp (m' ((c.tc : Thread Cert.Reference4Ideal.nD Cert.Reference4Ideal.τ).loc Cert.Reference4Ideal.main_arg0)) : FVec Ideal Cert.Kernel4Ideal.S1024x3200 .bf16) = Cert.Kernel4Ideal.Cast.resultIn m c := by
  funext y
  obtain ⟨n, k, rfl⟩ : ∃ (n : Fin 1024) (k : Fin 3200), y = ix2 n k := ⟨y 0, y 1, funext fun a => by match a with | ⟨0, _⟩ => rfl | ⟨1, _⟩ => rfl⟩
  refine (Cert.Reference4Ideal.Cast.winOp_apply _ n k).trans ?_
  rw [h]
  rfl

/-- … and its prepared output weight too. -/
theorem sameOut (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) :
    (Cert.Reference4Ideal.Cast.woutOp (m' ((c.tc : Thread Cert.Reference4Ideal.nD Cert.Reference4Ideal.τ).loc Cert.Reference4Ideal.main_arg1)) : FVec Ideal Cert.Kernel4Ideal.S1024x1024 .bf16) = Cert.Kernel4Ideal.Cast.resultOut m c := by
  funext y
  obtain ⟨n, k, rfl⟩ : ∃ (n k : Fin 1024), y = ix2 n k := ⟨y 0, y 1, funext fun a => by match a with | ⟨0, _⟩ => rfl | ⟨1, _⟩ => rfl⟩
  refine (Cert.Reference4Ideal.Cast.woutOp_apply _ n k).trans ?_
  rw [h]
  rfl

theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Cast.resultIn m c, fun c => Cert.Kernel4Ideal.Cast.resultOut m c, ?_, ?_⟩
  · refine (θ_run Cert.Kernel4Ideal.defs _ _).mono (fun r h c => ?_) (Cert.Kernel4Ideal.Value.run_blocks m g)
    obtain ⟨a, b, e⟩ := h c
    exact ⟨a.trans (Cert.Kernel4Ideal.Cast.arr_in m c), b.trans (Cert.Kernel4Ideal.Cast.arr_out m c), e⟩
  · refine (θ_run Cert.Reference4Ideal.defs _ _).mono (fun r h c => ?_) (Cert.Reference4Ideal.Value.run m' g')
    obtain ⟨a, b, e⟩ := h c
    obtain ⟨h0, h1⟩ := hag c
    exact ⟨a.trans (sameIn m m' c h0), b.trans (sameOut m m' c h1), e⟩

end Cert.CastClaim

end
-- ==== Proof.MixCast.lean ====
/- The token mixer's call prepares the channel mixer's four weights: the arrays it leaves, the reference's, and the claim that they
   are the same. Nothing is said of the stream here. -/
module

public import proofs.«01_k».proof.Defs
public import proofs.«01_k».proof.Proof.MixFrame
public import proofs.«01_k».proof.Proof.MixRefFrame
public import Idealize.ShloMosaic.Lib.Pipeline.ValueKit
public import Idealize.ShloMosaic.Lib.Claim

@[expose] public section

set_option maxRecDepth 16384

noncomputable section

namespace Cert.On_weights

open Idealize.ShloMosaic

/-- The mask's side conditions. -/
theorem facts : Facts where
  bcast_S_S4x8192x1024 := by decide
  bcast_S_S1024x5632 := by decide
  bcast_S_S2816x1024 := by decide
  bcast_S_S1024x1024 := by decide
  bcast_S_S256x1024 := by decide

end Cert.On_weights

namespace Cert.KernelIdeal.Mix

open Cert.KernelIdeal Cert.KernelIdeal.Gen Idealize.ShloMosaic Idealize.ShloMosaic.TcCoe Idealize.ShloMosaic.Tactic Idealize.SL.Sem

/-- The block of the gate and up weights. -/
def blockUp (x : Vec Ideal S1x32x5632 .f32) : Vec Ideal S32x5632 .bf16 := k0_pay72 x

theorem blockUp_apply (x : Vec Ideal S1x32x5632 .f32) (i : Fin 32) (k : Fin 5632) : blockUp x (ix2 i k) = x (ix3 0 i k) := by
  unfold blockUp k0_pay72; pointwise

/-- The block of the down weight. -/
def blockDown (x : Vec Ideal S1x176x1024 .f32) : Vec Ideal S176x1024 .bf16 := k0_pay73 x

theorem blockDown_apply (x : Vec Ideal S1x176x1024 .f32) (i : Fin 176) (k : Fin 1024) : blockDown x (ix2 i k) = x (ix3 0 i k) := by
  unfold blockDown k0_pay73; pointwise

/-- The block of the per-layer gate weight. -/
def blockGate (x : Vec Ideal S1x32x1024 .f32) : Vec Ideal S32x1024 .bf16 := k0_pay74 x

theorem blockGate_apply (x : Vec Ideal S1x32x1024 .f32) (i : Fin 32) (k : Fin 1024) : blockGate x (ix2 i k) = x (ix3 0 i k) := by
  unfold blockGate k0_pay74; pointwise

/-- The block of the per-layer projection weight. -/
def blockProj (x : Vec Ideal S1x16x1024 .f32) : Vec Ideal S16x1024 .bf16 := k0_pay75 x

theorem blockProj_apply (x : Vec Ideal S1x16x1024 .f32) (i : Fin 16) (k : Fin 1024) : blockProj x (ix2 i k) = x (ix3 0 i k) := by
  unfold blockProj k0_pay75; pointwise

variable (m : (ℓ : Loc nD τ sig) → Buf (Elt Ideal) ℓ) (c : Dev nD)

/-- Layer 1's prepared gate and up weights. -/
def resultUp : FVec Ideal S1024x5632 .bf16 := fun y =>
  (m ((c.tc : Thread nD τ).loc main_arg8) : FVec Ideal S2x1024x5632 .f32) (ix3 1 ⟨(y 0).val, (y 0).isLt⟩ ⟨(y 1).val, (y 1).isLt⟩)

/-- Layer 1's prepared down weight. -/
def resultDown : FVec Ideal S2816x1024 .bf16 := fun y =>
  (m ((c.tc : Thread nD τ).loc main_arg9) : FVec Ideal S2x2816x1024 .f32) (ix3 1 ⟨(y 0).val, (y 0).isLt⟩ ⟨(y 1).val, (y 1).isLt⟩)

/-- Layer 1's prepared per-layer gate weight. -/
def resultGate : FVec Ideal S1024x1024 .bf16 := fun y =>
  (m ((c.tc : Thread nD τ).loc main_arg10) : FVec Ideal S2x1024x1024 .f32) (ix3 1 ⟨(y 0).val, (y 0).isLt⟩ ⟨(y 1).val, (y 1).isLt⟩)

/-- Layer 1's prepared per-layer projection weight. -/
def resultProj : FVec Ideal S256x1024 .bf16 := fun y =>
  (m ((c.tc : Thread nD τ).loc main_arg11) : FVec Ideal S2x256x1024 .f32) (ix3 1 ⟨(y 0).val, (y 0).isLt⟩ ⟨(y 1).val, (y 1).isLt⟩)

/-- Where each weight's block lies at each point. -/
theorem idxW (t : Fin cfg0.N) : win0_8.index t = ![1, t.val, 0] ∧ win0_13.index t = ![t.val, 0] ∧ win0_9.index t = ![1, t.val / 2, 0] ∧ win0_14.index t = ![t.val / 2, 0] ∧ win0_10.index t = ![1, t.val, 0] ∧ win0_15.index t = ![t.val, 0] ∧ win0_11.index t = ![1, t.val / 2, 0] ∧ win0_16.index t = ![t.val / 2, 0] :=
  (by decide +kernel : ∀ t : Fin grid0.N, win0_8.index t = ![1, t.val, 0] ∧ win0_13.index t = ![t.val, 0] ∧ win0_9.index t = ![1, t.val / 2, 0] ∧ win0_14.index t = ![t.val / 2, 0] ∧ win0_10.index t = ![1, t.val, 0] ∧ win0_15.index t = ![t.val, 0] ∧ win0_11.index t = ![1, t.val / 2, 0] ∧ win0_16.index t = ![t.val / 2, 0]) t

theorem blkUp (t : Fin cfg0.N) (r : Fin 32) (i : Fin 1024) (k : Fin 5632) (h : i.val = 32 * t.val + r.val) :
    (iblk m c 8 t : FVec Ideal S1x32x5632 .f32) (ix3 0 r k) = (m ((c.tc : Thread nD τ).loc main_arg8) : FVec Ideal S2x1024x5632 .f32) (ix3 1 i k) := by
  have e : (iblk m c 8 t : FVec Ideal S1x32x5632 .f32) (ix3 0 r k) = (V m c main_arg8 : FVec Ideal S2x1024x5632 .f32) (ix3 1 i k) := by
    blk_ext [iblk, V, idxW t]
  rw [e]
  exact congrFun (V_main_arg8 m c) _

/-- The prepared gate and up weights's array after the run. -/
theorem arrUp : (dats m 0 c).arrAt 13 cfg0.N = resultUp m c := by
  refine (dats m 0 c).arrAt_eq_of_covers 13 _ (by decide +kernel) fun t hf y => ?_
  rw [after0_13]
  have ht : t.val < 32 := t.isLt
  have hy : (y 0).val < 32 := (y 0).isLt
  have hy1 : (y 1).val < 5632 := (y 1).isLt
  have q0 : (((cfg0.win 13).blk t).view.emb y 0).val = 32 * t.val + (y 0).val := by
    blk_simp [idxW t]; omega
  have q1 : (((cfg0.win 13).blk t).view.emb y 1).val = (y 1).val := by
    blk_simp [idxW t]
  show blockUp _ y = resultUp m c (((cfg0.win 13).blk t).view.emb y)
  have hyy : y = ix2 ⟨(y 0).val, hy⟩ ⟨(y 1).val, hy1⟩ := funext fun a => by match a with | ⟨0, _⟩ => rfl | ⟨1, _⟩ => rfl
  refine (congrArg (blockUp _) hyy).trans ((blockUp_apply _ _ _).trans ?_)
  unfold resultUp
  simp only [q0, q1]
  exact blkUp m c t ⟨(y 0).val, hy⟩ ⟨32 * t.val + (y 0).val, by omega⟩ ⟨(y 1).val, hy1⟩ rfl

theorem blkDown (t : Fin cfg0.N) (r : Fin 176) (i : Fin 2816) (k : Fin 1024) (h : i.val = 176 * (t.val / 2) + r.val) :
    (iblk m c 9 t : FVec Ideal S1x176x1024 .f32) (ix3 0 r k) = (m ((c.tc : Thread nD τ).loc main_arg9) : FVec Ideal S2x2816x1024 .f32) (ix3 1 i k) := by
  have e : (iblk m c 9 t : FVec Ideal S1x176x1024 .f32) (ix3 0 r k) = (V m c main_arg9 : FVec Ideal S2x2816x1024 .f32) (ix3 1 i k) := by
    blk_ext [iblk, V, idxW t]
  rw [e]
  exact congrFun (V_main_arg9 m c) _

/-- The prepared down weight's array after the run. -/
theorem arrDown : (dats m 0 c).arrAt 14 cfg0.N = resultDown m c := by
  refine (dats m 0 c).arrAt_eq_of_covers 14 _ (by decide +kernel) fun t hf y => ?_
  rw [after0_14]
  have ht : t.val < 32 := t.isLt
  have hy : (y 0).val < 176 := (y 0).isLt
  have hy1 : (y 1).val < 1024 := (y 1).isLt
  have q0 : (((cfg0.win 14).blk t).view.emb y 0).val = 176 * (t.val / 2) + (y 0).val := by
    blk_simp [idxW t]; omega
  have q1 : (((cfg0.win 14).blk t).view.emb y 1).val = (y 1).val := by
    blk_simp [idxW t]
  show blockDown _ y = resultDown m c (((cfg0.win 14).blk t).view.emb y)
  have hyy : y = ix2 ⟨(y 0).val, hy⟩ ⟨(y 1).val, hy1⟩ := funext fun a => by match a with | ⟨0, _⟩ => rfl | ⟨1, _⟩ => rfl
  refine (congrArg (blockDown _) hyy).trans ((blockDown_apply _ _ _).trans ?_)
  unfold resultDown
  simp only [q0, q1]
  exact blkDown m c t ⟨(y 0).val, hy⟩ ⟨176 * (t.val / 2) + (y 0).val, by omega⟩ ⟨(y 1).val, hy1⟩ rfl

theorem blkGate (t : Fin cfg0.N) (r : Fin 32) (i : Fin 1024) (k : Fin 1024) (h : i.val = 32 * t.val + r.val) :
    (iblk m c 10 t : FVec Ideal S1x32x1024 .f32) (ix3 0 r k) = (m ((c.tc : Thread nD τ).loc main_arg10) : FVec Ideal S2x1024x1024 .f32) (ix3 1 i k) := by
  have e : (iblk m c 10 t : FVec Ideal S1x32x1024 .f32) (ix3 0 r k) = (V m c main_arg10 : FVec Ideal S2x1024x1024 .f32) (ix3 1 i k) := by
    blk_ext [iblk, V, idxW t]
  rw [e]
  exact congrFun (V_main_arg10 m c) _

/-- The prepared per-layer gate weight's array after the run. -/
theorem arrGate : (dats m 0 c).arrAt 15 cfg0.N = resultGate m c := by
  refine (dats m 0 c).arrAt_eq_of_covers 15 _ (by decide +kernel) fun t hf y => ?_
  rw [after0_15]
  have ht : t.val < 32 := t.isLt
  have hy : (y 0).val < 32 := (y 0).isLt
  have hy1 : (y 1).val < 1024 := (y 1).isLt
  have q0 : (((cfg0.win 15).blk t).view.emb y 0).val = 32 * t.val + (y 0).val := by
    blk_simp [idxW t]; omega
  have q1 : (((cfg0.win 15).blk t).view.emb y 1).val = (y 1).val := by
    blk_simp [idxW t]
  show blockGate _ y = resultGate m c (((cfg0.win 15).blk t).view.emb y)
  have hyy : y = ix2 ⟨(y 0).val, hy⟩ ⟨(y 1).val, hy1⟩ := funext fun a => by match a with | ⟨0, _⟩ => rfl | ⟨1, _⟩ => rfl
  refine (congrArg (blockGate _) hyy).trans ((blockGate_apply _ _ _).trans ?_)
  unfold resultGate
  simp only [q0, q1]
  exact blkGate m c t ⟨(y 0).val, hy⟩ ⟨32 * t.val + (y 0).val, by omega⟩ ⟨(y 1).val, hy1⟩ rfl

theorem blkProj (t : Fin cfg0.N) (r : Fin 16) (i : Fin 256) (k : Fin 1024) (h : i.val = 16 * (t.val / 2) + r.val) :
    (iblk m c 11 t : FVec Ideal S1x16x1024 .f32) (ix3 0 r k) = (m ((c.tc : Thread nD τ).loc main_arg11) : FVec Ideal S2x256x1024 .f32) (ix3 1 i k) := by
  have e : (iblk m c 11 t : FVec Ideal S1x16x1024 .f32) (ix3 0 r k) = (V m c main_arg11 : FVec Ideal S2x256x1024 .f32) (ix3 1 i k) := by
    blk_ext [iblk, V, idxW t]
  rw [e]
  exact congrFun (V_main_arg11 m c) _

/-- The prepared per-layer projection weight's array after the run. -/
theorem arrProj : (dats m 0 c).arrAt 16 cfg0.N = resultProj m c := by
  refine (dats m 0 c).arrAt_eq_of_covers 16 _ (by decide +kernel) fun t hf y => ?_
  rw [after0_16]
  have ht : t.val < 32 := t.isLt
  have hy : (y 0).val < 16 := (y 0).isLt
  have hy1 : (y 1).val < 1024 := (y 1).isLt
  have q0 : (((cfg0.win 16).blk t).view.emb y 0).val = 16 * (t.val / 2) + (y 0).val := by
    blk_simp [idxW t]; omega
  have q1 : (((cfg0.win 16).blk t).view.emb y 1).val = (y 1).val := by
    blk_simp [idxW t]
  show blockProj _ y = resultProj m c (((cfg0.win 16).blk t).view.emb y)
  have hyy : y = ix2 ⟨(y 0).val, hy⟩ ⟨(y 1).val, hy1⟩ := funext fun a => by match a with | ⟨0, _⟩ => rfl | ⟨1, _⟩ => rfl
  refine (congrArg (blockProj _) hyy).trans ((blockProj_apply _ _ _).trans ?_)
  unfold resultProj
  simp only [q0, q1]
  exact blkProj m c t ⟨(y 0).val, hy⟩ ⟨16 * (t.val / 2) + (y 0).val, by omega⟩ ⟨(y 1).val, hy1⟩ rfl

end Cert.KernelIdeal.Mix

namespace Cert.ReferenceIdeal.Mix

open Cert.ReferenceIdeal Cert.ReferenceIdeal.Gen Cert.ReferenceIdeal.Value
open Idealize.ShloMosaic Idealize.ShloMosaic.TcCoe Idealize.ShloMosaic.StableHlo
open Idealize.SL.Sem

/-- Layer 1's gate and up weights, cast. -/
def opUp (w : FVec Ideal S2x1024x5632 .f32) : FVec Ideal S1024x5632 .bf16 :=
  truncf .bf16 (shapeCast _ (extractStridedSlice S1x1024x5632 ![1, 0, 0] w slices_S2x1024x5632_S1x1024x5632_1_0_0) shapeCasts_S1x1024x5632_S1024x5632) bitsLt_bf16_f32

theorem opUp_apply (w : FVec Ideal S2x1024x5632 .f32) (i : Fin 1024) (k : Fin 5632) : opUp w (ix2 i k) = w (ix3 1 i k) := by
  unfold opUp; pointwise

theorem afterUp (V : Valuation τ sig (Elt Ideal)) :
    after hostOps0_9 V (Proc.devRef .tc main_v110) = opUp (V (Proc.devRef .tc main_arg8)) := by
  after_results <;> rfl

theorem finalUp (m : (ℓ : Loc nD τ sig) → Buf (Elt Ideal) ℓ) (c : Dev nD) :
    finalContents condOps preI bodyI postI 128 m c (Proc.devRef .tc main_v110) = opUp (m ((c.tc : Thread nD τ).loc main_arg8)) := by
  have hr : main_arg8 ∈ argRefs := by decide
  unfold finalContents
  simp only [postI, afterL_cons, afterL_nil]
  rw [afterUp, hostOps0_8_keeps _ hr, hostOps0_7_keeps _ hr, hostOps0_6_keeps _ hr, hostOps0_5_keeps _ hr, condOps_keeps _ hr]
  exact congrArg opUp (atK_keeps m c hr 128)

/-- Layer 1's down weight, cast. -/
def opDown (w : FVec Ideal S2x2816x1024 .f32) : FVec Ideal S2816x1024 .bf16 :=
  truncf .bf16 (shapeCast _ (extractStridedSlice S1x2816x1024 ![1, 0, 0] w slices_S2x2816x1024_S1x2816x1024_1_0_0) shapeCasts_S1x2816x1024_S2816x1024) bitsLt_bf16_f32

theorem opDown_apply (w : FVec Ideal S2x2816x1024 .f32) (i : Fin 2816) (k : Fin 1024) : opDown w (ix2 i k) = w (ix3 1 i k) := by
  unfold opDown; pointwise

theorem afterDown (V : Valuation τ sig (Elt Ideal)) :
    after hostOps0_9 V (Proc.devRef .tc main_v113) = opDown (V (Proc.devRef .tc main_arg9)) := by
  after_results <;> rfl

theorem finalDown (m : (ℓ : Loc nD τ sig) → Buf (Elt Ideal) ℓ) (c : Dev nD) :
    finalContents condOps preI bodyI postI 128 m c (Proc.devRef .tc main_v113) = opDown (m ((c.tc : Thread nD τ).loc main_arg9)) := by
  have hr : main_arg9 ∈ argRefs := by decide
  unfold finalContents
  simp only [postI, afterL_cons, afterL_nil]
  rw [afterDown, hostOps0_8_keeps _ hr, hostOps0_7_keeps _ hr, hostOps0_6_keeps _ hr, hostOps0_5_keeps _ hr, condOps_keeps _ hr]
  exact congrArg opDown (atK_keeps m c hr 128)

/-- Layer 1's per-layer gate weight, cast. -/
def opGate (w : FVec Ideal S2x1024x1024 .f32) : FVec Ideal S1024x1024 .bf16 :=
  truncf .bf16 (shapeCast _ (extractStridedSlice S1x1024x1024 ![1, 0, 0] w slices_S2x1024x1024_S1x1024x1024_1_0_0) shapeCasts_S1x1024x1024_S1024x1024) bitsLt_bf16_f32

theorem opGate_apply (w : FVec Ideal S2x1024x1024 .f32) (i : Fin 1024) (k : Fin 1024) : opGate w (ix2 i k) = w (ix3 1 i k) := by
  unfold opGate; pointwise

theorem afterGate (V : Valuation τ sig (Elt Ideal)) :
    after hostOps0_9 V (Proc.devRef .tc main_v116) = opGate (V (Proc.devRef .tc main_arg10)) := by
  after_results <;> rfl

theorem finalGate (m : (ℓ : Loc nD τ sig) → Buf (Elt Ideal) ℓ) (c : Dev nD) :
    finalContents condOps preI bodyI postI 128 m c (Proc.devRef .tc main_v116) = opGate (m ((c.tc : Thread nD τ).loc main_arg10)) := by
  have hr : main_arg10 ∈ argRefs := by decide
  unfold finalContents
  simp only [postI, afterL_cons, afterL_nil]
  rw [afterGate, hostOps0_8_keeps _ hr, hostOps0_7_keeps _ hr, hostOps0_6_keeps _ hr, hostOps0_5_keeps _ hr, condOps_keeps _ hr]
  exact congrArg opGate (atK_keeps m c hr 128)

/-- Layer 1's per-layer projection weight, cast. -/
def opProj (w : FVec Ideal S2x256x1024 .f32) : FVec Ideal S256x1024 .bf16 :=
  truncf .bf16 (shapeCast _ (extractStridedSlice S1x256x1024 ![1, 0, 0] w slices_S2x256x1024_S1x256x1024_1_0_0) shapeCasts_S1x256x1024_S256x1024) bitsLt_bf16_f32

theorem opProj_apply (w : FVec Ideal S2x256x1024 .f32) (i : Fin 256) (k : Fin 1024) : opProj w (ix2 i k) = w (ix3 1 i k) := by
  unfold opProj; pointwise

theorem afterProj (V : Valuation τ sig (Elt Ideal)) :
    after hostOps0_9 V (Proc.devRef .tc main_v119) = opProj (V (Proc.devRef .tc main_arg11)) := by
  after_results <;> rfl

theorem finalProj (m : (ℓ : Loc nD τ sig) → Buf (Elt Ideal) ℓ) (c : Dev nD) :
    finalContents condOps preI bodyI postI 128 m c (Proc.devRef .tc main_v119) = opProj (m ((c.tc : Thread nD τ).loc main_arg11)) := by
  have hr : main_arg11 ∈ argRefs := by decide
  unfold finalContents
  simp only [postI, afterL_cons, afterL_nil]
  rw [afterProj, hostOps0_8_keeps _ hr, hostOps0_7_keeps _ hr, hostOps0_6_keeps _ hr, hostOps0_5_keeps _ hr, condOps_keeps _ hr]
  exact congrArg opProj (atK_keeps m c hr 128)

end Cert.ReferenceIdeal.Mix

namespace Cert.MixCastClaim

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From memories agreeing on it, the reference's prepared gate and up weights is the kernel's. -/
theorem sameUp
    (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Mix.opUp (m' ((c.tc : Thread Cert.ReferenceIdeal.nD Cert.ReferenceIdeal.τ).loc Cert.ReferenceIdeal.main_arg8)) : FVec Ideal Cert.KernelIdeal.S1024x5632 .bf16) = Cert.KernelIdeal.Mix.resultUp m c := by
  funext y
  obtain ⟨n, k, rfl⟩ : ∃ (n : Fin 1024) (k : Fin 5632), y = ix2 n k := ⟨y 0, y 1, funext fun a => by match a with | ⟨0, _⟩ => rfl | ⟨1, _⟩ => rfl⟩
  refine (Cert.ReferenceIdeal.Mix.opUp_apply _ n k).trans ?_
  rw [h]
  rfl

/-- From memories agreeing on it, the reference's prepared down weight is the kernel's. -/
theorem sameDown
    (h : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Mix.opDown (m' ((c.tc : Thread Cert.ReferenceIdeal.nD Cert.ReferenceIdeal.τ).loc Cert.ReferenceIdeal.main_arg9)) : FVec Ideal Cert.KernelIdeal.S2816x1024 .bf16) = Cert.KernelIdeal.Mix.resultDown m c := by
  funext y
  obtain ⟨n, k, rfl⟩ : ∃ (n : Fin 2816) (k : Fin 1024), y = ix2 n k := ⟨y 0, y 1, funext fun a => by match a with | ⟨0, _⟩ => rfl | ⟨1, _⟩ => rfl⟩
  refine (Cert.ReferenceIdeal.Mix.opDown_apply _ n k).trans ?_
  rw [h]
  rfl

/-- From memories agreeing on it, the reference's prepared per-layer gate weight is the kernel's. -/
theorem sameGate
    (h : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Mix.opGate (m' ((c.tc : Thread Cert.ReferenceIdeal.nD Cert.ReferenceIdeal.τ).loc Cert.ReferenceIdeal.main_arg10)) : FVec Ideal Cert.KernelIdeal.S1024x1024 .bf16) = Cert.KernelIdeal.Mix.resultGate m c := by
  funext y
  obtain ⟨n, k, rfl⟩ : ∃ (n : Fin 1024) (k : Fin 1024), y = ix2 n k := ⟨y 0, y 1, funext fun a => by match a with | ⟨0, _⟩ => rfl | ⟨1, _⟩ => rfl⟩
  refine (Cert.ReferenceIdeal.Mix.opGate_apply _ n k).trans ?_
  rw [h]
  rfl

/-- From memories agreeing on it, the reference's prepared per-layer projection weight is the kernel's. -/
theorem sameProj
    (h : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Mix.opProj (m' ((c.tc : Thread Cert.ReferenceIdeal.nD Cert.ReferenceIdeal.τ).loc Cert.ReferenceIdeal.main_arg11)) : FVec Ideal Cert.KernelIdeal.S256x1024 .bf16) = Cert.KernelIdeal.Mix.resultProj m c := by
  funext y
  obtain ⟨n, k, rfl⟩ : ∃ (n : Fin 256) (k : Fin 1024), y = ix2 n k := ⟨y 0, y 1, funext fun a => by match a with | ⟨0, _⟩ => rfl | ⟨1, _⟩ => rfl⟩
  refine (Cert.ReferenceIdeal.Mix.opProj_apply _ n k).trans ?_
  rw [h]
  rfl

theorem algebraic : Cert.algebraic_KernelIdeal_ReferenceIdeal_on_weights (hKernelIdeal := Cert.KernelIdeal.Gen.facts) (hReferenceIdeal := Cert.ReferenceIdeal.Gen.facts) (hOn_weights := Cert.On_weights.facts) := by
  intro m g m' g' _ hag
  refine ⟨fun c => m ((c.tc : Thread Cert.KernelIdeal.nD Cert.KernelIdeal.τ).loc Cert.KernelIdeal.main_v16_0), fun c => Cert.KernelIdeal.Mix.resultUp m c,
    fun c => Cert.KernelIdeal.Mix.resultDown m c, fun c => Cert.KernelIdeal.Mix.resultGate m c, fun c => Cert.KernelIdeal.Mix.resultProj m c, ?_, ?_⟩
  · refine (θ_run Cert.KernelIdeal.defs _ _).mono (fun r h c => ?_) (Cert.KernelIdeal.Mix.run_main m g)
    exact ⟨fun i hi => absurd (show (0#1 : BitVec 1) = 1#1 from hi) (by decide),
      fun i _ => congrFun ((Cert.KernelIdeal.Mix.left m (h.1 c) 13).trans (Cert.KernelIdeal.Mix.arrUp m c)) i,
      fun i _ => congrFun ((Cert.KernelIdeal.Mix.left m (h.1 c) 14).trans (Cert.KernelIdeal.Mix.arrDown m c)) i,
      fun i _ => congrFun ((Cert.KernelIdeal.Mix.left m (h.1 c) 15).trans (Cert.KernelIdeal.Mix.arrGate m c)) i,
      fun i _ => congrFun ((Cert.KernelIdeal.Mix.left m (h.1 c) 16).trans (Cert.KernelIdeal.Mix.arrProj m c)) i,
      Cert.KernelIdeal.Mix.argsKept m (h.1 c)⟩
  · refine (θ_run Cert.ReferenceIdeal.defs _ _).mono (fun r h c => ?_) (Cert.ReferenceIdeal.Value.run_fold m' g')
    obtain ⟨h0, h1, h2, h3, h4, h5, h6, h7, h8, h9, h10, h11⟩ := hag c
    exact ⟨fun i hi => absurd (show (0#1 : BitVec 1) = 1#1 from hi) (by decide),
      fun i _ => congrFun (((h c Cert.ReferenceIdeal.main_v110 (by decide)).trans (Cert.ReferenceIdeal.Mix.finalUp m' c)).trans (sameUp m m' c h8)) i,
      fun i _ => congrFun (((h c Cert.ReferenceIdeal.main_v113 (by decide)).trans (Cert.ReferenceIdeal.Mix.finalDown m' c)).trans (sameDown m m' c h9)) i,
      fun i _ => congrFun (((h c Cert.ReferenceIdeal.main_v116 (by decide)).trans (Cert.ReferenceIdeal.Mix.finalGate m' c)).trans (sameGate m m' c h10)) i,
      fun i _ => congrFun (((h c Cert.ReferenceIdeal.main_v119 (by decide)).trans (Cert.ReferenceIdeal.Mix.finalProj m' c)).trans (sameProj m m' c h11)) i,
      (h c Cert.ReferenceIdeal.main_arg0 (by decide)).trans (Cert.ReferenceIdeal.Mix.final_keeps m' c (by decide)),
      (h c Cert.ReferenceIdeal.main_arg1 (by decide)).trans (Cert.ReferenceIdeal.Mix.final_keeps m' c (by decide)),
      (h c Cert.ReferenceIdeal.main_arg2 (by decide)).trans (Cert.ReferenceIdeal.Mix.final_keeps m' c (by decide)),
      (h c Cert.ReferenceIdeal.main_arg3 (by decide)).trans (Cert.ReferenceIdeal.Mix.final_keeps m' c (by decide)),
      (h c Cert.ReferenceIdeal.main_arg4 (by decide)).trans (Cert.ReferenceIdeal.Mix.final_keeps m' c (by decide)),
      (h c Cert.ReferenceIdeal.main_arg5 (by decide)).trans (Cert.ReferenceIdeal.Mix.final_keeps m' c (by decide)),
      (h c Cert.ReferenceIdeal.main_arg6 (by decide)).trans (Cert.ReferenceIdeal.Mix.final_keeps m' c (by decide)),
      (h c Cert.ReferenceIdeal.main_arg7 (by decide)).trans (Cert.ReferenceIdeal.Mix.final_keeps m' c (by decide)),
      (h c Cert.ReferenceIdeal.main_arg8 (by decide)).trans (Cert.ReferenceIdeal.Mix.final_keeps m' c (by decide)),
      (h c Cert.ReferenceIdeal.main_arg9 (by decide)).trans (Cert.ReferenceIdeal.Mix.final_keeps m' c (by decide)),
      (h c Cert.ReferenceIdeal.main_arg10 (by decide)).trans (Cert.ReferenceIdeal.Mix.final_keeps m' c (by decide)),
      (h c Cert.ReferenceIdeal.main_arg11 (by decide)).trans (Cert.ReferenceIdeal.Mix.final_keeps m' c (by decide))⟩

end Cert.MixCastClaim

end
-- ==== Proof.MixZeroRun.lean ====
module

public import proofs.«01_k».proof.Proof.Gen.Kernel5Ideal.Frame
public import proofs.«01_k».proof.Proof.Gen.Kernel5Ideal.Loops
public import Idealize.ShloMosaic.Lib.VecWindow

@[expose] public section

set_option maxRecDepth 16384

noncomputable section

namespace Cert.Kernel5Ideal.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conditional that nothing decides, in last position: each region runs under its own case of the condition. -/
theorem wp_ite {α : Type} {c : Thread nD τ} {E : Set ℕ} {Q : α → sProp 𝕄}
    {C : Prop} (dec : Decidable C) (p q : Prog (TpuEff nD τ sig (Elt F) Λ₀ c.2) α) :
    iprop((⌜C⌝ -∗ wp frame (wpE (defs₀ (F := F)) Variants.none c none) E p Q)
      ∧ (⌜¬C⌝ -∗ wp frame (wpE (defs₀ (F := F)) Variants.none c none) E q Q))
    ⊢ wp frame (wpE (defs₀ (F := F)) Variants.none c none) E (@ite _ C dec p q) Q := by
  by_cases hc : C
  · rw [if_pos hc]
    iintro ⟨H, -⟩
    iapply H
    ipureintro; exact hc
  · rw [if_neg hc]
    iintro ⟨-, H⟩
    iapply H
    ipureintro; exact hc

set_option maxHeartbeats 4000000 in
/-- The mixer's body at any grid point, from whatever its outputs and scratch hold: it ends, with its inputs kept, the last
    four outputs holding the casts of the last four inputs, and the first output and the scratch holding something. -/
theorem bodyRun (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1024x3200 .bf16) (harg4 : arg4.IsWhole) (arg5 : Memref sig .tc .vmem S1x128x256 .bf16) (harg5 : arg5.IsWhole) (arg6 : Memref sig .tc .vmem S1x1x256 .f32) (harg6 : arg6.IsWhole) (arg7 : Memref sig .tc .vmem S1x3x512 .f32) (harg7 : arg7.IsWhole) (arg8 : Memref sig .tc .vmem S1x1x128 .f32) (harg8 : arg8.IsWhole) (arg9 : Memref sig .tc .vmem S1024x1024 .bf16) (harg9 : arg9.IsWhole) (arg10 : Memref sig .tc .vmem S1x32x5632 .f32) (harg10 : arg10.IsWhole) (arg11 : Memref sig .tc .vmem S1x176x1024 .f32) (harg11 : arg11.IsWhole) (arg12 : Memref sig .tc .vmem S1x32x1024 .f32) (harg12 : arg12.IsWhole) (arg13 : Memref sig .tc .vmem S1x16x1024 .f32) (harg13 : arg13.IsWhole) (arg14 : Memref sig .tc .vmem S1x1024x1024 .f32) (harg14 : arg14.IsWhole) (arg15 : Memref sig .tc .vmem S32x5632 .bf16) (harg15 : arg15.IsWhole) (arg16 : Memref sig .tc .vmem S176x1024 .bf16) (harg16 : arg16.IsWhole) (arg17 : Memref sig .tc .vmem S32x1024 .bf16) (harg17 : arg17.IsWhole) (arg18 : Memref sig .tc .vmem S16x1024 .bf16) (harg18 : arg18.IsWhole) (arg19 : Memref sig .tc .vmem S4x64x128 .f32) (harg19 : arg19.IsWhole) (arg20 : Memref sig .tc .vmem S1032x512 .f32) (harg20 : arg20.IsWhole) (arg21 : Memref sig .tc .vmem S1024x1024 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x512 .f32) (harg25 : arg25.IsWhole) (arg26 : Memref sig .tc .vmem S1024x512 .f32) (harg26 : arg26.IsWhole) (arg27 : Memref sig .tc .vmem S4x4x64x128 .f32) (harg27 : arg27.IsWhole) (arg28 : Memref sig .tc .vmem S256x512 .f32) (harg28 : arg28.IsWhole)
    (x0 : Vec F S1x1024x1024 .f32) (x1 : Vec F S1x1x1024 .f32) (x2 : Vec F S1024x3200 .bf16) (x3 : Vec F S1x128x256 .bf16) (x4 : Vec F S1x1x256 .f32) (x5 : Vec F S1x3x512 .f32) (x6 : Vec F S1x1x128 .f32) (x7 : Vec F S1024x1024 .bf16) (x8 : Vec F S1x32x5632 .f32) (x9 : Vec F S1x176x1024 .f32) (x10 : Vec F S1x32x1024 .f32) (x11 : Vec F S1x16x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare (k0_pay72 x8) ∗ owns (c : Thread nD τ) arg16 fullShare (k0_pay73 x9) ∗ owns (c : Thread nD τ) arg17 fullShare (k0_pay74 x10) ∗ owns (c : Thread nD τ) arg18 fullShare (k0_pay75 x11) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_mixer_eq_skeleton]; unfold cc0_mixer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec
  iapply (wp_ite (F := F) _ _ _)
  isplit
  · iintro %hc
    sl_exec
    sl_step
    iapply Hk
    isplitl [H2]
    · iexists _; isplitr; swap; · iexact H2
      ipureintro; first | exact hf2 | rfl
    isplitl [H3]
    · iexists _; isplitr; swap; · iexact H3
      ipureintro; first | exact hf3 | rfl
    isplitl [H4]
    · iexists _; isplitr; swap; · iexact H4
      ipureintro; first | exact hf4 | rfl
    isplitl [H5]
    · iexists _; isplitr; swap; · iexact H5
      ipureintro; first | exact hf5 | rfl
    isplitl [H6]
    · iexists _; isplitr; swap; · iexact H6
      ipureintro; first | exact hf6 | rfl
    isplitl [H7]
    · iexists _; isplitr; swap; · iexact H7
      ipureintro; first | exact hf7 | rfl
    isplitl [H8]
    · iexists _; isplitr; swap; · iexact H8
      ipureintro; first | exact hf8 | rfl
    isplitl [H9]
    · iexists _; isplitr; swap; · iexact H9
      ipureintro; first | exact hf9 | rfl
    isplitl [H10]
    · iexists _; isplitr; swap; · iexact H10
      ipureintro; first | exact hf10 | rfl
    isplitl [H11]
    · iexists _; isplitr; swap; · iexact H11
      ipureintro; first | exact hf11 | rfl
    isplitl [H12]
    · iexists _; isplitr; swap; · iexact H12
      ipureintro; first | exact hf12 | rfl
    isplitl [H13]
    · iexists _; isplitr; swap; · iexact H13
      ipureintro; first | exact hf13 | rfl
    isplitl [H14]
    · iexists _; iexists _; isplitr; swap; · iexact H14
      ipureintro; rfl
    isplitl [H15]
    · iexists _; isplitr; swap; · iexact H15
      ipureintro; exact (View.read_writes_full _ _ _ _ _).trans (congrArg k0_pay72 ((View.readAt_full _ _ _).trans (harg10.read_unread x8)))
    isplitl [H16]
    · iexists _; isplitr; swap; · iexact H16
      ipureintro; exact (View.read_writes_full _ _ _ _ _).trans (congrArg k0_pay73 ((View.readAt_full _ _ _).trans (harg11.read_unread x9)))
    isplitl [H17]
    · iexists _; isplitr; swap; · iexact H17
      ipureintro; exact (View.read_writes_full _ _ _ _ _).trans (congrArg k0_pay74 ((View.readAt_full _ _ _).trans (harg12.read_unread x10)))
    isplitl [H18]
    · iexists _; isplitr; swap; · iexact H18
      ipureintro; exact (View.read_writes_full _ _ _ _ _).trans (congrArg k0_pay75 ((View.readAt_full _ _ _).trans (harg13.read_unread x11)))
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    isplitl [H25]
    · iexists _; iexists _; isplitr; swap; · iexact H25
      ipureintro; rfl
    isplitl [H26]
    · iexists _; iexists _; isplitr; swap; · iexact H26
      ipureintro; rfl
    isplitl [H27]
    · iexists _; iexists _; isplitr; swap; · iexact H27
      ipureintro; rfl
    iexists _; iexists _; isplitr; swap; · iexact H28
    ipureintro; rfl
  · iintro %hc
    sl_exec
    sl_step
    iapply Hk
    isplitl [H2]
    · iexists _; isplitr; swap; · iexact H2
      ipureintro; first | exact hf2 | rfl
    isplitl [H3]
    · iexists _; isplitr; swap; · iexact H3
      ipureintro; first | exact hf3 | rfl
    isplitl [H4]
    · iexists _; isplitr; swap; · iexact H4
      ipureintro; first | exact hf4 | rfl
    isplitl [H5]
    · iexists _; isplitr; swap; · iexact H5
      ipureintro; first | exact hf5 | rfl
    isplitl [H6]
    · iexists _; isplitr; swap; · iexact H6
      ipureintro; first | exact hf6 | rfl
    isplitl [H7]
    · iexists _; isplitr; swap; · iexact H7
      ipureintro; first | exact hf7 | rfl
    isplitl [H8]
    · iexists _; isplitr; swap; · iexact H8
      ipureintro; first | exact hf8 | rfl
    isplitl [H9]
    · iexists _; isplitr; swap; · iexact H9
      ipureintro; first | exact hf9 | rfl
    isplitl [H10]
    · iexists _; isplitr; swap; · iexact H10
      ipureintro; first | exact hf10 | rfl
    isplitl [H11]
    · iexists _; isplitr; swap; · iexact H11
      ipureintro; first | exact hf11 | rfl
    isplitl [H12]
    · iexists _; isplitr; swap; · iexact H12
      ipureintro; first | exact hf12 | rfl
    isplitl [H13]
    · iexists _; isplitr; swap; · iexact H13
      ipureintro; first | exact hf13 | rfl
    isplitl [H14]
    · iexists _; iexists _; isplitr; swap; · iexact H14
      ipureintro; rfl
    isplitl [H15]
    · iexists _; isplitr; swap; · iexact H15
      ipureintro; exact (View.read_writes_full _ _ _ _ _).trans (congrArg k0_pay72 ((View.readAt_full _ _ _).trans (harg10.read_unread x8)))
    isplitl [H16]
    · iexists _; isplitr; swap; · iexact H16
      ipureintro; exact (View.read_writes_full _ _ _ _ _).trans (congrArg k0_pay73 ((View.readAt_full _ _ _).trans (harg11.read_unread x9)))
    isplitl [H17]
    · iexists _; isplitr; swap; · iexact H17
      ipureintro; exact (View.read_writes_full _ _ _ _ _).trans (congrArg k0_pay74 ((View.readAt_full _ _ _).trans (harg12.read_unread x10)))
    isplitl [H18]
    · iexists _; isplitr; swap; · iexact H18
      ipureintro; exact (View.read_writes_full _ _ _ _ _).trans (congrArg k0_pay75 ((View.readAt_full _ _ _).trans (harg13.read_unread x11)))
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    isplitl [H25]
    · iexists _; iexists _; isplitr; swap; · iexact H25
      ipureintro; rfl
    isplitl [H26]
    · iexists _; iexists _; isplitr; swap; · iexact H26
      ipureintro; rfl
    isplitl [H27]
    · iexists _; iexists _; isplitr; swap; · iexact H27
      ipureintro; rfl
    iexists _; iexists _; isplitr; swap; · iexact H28
    ipureintro; rfl

end Cert.Kernel5Ideal.Mix

end
-- ==== Proof.MixZeroFrame.lean ====
module

public import proofs.«01_k».proof.Proof.MixZeroRun
public import Idealize.ShloMosaic.Lib.Claim

@[expose] public section

set_option maxRecDepth 16384

noncomputable section

namespace Cert.Kernel5Ideal.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer 0 as the body names it. -/
abbrev scM0 := (Memref.whole cc0_scratch0 : Memref sig .tc _ _ _)
/-- The scratch buffer 1 as the body names it. -/
abbrev scM1 := (Memref.whole cc0_scratch1 : Memref sig .tc _ _ _)
/-- The scratch buffer 2 as the body names it. -/
abbrev scM2 := (Memref.whole cc0_scratch2 : Memref sig .tc _ _ _)
/-- The scratch buffer 3 as the body names it. -/
abbrev scM3 := (Memref.whole cc0_scratch3 : Memref sig .tc _ _ _)
/-- The scratch buffer 4 as the body names it. -/
abbrev scM4 := (Memref.whole cc0_scratch4 : Memref sig .tc _ _ _)
/-- The scratch buffer 5 as the body names it. -/
abbrev scM5 := (Memref.whole cc0_scratch5 : Memref sig .tc _ _ _)
/-- The scratch buffer 6 as the body names it. -/
abbrev scM6 := (Memref.whole cc0_scratch6 : Memref sig .tc _ _ _)
/-- The scratch buffer 7 as the body names it. -/
abbrev scM7 := (Memref.whole cc0_scratch7 : Memref sig .tc _ _ _)
/-- The scratch buffer 8 as the body names it. -/
abbrev scM8 := (Memref.whole cc0_scratch8 : Memref sig .tc _ _ _)
/-- The scratch buffer 9 as the body names it. -/
abbrev scM9 := (Memref.whole cc0_scratch9 : Memref sig .tc _ _ _)

/-- The region's own invariant: each scratch buffer at some contents, and the generator register. -/
theorem PhiA_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d)) ∗ (∃ r, prngReg c r)) := by
  unfold Pipeline.ΦA; rw [scopedRest0_eq]; simp only [scM0, scM1, scM2, scM3, scM4, scM5, scM6, scM7, scM8, scM9, owns_whole]; try rfl

/-- The first output, the stream, is not named. -/
def forgets0 : Fin 17 → Bool := fun w => decide (w.val = 12)

/-- The proof data: the inputs' buffers keep their blocks, the stream's holds something, the last four outputs' hold the casts of
    the last four inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => k0_pay72 (iblk m c 8 t)
    | ⟨14, _⟩ => k0_pay73 (iblk m c 9 t)
    | ⟨15, _⟩ => k0_pay74 (iblk m c 10 t)
    | ⟨16, _⟩ => k0_pay75 (iblk m c 11 t)
    | ⟨k + 17, h⟩ => absurd h (Nat.not_lt.mpr (Nat.le_add_left 17 k))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_13 (c : Dev nD) (t : Fin cfg0.N) : (dats m 0 c).after 13 t = k0_pay72 (iblk m c 8 t) := by dsimp only [dats]
theorem after0_14 (c : Dev nD) (t : Fin cfg0.N) : (dats m 0 c).after 14 t = k0_pay73 (iblk m c 9 t) := by dsimp only [dats]
theorem after0_15 (c : Dev nD) (t : Fin cfg0.N) : (dats m 0 c).after 15 t = k0_pay74 (iblk m c 10 t) := by dsimp only [dats]
theorem after0_16 (c : Dev nD) (t : Fin cfg0.N) : (dats m 0 c).after 16 t = k0_pay75 (iblk m c 11 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare d) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ d, owns (c : Thread nD τ) (st0_12 t) fullShare d) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_13, after0_14, after0_15, after0_16]
  rw [show (dats m 0 c).Φ t.castSucc = Pipeline.ΦA spec0 c from rfl, PhiA_eq]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, ⟨%d14, H14⟩, ⟨%d15, H15⟩, ⟨%d16, H16⟩⟩
  iapply (bodyRun c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, H10, H11, H12, H13, H14, H15, H16, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every execution ends, with every counter at zero and every array but the outputs as the region found it and the last
    four outputs' arrays at what the body left. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as the region found it. -/
theorem kept {c : Dev nD} {r : PUnit × MemSt nD τ sig (Elt F)}
    (h : (∀ w, ((dats m 0 c).toRForget forgets0).ArrAt w cfg0.N (r.2.mem ((cfg0.spec w).arr.view.loc (c.tc : Thread nD τ))))
      ∧ ∀ b ∈ Pipeline.restRefs sig cfg0.spec, r.2.mem ((c.tc : Thread nD τ).loc b) = V m c b)
    (w : Fin 17) (hw : (cfg0.win w).isOut = false) (hf : forgets0 w = false := by rfl) :
    r.2.mem ((cfg0.spec w).arr.view.loc (c.tc : Thread nD τ)) = V m c (Pipeline.arrRef spec0 w) :=
  (((dats m 0 c).toRForget_arrAt_iff hf _ _).mp (h.1 w)).trans (((dats m 0 c).arrAt_in w hw _).trans (A_eq m c w))

/-- A named output's array ends at what the body left, block after block. -/
theorem left {c : Dev nD} {r : PUnit × MemSt nD τ sig (Elt F)}
    (h : (∀ w, ((dats m 0 c).toRForget forgets0).ArrAt w cfg0.N (r.2.mem ((cfg0.spec w).arr.view.loc (c.tc : Thread nD τ))))
      ∧ ∀ b ∈ Pipeline.restRefs sig cfg0.spec, r.2.mem ((c.tc : Thread nD τ).loc b) = V m c b)
    (w : Fin 17) (hf : forgets0 w = false := by rfl) :
    r.2.mem ((cfg0.spec w).arr.view.loc (c.tc : Thread nD τ)) = (dats m 0 c).arrAt w cfg0.N :=
  ((dats m 0 c).toRForget_arrAt_iff hf _ _).mp (h.1 w)

/-- The arguments end as they were. -/
theorem argsKept {c : Dev nD} {r : PUnit × MemSt nD τ sig (Elt F)}
    (h : (∀ w, ((dats m 0 c).toRForget forgets0).ArrAt w cfg0.N (r.2.mem ((cfg0.spec w).arr.view.loc (c.tc : Thread nD τ))))
      ∧ ∀ b ∈ Pipeline.restRefs sig cfg0.spec, r.2.mem ((c.tc : Thread nD τ).loc b) = V m c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(kept m h 0 rfl).trans (V_main_arg0 m c),
    (h.2 main_arg1 (Pipeline.mem_restRefs_of main_arg1 (by decide) (by decide))).trans (V_main_arg1 m c),
    (h.2 main_arg2 (Pipeline.mem_restRefs_of main_arg2 (by decide) (by decide))).trans (V_main_arg2 m c),
    (h.2 main_arg3 (Pipeline.mem_restRefs_of main_arg3 (by decide) (by decide))).trans (V_main_arg3 m c),
    (h.2 main_arg4 (Pipeline.mem_restRefs_of main_arg4 (by decide) (by decide))).trans (V_main_arg4 m c),
    (kept m h 5 rfl).trans (V_main_arg5 m c),
    (h.2 main_arg6 (Pipeline.mem_restRefs_of main_arg6 (by decide) (by decide))).trans (V_main_arg6 m c),
    (h.2 main_arg7 (Pipeline.mem_restRefs_of main_arg7 (by decide) (by decide))).trans (V_main_arg7 m c),
    (kept m h 8 rfl).trans (V_main_arg8 m c),
    (kept m h 9 rfl).trans (V_main_arg9 m c),
    (kept m h 10 rfl).trans (V_main_arg10 m c),
    (kept m h 11 rfl).trans (V_main_arg11 m c)⟩

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => argsKept m (h.1 c), h.2⟩) (run_main m ρ)

end Cert.Kernel5Ideal.Mix

end
-- ==== Proof.KFrameZero.lean ====
/- The first token mixer's frame as compiled. -/
module

public import proofs.«01_k».proof.Defs
public import proofs.«01_k».proof.Proof.Gen.Kernel5
public import proofs.«01_k».proof.Proof.MixZeroFrame

@[expose] public section

set_option maxRecDepth 16384

noncomputable section

namespace Cert.KFrameZero

open Idealize.ShloMosaic Idealize.ShloMosaic.Tactic Idealize.SL.Sem

/-- Every execution of the compiled mixer ends with its arguments as they were: the run of the other program,
whose text is the same. -/
theorem frame : Cert.quiescent_Kernel5 := fun m ρ _ =>
  cast (by sl_kernel_rfl) (Cert.Kernel5Ideal.Mix.frame (F := Bits) m ρ)

end Cert.KFrameZero

end
-- ==== Proof.MixZeroRefFrame.lean ====
/- The first token mixer's reference: its run, which keeps its arguments. -/
module

public import proofs.«01_k».proof.Proof.Gen.Reference5Ideal.Run
public import Idealize.ShloMosaic.Adequacy

@[expose] public section

set_option maxRecDepth 16384

noncomputable section

namespace Cert.Reference5Ideal.Mix

open Cert.Reference5Ideal Cert.Reference5Ideal.Gen Cert.Reference5Ideal.Value
open Idealize.ShloMosaic Idealize.ShloMosaic.TcCoe Idealize.ShloMosaic.StableHlo
open Idealize.SL.Sem

variable {F : FTy → Type} [FloatOps F]

/-- The reference's arguments. -/
abbrev argRefs : List (Ref sig .tc) := [main_arg0, main_arg1, main_arg2, main_arg3, main_arg4, main_arg5, main_arg6, main_arg7, main_arg8, main_arg9, main_arg10, main_arg11]

theorem hostOps0_keeps (V : Valuation τ sig (Elt F)) {r : Ref sig .tc} (hr : r ∈ argRefs) :
    after hostOps0 V (Proc.devRef .tc r) = V (Proc.devRef .tc r) :=
  after_of_writes_sub (W := [main_v0, main_v1, main_v2, main_cst, main_v3, main_v4, main_cst_0, main_v5, main_v6, main_cst_1, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33]) _ V (forall_writes_sub_of_map rfl)
    (by revert r; decide)

theorem hostOps0_1_keeps (V : Valuation τ sig (Elt F)) {r : Ref sig .tc} (hr : r ∈ argRefs) :
    after hostOps0_1 V (Proc.devRef .tc r) = V (Proc.devRef .tc r) :=
  after_of_writes_sub (W := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v34]) _ V (forall_writes_sub_of_map rfl)
    (by revert r; decide)

theorem hostOps0_2_keeps (V : Valuation τ sig (Elt F)) {r : Ref sig .tc} (hr : r ∈ argRefs) :
    after hostOps0_2 V (Proc.devRef .tc r) = V (Proc.devRef .tc r) :=
  after_of_writes_sub (W := [main_cst_2, main_v35, main_v36, main_v37, main_cst_3, main_v38, main_v39, main_v40, main_v41, main_v42, main_c, main_v43]) _ V (forall_writes_sub_of_map rfl)
    (by revert r; decide)

theorem hostOps0_3_keeps (V : Valuation τ sig (Elt F)) {r : Ref sig .tc} (hr : r ∈ argRefs) :
    after hostOps0_3 V (Proc.devRef .tc r) = V (Proc.devRef .tc r) :=
  after_of_writes_sub (W := [main_call1_v0, main_call1_c, main_call1_v1, main_call1_v2, main_call1_v3, main_call1_v4, main_call1_c_0, main_call1_v5, main_v44]) _ V (forall_writes_sub_of_map rfl)
    (by revert r; decide)

theorem hostOps0_4_keeps (V : Valuation τ sig (Elt F)) {r : Ref sig .tc} (hr : r ∈ argRefs) :
    after hostOps0_4 V (Proc.devRef .tc r) = V (Proc.devRef .tc r) :=
  after_of_writes_sub (W := [main_v45, main_cst_4, main_v46, main_v47, main_v48, main_v49, main_v50, main_v51, main_v52, main_v53, main_v54, main_cst_5, main_v55, main_c_6, main_v56_0, main_v56_1, main_v56_2, main_v56_3, main_v56_4, main_v56_5, main_v56_6, main_v56_7]) _ V (forall_writes_sub_of_map rfl)
    (by revert r; decide)

theorem hostOps0_5_keeps (V : Valuation τ sig (Elt F)) {r : Ref sig .tc} (hr : r ∈ argRefs) :
    after hostOps0_5 V (Proc.devRef .tc r) = V (Proc.devRef .tc r) :=
  after_of_writes_sub (W := [main_v57, main_v58, main_v59, main_v60, main_v61, main_v62, main_cst_7, main_v63, main_v64, main_cst_8, main_v65, main_v66, main_cst_9, main_v67, main_v68, main_v69, main_v70, main_v71, main_v72, main_v73, main_v74]) _ V (forall_writes_sub_of_map rfl)
    (by revert r; decide)

theorem hostOps0_6_keeps (V : Valuation τ sig (Elt F)) {r : Ref sig .tc} (hr : r ∈ argRefs) :
    after hostOps0_6 V (Proc.devRef .tc r) = V (Proc.devRef .tc r) :=
  after_of_writes_sub (W := [main_call10_v0, main_call10_v1, main_call10_cst, main_call10_v2, main_call10_v3, main_call10_cst_0, main_call10_v4, main_call10_v5, main_v75]) _ V (forall_writes_sub_of_map rfl)
    (by revert r; decide)

theorem hostOps0_7_keeps (V : Valuation τ sig (Elt F)) {r : Ref sig .tc} (hr : r ∈ argRefs) :
    after hostOps0_7 V (Proc.devRef .tc r) = V (Proc.devRef .tc r) :=
  after_of_writes_sub (W := [main_v76, main_v77, main_v78, main_c_10]) _ V (forall_writes_sub_of_map rfl)
    (by revert r; decide)

theorem hostOps0_8_keeps (V : Valuation τ sig (Elt F)) {r : Ref sig .tc} (hr : r ∈ argRefs) :
    after hostOps0_8 V (Proc.devRef .tc r) = V (Proc.devRef .tc r) :=
  after_of_writes_sub (W := [main_call11_v0, main_v79]) _ V (forall_writes_sub_of_map rfl)
    (by revert r; decide)

theorem hostOps0_9_keeps (V : Valuation τ sig (Elt F)) {r : Ref sig .tc} (hr : r ∈ argRefs) :
    after hostOps0_9 V (Proc.devRef .tc r) = V (Proc.devRef .tc r) :=
  after_of_writes_sub (W := [main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119]) _ V (forall_writes_sub_of_map rfl)
    (by revert r; decide)

theorem while0Ops0_keeps (V : Valuation τ sig (Elt F)) {r : Ref sig .tc} (hr : r ∈ argRefs) :
    after while0Ops0 V (Proc.devRef .tc r) = V (Proc.devRef .tc r) :=
  after_of_writes_sub (W := [main_while0b_call2_c, main_while0b_call2_c_0, main_while0b_call2_c_1, main_while0b_call2_c_2, main_while0b_call2_v0, main_while0b_v120]) _ V (forall_writes_sub_of_map rfl)
    (by revert r; decide)

theorem while0Ops0_1_keeps (V : Valuation τ sig (Elt F)) {r : Ref sig .tc} (hr : r ∈ argRefs) :
    after while0Ops0_1 V (Proc.devRef .tc r) = V (Proc.devRef .tc r) :=
  after_of_writes_sub (W := [main_while0b_call3_c, main_while0b_call3_c_0, main_while0b_call3_c_1, main_while0b_call3_c_2, main_while0b_call3_v0, main_while0b_v121]) _ V (forall_writes_sub_of_map rfl)
    (by revert r; decide)

theorem while0Ops0_2_keeps (V : Valuation τ sig (Elt F)) {r : Ref sig .tc} (hr : r ∈ argRefs) :
    after while0Ops0_2 V (Proc.devRef .tc r) = V (Proc.devRef .tc r) :=
  after_of_writes_sub (W := [main_while0b_call4_c, main_while0b_call4_c_0, main_while0b_call4_c_1, main_while0b_call4_c_2, main_while0b_call4_v0, main_while0b_v122]) _ V (forall_writes_sub_of_map rfl)
    (by revert r; decide)

theorem while0Ops0_3_keeps (V : Valuation τ sig (Elt F)) {r : Ref sig .tc} (hr : r ∈ argRefs) :
    after while0Ops0_3 V (Proc.devRef .tc r) = V (Proc.devRef .tc r) :=
  after_of_writes_sub (W := [main_while0b_call5_c, main_while0b_call5_c_0, main_while0b_call5_c_1, main_while0b_call5_c_2, main_while0b_call5_v0, main_while0b_v123]) _ V (forall_writes_sub_of_map rfl)
    (by revert r; decide)

theorem while0Ops0_4_keeps (V : Valuation τ sig (Elt F)) {r : Ref sig .tc} (hr : r ∈ argRefs) :
    after while0Ops0_4 V (Proc.devRef .tc r) = V (Proc.devRef .tc r) :=
  after_of_writes_sub (W := [main_while0b_call6_call0_cst, main_while0b_call6_call0_v0, main_while0b_v124]) _ V (forall_writes_sub_of_map rfl)
    (by revert r; decide)

theorem while0Ops0_5_keeps (V : Valuation τ sig (Elt F)) {r : Ref sig .tc} (hr : r ∈ argRefs) :
    after while0Ops0_5 V (Proc.devRef .tc r) = V (Proc.devRef .tc r) :=
  after_of_writes_sub (W := [main_while0b_v125, main_while0b_v126, main_while0b_v127, main_while0b_v128, main_while0b_v129, main_while0b_cst_18]) _ V (forall_writes_sub_of_map rfl)
    (by revert r; decide)

theorem while0Ops0_6_keeps (V : Valuation τ sig (Elt F)) {r : Ref sig .tc} (hr : r ∈ argRefs) :
    after while0Ops0_6 V (Proc.devRef .tc r) = V (Proc.devRef .tc r) :=
  after_of_writes_sub (W := [main_while0b_call7_v0, main_while0b_call7_v1, main_while0b_call7_v2, main_while0b_v130]) _ V (forall_writes_sub_of_map rfl)
    (by revert r; decide)

theorem while0Ops0_7_keeps (V : Valuation τ sig (Elt F)) {r : Ref sig .tc} (hr : r ∈ argRefs) :
    after while0Ops0_7 V (Proc.devRef .tc r) = V (Proc.devRef .tc r) :=
  after_of_writes_sub (W := [main_while0b_v131, main_while0b_cst_19]) _ V (forall_writes_sub_of_map rfl)
    (by revert r; decide)

theorem while0Ops0_8_keeps (V : Valuation τ sig (Elt F)) {r : Ref sig .tc} (hr : r ∈ argRefs) :
    after while0Ops0_8 V (Proc.devRef .tc r) = V (Proc.devRef .tc r) :=
  after_of_writes_sub (W := [main_while0b_call8_v0, main_while0b_call8_v1, main_while0b_call8_v2, main_while0b_v132]) _ V (forall_writes_sub_of_map rfl)
    (by revert r; decide)

theorem while0Ops0_9_keeps (V : Valuation τ sig (Elt F)) {r : Ref sig .tc} (hr : r ∈ argRefs) :
    after while0Ops0_9 V (Proc.devRef .tc r) = V (Proc.devRef .tc r) :=
  after_of_writes_sub (W := [main_while0b_v133, main_while0b_v134, main_while0b_v135, main_while0b_v136, main_while0b_v137, main_while0b_v138, main_while0b_cst_20, main_while0b_v139, main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157]) _ V (forall_writes_sub_of_map rfl)
    (by revert r; decide)

theorem while0Ops0_10_keeps (V : Valuation τ sig (Elt F)) {r : Ref sig .tc} (hr : r ∈ argRefs) :
    after while0Ops0_10 V (Proc.devRef .tc r) = V (Proc.devRef .tc r) :=
  after_of_writes_sub (W := [main_while0b_call9_v0, main_while0b_call9_c, main_while0b_call9_c_0, main_while0b_call9_c_1, main_while0b_call9_c_2, main_while0b_v158]) _ V (forall_writes_sub_of_map rfl)
    (by revert r; decide)

theorem while0Ops0_11_keeps (V : Valuation τ sig (Elt F)) {r : Ref sig .tc} (hr : r ∈ argRefs) :
    after while0Ops0_11 V (Proc.devRef .tc r) = V (Proc.devRef .tc r) :=
  after_of_writes_sub (W := [main_while0b_c_21, main_while0b_v159, main_v56_5, main_v56_6, main_v56_7]) _ V (forall_writes_sub_of_map rfl)
    (by revert r; decide)

theorem condOps_keeps (V : Valuation τ sig (Elt F)) {r : Ref sig .tc} (hr : r ∈ argRefs) :
    after condOps V (Proc.devRef .tc r) = V (Proc.devRef .tc r) :=
  after_of_writes_sub (W := condOps_W) _ V condOps_writes (by revert r; decide)

theorem preI_keeps (V : Valuation τ sig (Elt F)) {r : Ref sig .tc} (hr : r ∈ argRefs) :
    afterL preI V (Proc.devRef .tc r) = V (Proc.devRef .tc r) := by
  simp only [preI, afterL_cons, afterL_nil]
  rw [hostOps0_4_keeps _ hr, hostOps0_3_keeps _ hr, hostOps0_2_keeps _ hr, hostOps0_1_keeps _ hr, hostOps0_keeps _ hr]

theorem postI_keeps (V : Valuation τ sig (Elt F)) {r : Ref sig .tc} (hr : r ∈ argRefs) :
    afterL postI V (Proc.devRef .tc r) = V (Proc.devRef .tc r) := by
  simp only [postI, afterL_cons, afterL_nil]
  rw [hostOps0_9_keeps _ hr, hostOps0_8_keeps _ hr, hostOps0_7_keeps _ hr, hostOps0_6_keeps _ hr, hostOps0_5_keeps _ hr]

theorem bodyI_keeps (V : Valuation τ sig (Elt F)) {r : Ref sig .tc} (hr : r ∈ argRefs) :
    afterL bodyI V (Proc.devRef .tc r) = V (Proc.devRef .tc r) := by
  simp only [bodyI, afterL_cons, afterL_nil]
  rw [while0Ops0_11_keeps _ hr, while0Ops0_10_keeps _ hr, while0Ops0_9_keeps _ hr, while0Ops0_8_keeps _ hr, while0Ops0_7_keeps _ hr, while0Ops0_6_keeps _ hr, while0Ops0_5_keeps _ hr, while0Ops0_4_keeps _ hr, while0Ops0_3_keeps _ hr, while0Ops0_2_keeps _ hr, while0Ops0_1_keeps _ hr, while0Ops0_keeps _ hr]

variable (m : (ℓ : Loc nD τ sig) → Buf (Elt F) ℓ) (ρ : Dev nD → PrngReg)

theorem atK_keeps (c : Dev nD) {r : Ref sig .tc} (hr : r ∈ argRefs) :
    ∀ k, atK m k c (Proc.devRef .tc r) = m ((c.tc : Thread nD τ).loc r)
  | 0 => preI_keeps _ hr
  | k + 1 => by
    show afterL bodyI (after condOps (atK m k c)) _ = _
    rw [bodyI_keeps _ hr, condOps_keeps _ hr, atK_keeps c hr k]

theorem final_keeps (c : Dev nD) {r : Ref sig .tc} (hr : r ∈ argRefs) :
    finalContents condOps preI bodyI postI 128 m c (Proc.devRef .tc r) = m ((c.tc : Thread nD τ).loc r) := by
  unfold finalContents
  rw [postI_keeps _ hr, condOps_keeps _ hr]
  exact atK_keeps m c hr 128

/-- Every execution of the reference ends with its arguments as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h c main_arg0 (by decide)).trans (final_keeps m c (by decide)),
    (h c main_arg1 (by decide)).trans (final_keeps m c (by decide)),
    (h c main_arg2 (by decide)).trans (final_keeps m c (by decide)),
    (h c main_arg3 (by decide)).trans (final_keeps m c (by decide)),
    (h c main_arg4 (by decide)).trans (final_keeps m c (by decide)),
    (h c main_arg5 (by decide)).trans (final_keeps m c (by decide)),
    (h c main_arg6 (by decide)).trans (final_keeps m c (by decide)),
    (h c main_arg7 (by decide)).trans (final_keeps m c (by decide)),
    (h c main_arg8 (by decide)).trans (final_keeps m c (by decide)),
    (h c main_arg9 (by decide)).trans (final_keeps m c (by decide)),
    (h c main_arg10 (by decide)).trans (final_keeps m c (by decide)),
    (h c main_arg11 (by decide)).trans (final_keeps m c (by decide))⟩, Idealize.ShloMosaic.sem_eq_zero_of_no_sems (by decide) r.2⟩) (run_fold m ρ)

end Cert.Reference5Ideal.Mix

end
-- ==== Proof.MixZeroCast.lean ====
/- The first token mixer's call prepares the channel mixer's four weights: the arrays it leaves, the reference's, and the claim that they
   are the same. Nothing is said of the stream here. -/
module

public import proofs.«01_k».proof.Defs
public import proofs.«01_k».proof.Proof.MixCast
public import proofs.«01_k».proof.Proof.MixZeroFrame
public import proofs.«01_k».proof.Proof.MixZeroRefFrame
public import Idealize.ShloMosaic.Lib.Pipeline.ValueKit
public import Idealize.ShloMosaic.Lib.Claim

@[expose] public section

set_option maxRecDepth 16384

noncomputable section

namespace Cert.Kernel5Ideal.Mix

open Cert.Kernel5Ideal Cert.Kernel5Ideal.Gen Idealize.ShloMosaic Idealize.ShloMosaic.TcCoe Idealize.ShloMosaic.Tactic Idealize.SL.Sem

/-- The block of the gate and up weights. -/
def blockUp (x : Vec Ideal S1x32x5632 .f32) : Vec Ideal S32x5632 .bf16 := k0_pay72 x

theorem blockUp_apply (x : Vec Ideal S1x32x5632 .f32) (i : Fin 32) (k : Fin 5632) : blockUp x (ix2 i k) = x (ix3 0 i k) := by
  unfold blockUp k0_pay72; pointwise

/-- The block of the down weight. -/
def blockDown (x : Vec Ideal S1x176x1024 .f32) : Vec Ideal S176x1024 .bf16 := k0_pay73 x

theorem blockDown_apply (x : Vec Ideal S1x176x1024 .f32) (i : Fin 176) (k : Fin 1024) : blockDown x (ix2 i k) = x (ix3 0 i k) := by
  unfold blockDown k0_pay73; pointwise

/-- The block of the per-layer gate weight. -/
def blockGate (x : Vec Ideal S1x32x1024 .f32) : Vec Ideal S32x1024 .bf16 := k0_pay74 x

theorem blockGate_apply (x : Vec Ideal S1x32x1024 .f32) (i : Fin 32) (k : Fin 1024) : blockGate x (ix2 i k) = x (ix3 0 i k) := by
  unfold blockGate k0_pay74; pointwise

/-- The block of the per-layer projection weight. -/
def blockProj (x : Vec Ideal S1x16x1024 .f32) : Vec Ideal S16x1024 .bf16 := k0_pay75 x

theorem blockProj_apply (x : Vec Ideal S1x16x1024 .f32) (i : Fin 16) (k : Fin 1024) : blockProj x (ix2 i k) = x (ix3 0 i k) := by
  unfold blockProj k0_pay75; pointwise

variable (m : (ℓ : Loc nD τ sig) → Buf (Elt Ideal) ℓ) (c : Dev nD)

/-- Layer 0's prepared gate and up weights. -/
def resultUp : FVec Ideal S1024x5632 .bf16 := fun y =>
  (m ((c.tc : Thread nD τ).loc main_arg8) : FVec Ideal S2x1024x5632 .f32) (ix3 0 ⟨(y 0).val, (y 0).isLt⟩ ⟨(y 1).val, (y 1).isLt⟩)

/-- Layer 0's prepared down weight. -/
def resultDown : FVec Ideal S2816x1024 .bf16 := fun y =>
  (m ((c.tc : Thread nD τ).loc main_arg9) : FVec Ideal S2x2816x1024 .f32) (ix3 0 ⟨(y 0).val, (y 0).isLt⟩ ⟨(y 1).val, (y 1).isLt⟩)

/-- Layer 0's prepared per-layer gate weight. -/
def resultGate : FVec Ideal S1024x1024 .bf16 := fun y =>
  (m ((c.tc : Thread nD τ).loc main_arg10) : FVec Ideal S2x1024x1024 .f32) (ix3 0 ⟨(y 0).val, (y 0).isLt⟩ ⟨(y 1).val, (y 1).isLt⟩)

/-- Layer 0's prepared per-layer projection weight. -/
def resultProj : FVec Ideal S256x1024 .bf16 := fun y =>
  (m ((c.tc : Thread nD τ).loc main_arg11) : FVec Ideal S2x256x1024 .f32) (ix3 0 ⟨(y 0).val, (y 0).isLt⟩ ⟨(y 1).val, (y 1).isLt⟩)

/-- Where each weight's block lies at each point. -/
theorem idxW (t : Fin cfg0.N) : win0_8.index t = ![0, t.val, 0] ∧ win0_13.index t = ![t.val, 0] ∧ win0_9.index t = ![0, t.val / 2, 0] ∧ win0_14.index t = ![t.val / 2, 0] ∧ win0_10.index t = ![0, t.val, 0] ∧ win0_15.index t = ![t.val, 0] ∧ win0_11.index t = ![0, t.val / 2, 0] ∧ win0_16.index t = ![t.val / 2, 0] :=
  (by decide +kernel : ∀ t : Fin grid0.N, win0_8.index t = ![0, t.val, 0] ∧ win0_13.index t = ![t.val, 0] ∧ win0_9.index t = ![0, t.val / 2, 0] ∧ win0_14.index t = ![t.val / 2, 0] ∧ win0_10.index t = ![0, t.val, 0] ∧ win0_15.index t = ![t.val, 0] ∧ win0_11.index t = ![0, t.val / 2, 0] ∧ win0_16.index t = ![t.val / 2, 0]) t

theorem blkUp (t : Fin cfg0.N) (r : Fin 32) (i : Fin 1024) (k : Fin 5632) (h : i.val = 32 * t.val + r.val) :
    (iblk m c 8 t : FVec Ideal S1x32x5632 .f32) (ix3 0 r k) = (m ((c.tc : Thread nD τ).loc main_arg8) : FVec Ideal S2x1024x5632 .f32) (ix3 0 i k) := by
  have e : (iblk m c 8 t : FVec Ideal S1x32x5632 .f32) (ix3 0 r k) = (V m c main_arg8 : FVec Ideal S2x1024x5632 .f32) (ix3 0 i k) := by
    blk_ext [iblk, V, idxW t]
  rw [e]
  exact congrFun (V_main_arg8 m c) _

/-- The prepared gate and up weights's array after the run. -/
theorem arrUp : (dats m 0 c).arrAt 13 cfg0.N = resultUp m c := by
  refine (dats m 0 c).arrAt_eq_of_covers 13 _ (by decide +kernel) fun t hf y => ?_
  rw [after0_13]
  have ht : t.val < 32 := t.isLt
  have hy : (y 0).val < 32 := (y 0).isLt
  have hy1 : (y 1).val < 5632 := (y 1).isLt
  have q0 : (((cfg0.win 13).blk t).view.emb y 0).val = 32 * t.val + (y 0).val := by
    blk_simp [idxW t]; omega
  have q1 : (((cfg0.win 13).blk t).view.emb y 1).val = (y 1).val := by
    blk_simp [idxW t]
  show blockUp _ y = resultUp m c (((cfg0.win 13).blk t).view.emb y)
  have hyy : y = ix2 ⟨(y 0).val, hy⟩ ⟨(y 1).val, hy1⟩ := funext fun a => by match a with | ⟨0, _⟩ => rfl | ⟨1, _⟩ => rfl
  refine (congrArg (blockUp _) hyy).trans ((blockUp_apply _ _ _).trans ?_)
  unfold resultUp
  simp only [q0, q1]
  exact blkUp m c t ⟨(y 0).val, hy⟩ ⟨32 * t.val + (y 0).val, by omega⟩ ⟨(y 1).val, hy1⟩ rfl

theorem blkDown (t : Fin cfg0.N) (r : Fin 176) (i : Fin 2816) (k : Fin 1024) (h : i.val = 176 * (t.val / 2) + r.val) :
    (iblk m c 9 t : FVec Ideal S1x176x1024 .f32) (ix3 0 r k) = (m ((c.tc : Thread nD τ).loc main_arg9) : FVec Ideal S2x2816x1024 .f32) (ix3 0 i k) := by
  have e : (iblk m c 9 t : FVec Ideal S1x176x1024 .f32) (ix3 0 r k) = (V m c main_arg9 : FVec Ideal S2x2816x1024 .f32) (ix3 0 i k) := by
    blk_ext [iblk, V, idxW t]
  rw [e]
  exact congrFun (V_main_arg9 m c) _

/-- The prepared down weight's array after the run. -/
theorem arrDown : (dats m 0 c).arrAt 14 cfg0.N = resultDown m c := by
  refine (dats m 0 c).arrAt_eq_of_covers 14 _ (by decide +kernel) fun t hf y => ?_
  rw [after0_14]
  have ht : t.val < 32 := t.isLt
  have hy : (y 0).val < 176 := (y 0).isLt
  have hy1 : (y 1).val < 1024 := (y 1).isLt
  have q0 : (((cfg0.win 14).blk t).view.emb y 0).val = 176 * (t.val / 2) + (y 0).val := by
    blk_simp [idxW t]; omega
  have q1 : (((cfg0.win 14).blk t).view.emb y 1).val = (y 1).val := by
    blk_simp [idxW t]
  show blockDown _ y = resultDown m c (((cfg0.win 14).blk t).view.emb y)
  have hyy : y = ix2 ⟨(y 0).val, hy⟩ ⟨(y 1).val, hy1⟩ := funext fun a => by match a with | ⟨0, _⟩ => rfl | ⟨1, _⟩ => rfl
  refine (congrArg (blockDown _) hyy).trans ((blockDown_apply _ _ _).trans ?_)
  unfold resultDown
  simp only [q0, q1]
  exact blkDown m c t ⟨(y 0).val, hy⟩ ⟨176 * (t.val / 2) + (y 0).val, by omega⟩ ⟨(y 1).val, hy1⟩ rfl

theorem blkGate (t : Fin cfg0.N) (r : Fin 32) (i : Fin 1024) (k : Fin 1024) (h : i.val = 32 * t.val + r.val) :
    (iblk m c 10 t : FVec Ideal S1x32x1024 .f32) (ix3 0 r k) = (m ((c.tc : Thread nD τ).loc main_arg10) : FVec Ideal S2x1024x1024 .f32) (ix3 0 i k) := by
  have e : (iblk m c 10 t : FVec Ideal S1x32x1024 .f32) (ix3 0 r k) = (V m c main_arg10 : FVec Ideal S2x1024x1024 .f32) (ix3 0 i k) := by
    blk_ext [iblk, V, idxW t]
  rw [e]
  exact congrFun (V_main_arg10 m c) _

/-- The prepared per-layer gate weight's array after the run. -/
theorem arrGate : (dats m 0 c).arrAt 15 cfg0.N = resultGate m c := by
  refine (dats m 0 c).arrAt_eq_of_covers 15 _ (by decide +kernel) fun t hf y => ?_
  rw [after0_15]
  have ht : t.val < 32 := t.isLt
  have hy : (y 0).val < 32 := (y 0).isLt
  have hy1 : (y 1).val < 1024 := (y 1).isLt
  have q0 : (((cfg0.win 15).blk t).view.emb y 0).val = 32 * t.val + (y 0).val := by
    blk_simp [idxW t]; omega
  have q1 : (((cfg0.win 15).blk t).view.emb y 1).val = (y 1).val := by
    blk_simp [idxW t]
  show blockGate _ y = resultGate m c (((cfg0.win 15).blk t).view.emb y)
  have hyy : y = ix2 ⟨(y 0).val, hy⟩ ⟨(y 1).val, hy1⟩ := funext fun a => by match a with | ⟨0, _⟩ => rfl | ⟨1, _⟩ => rfl
  refine (congrArg (blockGate _) hyy).trans ((blockGate_apply _ _ _).trans ?_)
  unfold resultGate
  simp only [q0, q1]
  exact blkGate m c t ⟨(y 0).val, hy⟩ ⟨32 * t.val + (y 0).val, by omega⟩ ⟨(y 1).val, hy1⟩ rfl

theorem blkProj (t : Fin cfg0.N) (r : Fin 16) (i : Fin 256) (k : Fin 1024) (h : i.val = 16 * (t.val / 2) + r.val) :
    (iblk m c 11 t : FVec Ideal S1x16x1024 .f32) (ix3 0 r k) = (m ((c.tc : Thread nD τ).loc main_arg11) : FVec Ideal S2x256x1024 .f32) (ix3 0 i k) := by
  have e : (iblk m c 11 t : FVec Ideal S1x16x1024 .f32) (ix3 0 r k) = (V m c main_arg11 : FVec Ideal S2x256x1024 .f32) (ix3 0 i k) := by
    blk_ext [iblk, V, idxW t]
  rw [e]
  exact congrFun (V_main_arg11 m c) _

/-- The prepared per-layer projection weight's array after the run. -/
theorem arrProj : (dats m 0 c).arrAt 16 cfg0.N = resultProj m c := by
  refine (dats m 0 c).arrAt_eq_of_covers 16 _ (by decide +kernel) fun t hf y => ?_
  rw [after0_16]
  have ht : t.val < 32 := t.isLt
  have hy : (y 0).val < 16 := (y 0).isLt
  have hy1 : (y 1).val < 1024 := (y 1).isLt
  have q0 : (((cfg0.win 16).blk t).view.emb y 0).val = 16 * (t.val / 2) + (y 0).val := by
    blk_simp [idxW t]; omega
  have q1 : (((cfg0.win 16).blk t).view.emb y 1).val = (y 1).val := by
    blk_simp [idxW t]
  show blockProj _ y = resultProj m c (((cfg0.win 16).blk t).view.emb y)
  have hyy : y = ix2 ⟨(y 0).val, hy⟩ ⟨(y 1).val, hy1⟩ := funext fun a => by match a with | ⟨0, _⟩ => rfl | ⟨1, _⟩ => rfl
  refine (congrArg (blockProj _) hyy).trans ((blockProj_apply _ _ _).trans ?_)
  unfold resultProj
  simp only [q0, q1]
  exact blkProj m c t ⟨(y 0).val, hy⟩ ⟨16 * (t.val / 2) + (y 0).val, by omega⟩ ⟨(y 1).val, hy1⟩ rfl

end Cert.Kernel5Ideal.Mix

namespace Cert.Reference5Ideal.Mix

open Cert.Reference5Ideal Cert.Reference5Ideal.Gen Cert.Reference5Ideal.Value
open Idealize.ShloMosaic Idealize.ShloMosaic.TcCoe Idealize.ShloMosaic.StableHlo
open Idealize.SL.Sem

/-- Layer 0's gate and up weights, cast. -/
def opUp (w : FVec Ideal S2x1024x5632 .f32) : FVec Ideal S1024x5632 .bf16 :=
  truncf .bf16 (shapeCast _ (extractStridedSlice S1x1024x5632 ![0, 0, 0] w slices_S2x1024x5632_S1x1024x5632_0_0_0) shapeCasts_S1x1024x5632_S1024x5632) bitsLt_bf16_f32

theorem opUp_apply (w : FVec Ideal S2x1024x5632 .f32) (i : Fin 1024) (k : Fin 5632) : opUp w (ix2 i k) = w (ix3 0 i k) := by
  unfold opUp; pointwise

theorem afterUp (V : Valuation τ sig (Elt Ideal)) :
    after hostOps0_9 V (Proc.devRef .tc main_v110) = opUp (V (Proc.devRef .tc main_arg8)) := by
  after_results <;> rfl

theorem finalUp (m : (ℓ : Loc nD τ sig) → Buf (Elt Ideal) ℓ) (c : Dev nD) :
    finalContents condOps preI bodyI postI 128 m c (Proc.devRef .tc main_v110) = opUp (m ((c.tc : Thread nD τ).loc main_arg8)) := by
  have hr : main_arg8 ∈ argRefs := by decide
  unfold finalContents
  simp only [postI, afterL_cons, afterL_nil]
  rw [afterUp, hostOps0_8_keeps _ hr, hostOps0_7_keeps _ hr, hostOps0_6_keeps _ hr, hostOps0_5_keeps _ hr, condOps_keeps _ hr]
  exact congrArg opUp (atK_keeps m c hr 128)

/-- Layer 0's down weight, cast. -/
def opDown (w : FVec Ideal S2x2816x1024 .f32) : FVec Ideal S2816x1024 .bf16 :=
  truncf .bf16 (shapeCast _ (extractStridedSlice S1x2816x1024 ![0, 0, 0] w slices_S2x2816x1024_S1x2816x1024_0_0_0) shapeCasts_S1x2816x1024_S2816x1024) bitsLt_bf16_f32

theorem opDown_apply (w : FVec Ideal S2x2816x1024 .f32) (i : Fin 2816) (k : Fin 1024) : opDown w (ix2 i k) = w (ix3 0 i k) := by
  unfold opDown; pointwise

theorem afterDown (V : Valuation τ sig (Elt Ideal)) :
    after hostOps0_9 V (Proc.devRef .tc main_v113) = opDown (V (Proc.devRef .tc main_arg9)) := by
  after_results <;> rfl

theorem finalDown (m : (ℓ : Loc nD τ sig) → Buf (Elt Ideal) ℓ) (c : Dev nD) :
    finalContents condOps preI bodyI postI 128 m c (Proc.devRef .tc main_v113) = opDown (m ((c.tc : Thread nD τ).loc main_arg9)) := by
  have hr : main_arg9 ∈ argRefs := by decide
  unfold finalContents
  simp only [postI, afterL_cons, afterL_nil]
  rw [afterDown, hostOps0_8_keeps _ hr, hostOps0_7_keeps _ hr, hostOps0_6_keeps _ hr, hostOps0_5_keeps _ hr, condOps_keeps _ hr]
  exact congrArg opDown (atK_keeps m c hr 128)

/-- Layer 0's per-layer gate weight, cast. -/
def opGate (w : FVec Ideal S2x1024x1024 .f32) : FVec Ideal S1024x1024 .bf16 :=
  truncf .bf16 (shapeCast _ (extractStridedSlice S1x1024x1024 ![0, 0, 0] w slices_S2x1024x1024_S1x1024x1024_0_0_0) shapeCasts_S1x1024x1024_S1024x1024) bitsLt_bf16_f32

theorem opGate_apply (w : FVec Ideal S2x1024x1024 .f32) (i : Fin 1024) (k : Fin 1024) : opGate w (ix2 i k) = w (ix3 0 i k) := by
  unfold opGate; pointwise

theorem afterGate (V : Valuation τ sig (Elt Ideal)) :
    after hostOps0_9 V (Proc.devRef .tc main_v116) = opGate (V (Proc.devRef .tc main_arg10)) := by
  after_results <;> rfl

theorem finalGate (m : (ℓ : Loc nD τ sig) → Buf (Elt Ideal) ℓ) (c : Dev nD) :
    finalContents condOps preI bodyI postI 128 m c (Proc.devRef .tc main_v116) = opGate (m ((c.tc : Thread nD τ).loc main_arg10)) := by
  have hr : main_arg10 ∈ argRefs := by decide
  unfold finalContents
  simp only [postI, afterL_cons, afterL_nil]
  rw [afterGate, hostOps0_8_keeps _ hr, hostOps0_7_keeps _ hr, hostOps0_6_keeps _ hr, hostOps0_5_keeps _ hr, condOps_keeps _ hr]
  exact congrArg opGate (atK_keeps m c hr 128)

/-- Layer 0's per-layer projection weight, cast. -/
def opProj (w : FVec Ideal S2x256x1024 .f32) : FVec Ideal S256x1024 .bf16 :=
  truncf .bf16 (shapeCast _ (extractStridedSlice S1x256x1024 ![0, 0, 0] w slices_S2x256x1024_S1x256x1024_0_0_0) shapeCasts_S1x256x1024_S256x1024) bitsLt_bf16_f32

theorem opProj_apply (w : FVec Ideal S2x256x1024 .f32) (i : Fin 256) (k : Fin 1024) : opProj w (ix2 i k) = w (ix3 0 i k) := by
  unfold opProj; pointwise

theorem afterProj (V : Valuation τ sig (Elt Ideal)) :
    after hostOps0_9 V (Proc.devRef .tc main_v119) = opProj (V (Proc.devRef .tc main_arg11)) := by
  after_results <;> rfl

theorem finalProj (m : (ℓ : Loc nD τ sig) → Buf (Elt Ideal) ℓ) (c : Dev nD) :
    finalContents condOps preI bodyI postI 128 m c (Proc.devRef .tc main_v119) = opProj (m ((c.tc : Thread nD τ).loc main_arg11)) := by
  have hr : main_arg11 ∈ argRefs := by decide
  unfold finalContents
  simp only [postI, afterL_cons, afterL_nil]
  rw [afterProj, hostOps0_8_keeps _ hr, hostOps0_7_keeps _ hr, hostOps0_6_keeps _ hr, hostOps0_5_keeps _ hr, condOps_keeps _ hr]
  exact congrArg opProj (atK_keeps m c hr 128)

end Cert.Reference5Ideal.Mix

namespace Cert.MixZeroCastClaim

open Idealize.ShloMosaic Idealize.ShloMosaic.TcCoe Idealize.SL.Sem

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- From memories agreeing on it, the reference's prepared gate and up weights is the kernel's. -/
theorem sameUp
    (h : m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) :
    (Cert.Reference5Ideal.Mix.opUp (m' ((c.tc : Thread Cert.Reference5Ideal.nD Cert.Reference5Ideal.τ).loc Cert.Reference5Ideal.main_arg8)) : FVec Ideal Cert.Kernel5Ideal.S1024x5632 .bf16) = Cert.Kernel5Ideal.Mix.resultUp m c := by
  funext y
  obtain ⟨n, k, rfl⟩ : ∃ (n : Fin 1024) (k : Fin 5632), y = ix2 n k := ⟨y 0, y 1, funext fun a => by match a with | ⟨0, _⟩ => rfl | ⟨1, _⟩ => rfl⟩
  refine (Cert.Reference5Ideal.Mix.opUp_apply _ n k).trans ?_
  rw [h]
  rfl

/-- From memories agreeing on it, the reference's prepared down weight is the kernel's. -/
theorem sameDown
    (h : m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) :
    (Cert.Reference5Ideal.Mix.opDown (m' ((c.tc : Thread Cert.Reference5Ideal.nD Cert.Reference5Ideal.τ).loc Cert.Reference5Ideal.main_arg9)) : FVec Ideal Cert.Kernel5Ideal.S2816x1024 .bf16) = Cert.Kernel5Ideal.Mix.resultDown m c := by
  funext y
  obtain ⟨n, k, rfl⟩ : ∃ (n : Fin 2816) (k : Fin 1024), y = ix2 n k := ⟨y 0, y 1, funext fun a => by match a with | ⟨0, _⟩ => rfl | ⟨1, _⟩ => rfl⟩
  refine (Cert.Reference5Ideal.Mix.opDown_apply _ n k).trans ?_
  rw [h]
  rfl

/-- From memories agreeing on it, the reference's prepared per-layer gate weight is the kernel's. -/
theorem sameGate
    (h : m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) :
    (Cert.Reference5Ideal.Mix.opGate (m' ((c.tc : Thread Cert.Reference5Ideal.nD Cert.Reference5Ideal.τ).loc Cert.Reference5Ideal.main_arg10)) : FVec Ideal Cert.Kernel5Ideal.S1024x1024 .bf16) = Cert.Kernel5Ideal.Mix.resultGate m c := by
  funext y
  obtain ⟨n, k, rfl⟩ : ∃ (n : Fin 1024) (k : Fin 1024), y = ix2 n k := ⟨y 0, y 1, funext fun a => by match a with | ⟨0, _⟩ => rfl | ⟨1, _⟩ => rfl⟩
  refine (Cert.Reference5Ideal.Mix.opGate_apply _ n k).trans ?_
  rw [h]
  rfl

/-- From memories agreeing on it, the reference's prepared per-layer projection weight is the kernel's. -/
theorem sameProj
    (h : m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) :
    (Cert.Reference5Ideal.Mix.opProj (m' ((c.tc : Thread Cert.Reference5Ideal.nD Cert.Reference5Ideal.τ).loc Cert.Reference5Ideal.main_arg11)) : FVec Ideal Cert.Kernel5Ideal.S256x1024 .bf16) = Cert.Kernel5Ideal.Mix.resultProj m c := by
  funext y
  obtain ⟨n, k, rfl⟩ : ∃ (n : Fin 256) (k : Fin 1024), y = ix2 n k := ⟨y 0, y 1, funext fun a => by match a with | ⟨0, _⟩ => rfl | ⟨1, _⟩ => rfl⟩
  refine (Cert.Reference5Ideal.Mix.opProj_apply _ n k).trans ?_
  rw [h]
  rfl

theorem algebraic : Cert.algebraic_Kernel5Ideal_Reference5Ideal_on_weights (hKernel5Ideal := Cert.Kernel5Ideal.Gen.facts) (hReference5Ideal := Cert.Reference5Ideal.Gen.facts) (hOn_weights := Cert.On_weights.facts) := by
  intro m g m' g' _ hag
  refine ⟨fun c => m ((c.tc : Thread Cert.Kernel5Ideal.nD Cert.Kernel5Ideal.τ).loc Cert.Kernel5Ideal.main_v16_0), fun c => Cert.Kernel5Ideal.Mix.resultUp m c,
    fun c => Cert.Kernel5Ideal.Mix.resultDown m c, fun c => Cert.Kernel5Ideal.Mix.resultGate m c, fun c => Cert.Kernel5Ideal.Mix.resultProj m c, ?_, ?_⟩
  · refine (θ_run Cert.Kernel5Ideal.defs _ _).mono (fun r h c => ?_) (Cert.Kernel5Ideal.Mix.run_main m g)
    exact ⟨fun i hi => absurd (show (0#1 : BitVec 1) = 1#1 from hi) (by decide),
      fun i _ => congrFun ((Cert.Kernel5Ideal.Mix.left m (h.1 c) 13).trans (Cert.Kernel5Ideal.Mix.arrUp m c)) i,
      fun i _ => congrFun ((Cert.Kernel5Ideal.Mix.left m (h.1 c) 14).trans (Cert.Kernel5Ideal.Mix.arrDown m c)) i,
      fun i _ => congrFun ((Cert.Kernel5Ideal.Mix.left m (h.1 c) 15).trans (Cert.Kernel5Ideal.Mix.arrGate m c)) i,
      fun i _ => congrFun ((Cert.Kernel5Ideal.Mix.left m (h.1 c) 16).trans (Cert.Kernel5Ideal.Mix.arrProj m c)) i,
      Cert.Kernel5Ideal.Mix.argsKept m (h.1 c)⟩
  · refine (θ_run Cert.Reference5Ideal.defs _ _).mono (fun r h c => ?_) (Cert.Reference5Ideal.Value.run_fold m' g')
    obtain ⟨h0, h1, h2, h3, h4, h5, h6, h7, h8, h9, h10, h11⟩ := hag c
    exact ⟨fun i hi => absurd (show (0#1 : BitVec 1) = 1#1 from hi) (by decide),
      fun i _ => congrFun (((h c Cert.Reference5Ideal.main_v110 (by decide)).trans (Cert.Reference5Ideal.Mix.finalUp m' c)).trans (sameUp m m' c h8)) i,
      fun i _ => congrFun (((h c Cert.Reference5Ideal.main_v113 (by decide)).trans (Cert.Reference5Ideal.Mix.finalDown m' c)).trans (sameDown m m' c h9)) i,
      fun i _ => congrFun (((h c Cert.Reference5Ideal.main_v116 (by decide)).trans (Cert.Reference5Ideal.Mix.finalGate m' c)).trans (sameGate m m' c h10)) i,
      fun i _ => congrFun (((h c Cert.Reference5Ideal.main_v119 (by decide)).trans (Cert.Reference5Ideal.Mix.finalProj m' c)).trans (sameProj m m' c h11)) i,
      (h c Cert.Reference5Ideal.main_arg0 (by decide)).trans (Cert.Reference5Ideal.Mix.final_keeps m' c (by decide)),
      (h c Cert.Reference5Ideal.main_arg1 (by decide)).trans (Cert.Reference5Ideal.Mix.final_keeps m' c (by decide)),
      (h c Cert.Reference5Ideal.main_arg2 (by decide)).trans (Cert.Reference5Ideal.Mix.final_keeps m' c (by decide)),
      (h c Cert.Reference5Ideal.main_arg3 (by decide)).trans (Cert.Reference5Ideal.Mix.final_keeps m' c (by decide)),
      (h c Cert.Reference5Ideal.main_arg4 (by decide)).trans (Cert.Reference5Ideal.Mix.final_keeps m' c (by decide)),
      (h c Cert.Reference5Ideal.main_arg5 (by decide)).trans (Cert.Reference5Ideal.Mix.final_keeps m' c (by decide)),
      (h c Cert.Reference5Ideal.main_arg6 (by decide)).trans (Cert.Reference5Ideal.Mix.final_keeps m' c (by decide)),
      (h c Cert.Reference5Ideal.main_arg7 (by decide)).trans (Cert.Reference5Ideal.Mix.final_keeps m' c (by decide)),
      (h c Cert.Reference5Ideal.main_arg8 (by decide)).trans (Cert.Reference5Ideal.Mix.final_keeps m' c (by decide)),
      (h c Cert.Reference5Ideal.main_arg9 (by decide)).trans (Cert.Reference5Ideal.Mix.final_keeps m' c (by decide)),
      (h c Cert.Reference5Ideal.main_arg10 (by decide)).trans (Cert.Reference5Ideal.Mix.final_keeps m' c (by decide)),
      (h c Cert.Reference5Ideal.main_arg11 (by decide)).trans (Cert.Reference5Ideal.Mix.final_keeps m' c (by decide))⟩

end Cert.MixZeroCastClaim

end
-- ==== Proof.lean ====
/- Both layers' token mixers' frames, and the four weights their calls prepare against the references'; the two layers' channel mixers' frames and
   their values against the references; the same of the first mixer's weight cast. -/
module

public import proofs.«01_k».proof.Defs
public import proofs.«01_k».proof.Proof.KFrame
public import proofs.«01_k».proof.Proof.MixRefFrame
public import proofs.«01_k».proof.Proof.Gen.Kernel2.Frame
public import proofs.«01_k».proof.Proof.Gen.Kernel2Ideal.Frame
public import proofs.«01_k».proof.Proof.FfnClaim
public import proofs.«01_k».proof.Proof.Gen.Kernel3.Frame
public import proofs.«01_k».proof.Proof.Gen.Kernel3Ideal.Frame
public import proofs.«01_k».proof.Proof.Ffn0Claim
public import proofs.«01_k».proof.Proof.Gen.Kernel4.Frame
public import proofs.«01_k».proof.Proof.Gen.Kernel4Ideal.Frame
public import proofs.«01_k».proof.Proof.CastClaim
public import proofs.«01_k».proof.Proof.MixCast
public import proofs.«01_k».proof.Proof.KFrameZero
public import proofs.«01_k».proof.Proof.MixZeroCast
public import Idealize.ShloMosaic.Adequacy
public import Idealize.ShloMosaic.Init

@[expose] public section

noncomputable section

namespace Cert.Proof

open Idealize.ShloMosaic Idealize.SL.Sem

theorem frame_kernelIdeal : Cert.quiescent_KernelIdeal := fun m ρ _ => Cert.KernelIdeal.Mix.frame m ρ

theorem frame_referenceIdeal : Cert.quiescent_ReferenceIdeal := fun m ρ _ => Cert.ReferenceIdeal.Mix.frame m ρ

theorem frame_reference2Ideal : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

theorem frame_reference3Ideal : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run m ρ)

theorem frame_reference4Ideal : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run m ρ)

theorem frame_kernel5Ideal : Cert.quiescent_Kernel5Ideal := fun m ρ _ => Cert.Kernel5Ideal.Mix.frame m ρ

theorem frame_reference5Ideal : Cert.quiescent_Reference5Ideal := fun m ρ _ => Cert.Reference5Ideal.Mix.frame m ρ

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.On_weights.facts,
    Cert.KFrame.frame, frame_kernelIdeal, frame_referenceIdeal,
    fun m ρ _ => Cert.Kernel2.Gen.frame m ρ, fun m ρ _ => Cert.Kernel2Ideal.Gen.frame m ρ,
    frame_reference2Ideal,
    fun m ρ _ => Cert.Kernel3.Gen.frame m ρ, fun m ρ _ => Cert.Kernel3Ideal.Gen.frame m ρ,
    frame_reference3Ideal,
    fun m ρ _ => Cert.Kernel4.Gen.frame m ρ, fun m ρ _ => Cert.Kernel4Ideal.Gen.frame m ρ,
    frame_reference4Ideal, Cert.KFrameZero.frame, frame_kernel5Ideal, frame_reference5Ideal, trivial, Cert.MixCastClaim.algebraic, trivial, Cert.FfnClaim.algebraic, trivial, Cert.Ffn0Claim.algebraic,
    trivial, Cert.CastClaim.algebraic, trivial, Cert.MixZeroCastClaim.algebraic⟩

end Cert.Proof

end
